-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Mixer_MixerIdeal : Prop :=
  IdealRules.named_const.Statement Cert.MixerIdeal.κ "log_gamma0" .f32 0xBD020AEC#32 ((Real.log (31 / 32) : ℝ) : EReal)
  ∧ IdealRules.named_const.Statement Cert.MixerIdeal.κ "log_gamma1" .f32 0xBC8102B3#32 ((Real.log (63 / 64) : ℝ) : EReal)
  ∧ IdealRules.named_const.Statement Cert.MixerIdeal.κ "log_gamma2" .f32 0xBC0080AC#32 ((Real.log (127 / 128) : ℝ) : EReal)
  ∧ IdealRules.named_const.Statement Cert.MixerIdeal.κ "log_gamma3" .f32 0xBB80402B#32 ((Real.log (255 / 256) : ℝ) : EReal)
  ∧ IdealRules.named_const.Statement Cert.MixerIdeal.κ "freq" .f32 0xBE135D8E#32 (((-1 / 64) * (Real.log 10000) : ℝ) : EReal)
  ∧ IdealRules.named_const.Statement Cert.MixerIdeal.κ "decay0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.MixerIdeal.κ "decay1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.MixerIdeal.κ "decay2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.MixerIdeal.κ "decay3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v51) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v19) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hMixer : Cert.Mixer.Facts) (hMixerIdeal : Cert.MixerIdeal.Facts) (hMixerRefIdeal : Cert.MixerRefIdeal.Facts) (hMlp : Cert.Mlp.Facts) (hMlpIdeal : Cert.MlpIdeal.Facts) (hMlpRefIdeal : Cert.MlpRefIdeal.Facts) (hAda : Cert.Ada.Facts) (hAdaIdeal : Cert.AdaIdeal.Facts) (hAdaRefIdeal : Cert.AdaRefIdeal.Facts),
    quiescent_Mixer (hMixer := hMixer)
    ∧ quiescent_MixerIdeal (hMixerIdeal := hMixerIdeal)
    ∧ quiescent_MixerRefIdeal (hMixerRefIdeal := hMixerRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Ada (hAda := hAda)
    ∧ quiescent_AdaIdeal (hAdaIdeal := hAdaIdeal)
    ∧ quiescent_AdaRefIdeal (hAdaRefIdeal := hAdaRefIdeal)
    ∧ preserves_Mixer_MixerIdeal
    ∧ preserves_Mlp_MlpIdeal
    ∧ algebraic_MlpIdeal_MlpRefIdeal (hMlpIdeal := hMlpIdeal) (hMlpRefIdeal := hMlpRefIdeal)
    ∧ preserves_Ada_AdaIdeal
    ∧ algebraic_AdaIdeal_AdaRefIdeal (hAdaIdeal := hAdaIdeal) (hAdaRefIdeal := hAdaRefIdeal)
-- ==== Mixer.lean ====
abbrev S32x2048x1024 : Shape := ⟨3, ![32, 2048, 1024]⟩
abbrev S6x32x1024 : Shape := ⟨3, ![6, 32, 1024]⟩
abbrev S32x2048 : Shape := ⟨2, ![32, 2048]⟩
abbrev S1x1024 : Shape := ⟨2, ![1, 1024]⟩
abbrev S1x1024x3584 : Shape := ⟨3, ![1, 1024, 3584]⟩
abbrev S1x3x512 : Shape := ⟨3, ![1, 3, 512]⟩
abbrev S1x1024x1024 : Shape := ⟨3, ![1, 1024, 1024]⟩
abbrev S32x16x128 : Shape := ⟨3, ![32, 16, 128]⟩
abbrev S1024x3584 : Shape := ⟨2, ![1024, 3584]⟩
abbrev S3x512 : Shape := ⟨2, ![3, 512]⟩
abbrev S1024x1024 : Shape := ⟨2, ![1024, 1024]⟩
abbrev S2x1024x1024 : Shape := ⟨3, ![2, 1024, 1024]⟩
abbrev S2 : Shape := ⟨1, ![2]⟩
abbrev S4x64x3584 : Shape := ⟨3, ![4, 64, 3584]⟩
abbrev S4x256x1024 : Shape := ⟨3, ![4, 256, 1024]⟩
abbrev S4 : Shape := ⟨1, ![4]⟩
abbrev S4x128x128 : Shape := ⟨3, ![4, 128, 128]⟩
abbrev S8x512 : Shape := ⟨2, ![8, 512]⟩
abbrev S4x256x256 : Shape := ⟨3, ![4, 256, 256]⟩
abbrev S4x256x128 : Shape := ⟨3, ![4, 256, 128]⟩
abbrev S256x128 : Shape := ⟨2, ![256, 128]⟩
abbrev S1 : Shape := ⟨1, ![1]⟩
abbrev S_ : Shape := ⟨0, ![]⟩
abbrev S1x64x3584 : Shape := ⟨3, ![1, 64, 3584]⟩
abbrev S64x3584 : Shape := ⟨2, ![64, 3584]⟩
abbrev S1x256x1024 : Shape := ⟨3, ![1, 256, 1024]⟩
abbrev S256x1024 : Shape := ⟨2, ![256, 1024]⟩
abbrev S256x256 : Shape := ⟨2, ![256, 256]⟩
abbrev S1x256x256 : Shape := ⟨3, ![1, 256, 256]⟩
abbrev S1x256x128 : Shape := ⟨3, ![1, 256, 128]⟩
abbrev S1x128 : Shape := ⟨2, ![1, 128]⟩
abbrev S1x1x1024 : Shape := ⟨3, ![1, 1, 1024]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩
abbrev S1x512 : Shape := ⟨2, ![1, 512]⟩
abbrev S32x512 : Shape := ⟨2, ![32, 512]⟩
abbrev S40x512 : Shape := ⟨2, ![40, 512]⟩
abbrev S1x16x128 : Shape := ⟨3, ![1, 16, 128]⟩
abbrev S1x1x1 : Shape := ⟨3, ![1, 1, 1]⟩
abbrev S1x1 : Shape := ⟨2, ![1, 1]⟩
abbrev S32x128 : Shape := ⟨2, ![32, 128]⟩
abbrev S1x128x128 : Shape := ⟨3, ![1, 128, 128]⟩
abbrev S128x128 : Shape := ⟨2, ![128, 128]⟩
abbrev S128x256 : Shape := ⟨2, ![128, 256]⟩
abbrev S256 : Shape := ⟨1, ![256]⟩
abbrev S256x1 : Shape := ⟨2, ![256, 1]⟩

abbrev nBuf : Space → Nat
  | .hbm => 13
  | .vmem => 24
  | .smem => 0
  | _ => 0

abbrev bufTy : (tb : Table) → Fin (tcTables nBuf tb) → BufTy
  | .hbm, ⟨0, _⟩ => ⟨S32x2048x1024, .f32⟩
  | .hbm, ⟨1, _⟩ => ⟨S6x32x1024, .f32⟩
  | .hbm, ⟨2, _⟩ => ⟨S32x2048, .i32⟩
  | .hbm, ⟨3, _⟩ => ⟨S1x1024, .f32⟩
  | .hbm, ⟨4, _⟩ => ⟨S1x1024, .f32⟩
  | .hbm, ⟨5, _⟩ => ⟨S1x1024x3584, .f32⟩
  | .hbm, ⟨6, _⟩ => ⟨S1x3x512, .f32⟩
  | .hbm, ⟨7, _⟩ => ⟨S1x1024x1024, .f32⟩
  | .hbm, ⟨8, _⟩ => ⟨S32x16x128, .i32⟩
  | .hbm, ⟨9, _⟩ => ⟨S1024x3584, .f32⟩
  | .hbm, ⟨10, _⟩ => ⟨S3x512, .f32⟩
  | .hbm, ⟨11, _⟩ => ⟨S1024x1024, .f32⟩
  | .hbm, ⟨12, _⟩ => ⟨S32x2048x1024, .f32⟩
  | .local _ .vmem, ⟨0, _⟩ => ⟨S6x32x1024, .f32⟩
  | .local _ .vmem, ⟨1, _⟩ => ⟨S32x16x128, .i32⟩
  | .local _ .vmem, ⟨2, _⟩ => ⟨S1x1024, .f32⟩
  | .local _ .vmem, ⟨3, _⟩ => ⟨S1x1024, .f32⟩
  | .local _ .vmem, ⟨4, _⟩ => ⟨S3x512, .f32⟩
  | .local _ .vmem, ⟨5, _⟩ => ⟨S2x1024x1024, .f32⟩
  | .local _ .vmem, ⟨6, _⟩ => ⟨S2x1024x1024, .f32⟩
  | .local _ .vmem, ⟨7, _⟩ => ⟨S1024x3584, .bf16⟩
  | .local _ .vmem, ⟨8, _⟩ => ⟨S1024x1024, .bf16⟩
  | .local _ .vmem, ⟨9, _⟩ => ⟨S4x64x3584, .f32⟩
  | .local _ .vmem, ⟨10, _⟩ => ⟨S4x256x1024, .f32⟩
  | .local _ .vmem, ⟨11, _⟩ => ⟨S1024x1024, .bf16⟩
  | .local _ .vmem, ⟨12, _⟩ => ⟨S1024x3584, .f32⟩
  | .local _ .vmem, ⟨13, _⟩ => ⟨S1024x1024, .bf16⟩
  | .local _ .vmem, ⟨14, _⟩ => ⟨S1024x1024, .f32⟩
  | .local _ .vmem, ⟨15, _⟩ => ⟨S4x128x128, .f32⟩
  | .local _ .vmem, ⟨16, _⟩ => ⟨S8x512, .f32⟩
  | .local _ .vmem, ⟨17, _⟩ => ⟨S4x256x256, .f32⟩
  | .local _ .vmem, ⟨18, _⟩ => ⟨S4x256x128, .f32⟩
  | .local _ .vmem, ⟨19, _⟩ => ⟨S4x256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_scratch15 : Ref sig .tc := ⟨.vmem, 16, rfl⟩
abbrev cc0_scratch16 : Ref sig .tc := ⟨.vmem, 17, rfl⟩
abbrev cc0_scratch17 : Ref sig .tc := ⟨.vmem, 18, rfl⟩
abbrev cc0_scratch18 : Ref sig .tc := ⟨.vmem, 19, rfl⟩
abbrev cc0_scratch19 : Ref sig .tc := ⟨.vmem, 20, rfl⟩
abbrev cc0_scratch20 : Ref sig .tc := ⟨.vmem, 21, rfl⟩
abbrev cc0_scratch21 : Ref sig .tc := ⟨.vmem, 22, rfl⟩
abbrev cc0_scratch22 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_408 : BitVec 32 := 0#32
  let c64_i32_409 : BitVec 32 := 64#32
  let v537 : BitVec 32 := Scalar.addi c0_i32_408 c64_i32_409
  let c1_i32_410 : BitVec 32 := 1#32
  ⟨c0_i32_408, v537, c1_i32_410⟩
def k0_cond1 (k0_t1 : Fin k0_t1_loop.trips) : BitVec 1 :=
  let c0_i32_408 : BitVec 32 := 0#32
  let c1_i32_410 : BitVec 32 := 1#32
  let arg32 : BitVec 32 := Scf.iv c0_i32_408 c1_i32_410 k0_t1
  let c1_i32_430 : BitVec 32 := 1#32
  let v556 : BitVec 32 := Scalar.addi arg32 c1_i32_430
  let c64_i32_431 : BitVec 32 := 64#32
  let v557 : BitVec 1 := Scalar.cmpi .slt v556 c64_i32_431
  let v558 : BitVec 32 := Scalar.extui v557
  let c0_i32_432 : BitVec 32 := 0#32
  let v559 : BitVec 1 := Scalar.cmpi .ne v558 c0_i32_432
  v559

def k0_off1 (k0_t1 : Fin k0_t1_loop.trips) : Fin 1 → Nat :=
  let c1_i32_2586 : BitVec 32 := 1#32
  let c0_i32_408 : BitVec 32 := 0#32
  let c1_i32_410 : BitVec 32 := 1#32
  let arg32 : BitVec 32 := Scf.iv c0_i32_408 c1_i32_410 k0_t1
  let c2_i32_424 : BitVec 32 := 2#32
  let c0_i32_425 : BitVec 32 := 0#32
  let v546 : BitVec 1 := Scalar.cmpi .eq c2_i32_424 c0_i32_425
  let c1_i32_426 : BitVec 32 := 1#32
  let v547 : BitVec 32 := Scalar.select v546 c1_i32_426 c2_i32_424
  let v548 : BitVec 32 := Scalar.remsi arg32 v547
  let c0_i32_428 : BitVec 32 := 0#32
  let v550 : BitVec 1 := Scalar.cmpi .slt v548 c0_i32_428
  let c0_i32_429 : BitVec 32 := 0#32
  let v551 : BitVec 1 := Scalar.cmpi .slt v547 c0_i32_429
  let v552 : BitVec 1 := Scalar.xori v550 v551
  let c0_i32_427 : BitVec 32 := 0#32
  let v549 : BitVec 1 := Scalar.cmpi .ne v548 c0_i32_427
  let v553 : BitVec 1 := Scalar.andi v552 v549
  let v554 : BitVec 32 := Scalar.addi v548 v547
  let v555 : BitVec 32 := Scalar.select v553 v554 v548
  let v4502 : BitVec 32 := Scalar.subi c1_i32_2586 v555
  ![v4502.toNat]
def k0_off2 (k0_t1 : Fin k0_t1_loop.trips) : Fin 3 → Nat :=
  let c1_i32_2586 : BitVec 32 := 1#32
  let c0_i32_408 : BitVec 32 := 0#32
  let c1_i32_410 : BitVec 32 := 1#32
  let arg32 : BitVec 32 := Scf.iv c0_i32_408 c1_i32_410 k0_t1
  let c2_i32_424 : BitVec 32 := 2#32
  let c0_i32_425 : BitVec 32 := 0#32
  let v546 : BitVec 1 := Scalar.cmpi .eq c2_i32_424 c0_i32_425
  let c1_i32_426 : BitVec 32 := 1#32
  let v547 : BitVec 32 := Scalar.select v546 c1_i32_426 c2_i32_424
  let v548 : BitVec 32 := Scalar.remsi arg32 v547
  let c0_i32_428 : BitVec 32 := 0#32
  let v550 : BitVec 1 := Scalar.cmpi .slt v548 c0_i32_428
  let c0_i32_429 : BitVec 32 := 0#32
  let v551 : BitVec 1 := Scalar.cmpi .slt v547 c0_i32_429
  let v552 : BitVec 1 := Scalar.xori v550 v551
  let c0_i32_427 : BitVec 32 := 0#32
  let v549 : BitVec 1 := Scalar.cmpi .ne v548 c0_i32_427
  let v553 : BitVec 1 := Scalar.andi v552 v549
  let v554 : BitVec 32 := Scalar.addi v548 v547
  let v555 : BitVec 32 := Scalar.select v553 v554 v548
  let v4502 : BitVec 32 := Scalar.subi c1_i32_2586 v555
  let c0_i32_2601 : BitVec 32 := 0#32
  let c0_i32_2602 : BitVec 32 := 0#32
  ![v4502.toNat, 0, 0]
def k0_off3 (k0_t1 : Fin k0_t1_loop.trips) : Fin 3 → Nat :=
  let c0_i32_408 : BitVec 32 := 0#32
  let c1_i32_410 : BitVec 32 := 1#32
  let arg32 : BitVec 32 := Scf.iv c0_i32_408 c1_i32_410 k0_t1
  let c1_i32_2585 : BitVec 32 := 1#32
  let v4501 : BitVec 32 := Scalar.addi arg32 c1_i32_2585
  let c0_i32_2588 : BitVec 32 := 0#32
  let v4504 : BitVec 1 := Scalar.cmpi .sgt v4501 c0_i32_2588
  let v4505 : BitVec 32 := Scalar.extui v4504
  let c0_i32_2589 : BitVec 32 := 0#32
  let v4506 : BitVec 1 := Scalar.cmpi .slt v4501 c0_i32_2589
  let v4507 : BitVec 32 := Scalar.extui v4506
  let v4508 : BitVec 32 := Scalar.subi v4505 v4507
  let c2_i32_2587 : BitVec 32 := 2#32
  let c0_i32_2590 : BitVec 32 := 0#32
  let v4509 : BitVec 1 := Scalar.cmpi .sgt c2_i32_2587 c0_i32_2590
  let v4510 : BitVec 32 := Scalar.extui v4509
  let c0_i32_2591 : BitVec 32 := 0#32
  let v4511 : BitVec 1 := Scalar.cmpi .slt c2_i32_2587 c0_i32_2591
  let v4512 : BitVec 32 := Scalar.extui v4511
  let v4513 : BitVec 32 := Scalar.subi v4510 v4512
  let v4514 : BitVec 1 := Scalar.cmpi .ne v4508 v4513
  let v4515 : BitVec 32 := Scalar.remsi v4501 c2_i32_2587
  let c0_i32_2592 : BitVec 32 := 0#32
  let v4516 : BitVec 1 := Scalar.cmpi .ne v4515 c0_i32_2592
  let v4517 : BitVec 1 := Scalar.andi v4514 v4516
  let v4503 : BitVec 32 := Scalar.divsi v4501 c2_i32_2587
  let c1_i32_2593 : BitVec 32 := 1#32
  let v4518 : BitVec 32 := Scalar.subi v4503 c1_i32_2593
  let v4519 : BitVec 32 := Scalar.select v4517 v4518 v4503
  let c2_i32_2594 : BitVec 32 := 2#32
  let c0_i32_2595 : BitVec 32 := 0#32
  let v4520 : BitVec 1 := Scalar.cmpi .eq c2_i32_2594 c0_i32_2595
  let c1_i32_2596 : BitVec 32 := 1#32
  let v4521 : BitVec 32 := Scalar.select v4520 c1_i32_2596 c2_i32_2594
  let v4522 : BitVec 32 := Scalar.remsi v4501 v4521
  let c0_i32_2598 : BitVec 32 := 0#32
  let v4524 : BitVec 1 := Scalar.cmpi .slt v4522 c0_i32_2598
  let c0_i32_2599 : BitVec 32 := 0#32
  let v4525 : BitVec 1 := Scalar.cmpi .slt v4521 c0_i32_2599
  let v4526 : BitVec 1 := Scalar.xori v4524 v4525
  let c0_i32_2597 : BitVec 32 := 0#32
  let v4523 : BitVec 1 := Scalar.cmpi .ne v4522 c0_i32_2597
  let v4527 : BitVec 1 := Scalar.andi v4526 v4523
  let v4528 : BitVec 32 := Scalar.addi v4522 v4521
  let v4529 : BitVec 32 := Scalar.select v4527 v4528 v4522
  let c1024_i32_2600 : BitVec 32 := 1024#32
  let v4530 : BitVec 32 := Scalar.muli v4529 c1024_i32_2600
  let c0_i32_2603 : BitVec 32 := 0#32
  ![v4519.toNat, v4530.toNat, 0]
def k0_off4 (k0_t1 : Fin k0_t1_loop.trips) : Fin 1 → Nat :=
  let c0_i32_408 : BitVec 32 := 0#32
  let c1_i32_410 : BitVec 32 := 1#32
  let arg32 : BitVec 32 := Scf.iv c0_i32_408 c1_i32_410 k0_t1
  let c2_i32_424 : BitVec 32 := 2#32
  let c0_i32_425 : BitVec 32 := 0#32
  let v546 : BitVec 1 := Scalar.cmpi .eq c2_i32_424 c0_i32_425
  let c1_i32_426 : BitVec 32 := 1#32
  let v547 : BitVec 32 := Scalar.select v546 c1_i32_426 c2_i32_424
  let v548 : BitVec 32 := Scalar.remsi arg32 v547
  let c0_i32_428 : BitVec 32 := 0#32
  let v550 : BitVec 1 := Scalar.cmpi .slt v548 c0_i32_428
  let c0_i32_429 : BitVec 32 := 0#32
  let v551 : BitVec 1 := Scalar.cmpi .slt v547 c0_i32_429
  let v552 : BitVec 1 := Scalar.xori v550 v551
  let c0_i32_427 : BitVec 32 := 0#32
  let v549 : BitVec 1 := Scalar.cmpi .ne v548 c0_i32_427
  let v553 : BitVec 1 := Scalar.andi v552 v549
  let v554 : BitVec 32 := Scalar.addi v548 v547
  let v555 : BitVec 32 := Scalar.select v553 v554 v548
  ![v555.toNat]
def k0_off5 (k0_t1 : Fin k0_t1_loop.trips) : Fin 3 → Nat :=
  let c0_i32_408 : BitVec 32 := 0#32
  let c1_i32_410 : BitVec 32 := 1#32
  let arg32 : BitVec 32 := Scf.iv c0_i32_408 c1_i32_410 k0_t1
  let c2_i32_424 : BitVec 32 := 2#32
  let c0_i32_425 : BitVec 32 := 0#32
  let v546 : BitVec 1 := Scalar.cmpi .eq c2_i32_424 c0_i32_425
  let c1_i32_426 : BitVec 32 := 1#32
  let v547 : BitVec 32 := Scalar.select v546 c1_i32_426 c2_i32_424
  let v548 : BitVec 32 := Scalar.remsi arg32 v547
  let c0_i32_428 : BitVec 32 := 0#32
  let v550 : BitVec 1 := Scalar.cmpi .slt v548 c0_i32_428
  let c0_i32_429 : BitVec 32 := 0#32
  let v551 : BitVec 1 := Scalar.cmpi .slt v547 c0_i32_429
  let v552 : BitVec 1 := Scalar.xori v550 v551
  let c0_i32_427 : BitVec 32 := 0#32
  let v549 : BitVec 1 := Scalar.cmpi .ne v548 c0_i32_427
  let v553 : BitVec 1 := Scalar.andi v552 v549
  let v554 : BitVec 32 := Scalar.addi v548 v547
  let v555 : BitVec 32 := Scalar.select v553 v554 v548
  let c0_i32_447 : BitVec 32 := 0#32
  let c0_i32_448 : BitVec 32 := 0#32
  ![v555.toNat, 0, 0]
def k0_off6 (k0_t1 : Fin k0_t1_loop.trips) : Fin 3 → Nat :=
  let c0_i32_408 : BitVec 32 := 0#32
  let c1_i32_410 : BitVec 32 := 1#32
  let arg32 : BitVec 32 := Scf.iv c0_i32_408 c1_i32_410 k0_t1
  let c0_i32_434 : BitVec 32 := 0#32
  let v561 : BitVec 1 := Scalar.cmpi .sgt arg32 c0_i32_434
  let v562 : BitVec 32 := Scalar.extui v561
  let c0_i32_435 : BitVec 32 := 0#32
  let v563 : BitVec 1 := Scalar.cmpi .slt arg32 c0_i32_435
  let v564 : BitVec 32 := Scalar.extui v563
  let v565 : BitVec 32 := Scalar.subi v562 v564
  let c2_i32_433 : BitVec 32 := 2#32
  let c0_i32_436 : BitVec 32 := 0#32
  let v566 : BitVec 1 := Scalar.cmpi .sgt c2_i32_433 c0_i32_436
  let v567 : BitVec 32 := Scalar.extui v566
  let c0_i32_437 : BitVec 32 := 0#32
  let v568 : BitVec 1 := Scalar.cmpi .slt c2_i32_433 c0_i32_437
  let v569 : BitVec 32 := Scalar.extui v568
  let v570 : BitVec 32 := Scalar.subi v567 v569
  let v571 : BitVec 1 := Scalar.cmpi .ne v565 v570
  let v572 : BitVec 32 := Scalar.remsi arg32 c2_i32_433
  let c0_i32_438 : BitVec 32 := 0#32
  let v573 : BitVec 1 := Scalar.cmpi .ne v572 c0_i32_438
  let v574 : BitVec 1 := Scalar.andi v571 v573
  let v560 : BitVec 32 := Scalar.divsi arg32 c2_i32_433
  let c1_i32_439 : BitVec 32 := 1#32
  let v575 : BitVec 32 := Scalar.subi v560 c1_i32_439
  let v576 : BitVec 32 := Scalar.select v574 v575 v560
  let c2_i32_440 : BitVec 32 := 2#32
  let c0_i32_441 : BitVec 32 := 0#32
  let v577 : BitVec 1 := Scalar.cmpi .eq c2_i32_440 c0_i32_441
  let c1_i32_442 : BitVec 32 := 1#32
  let v578 : BitVec 32 := Scalar.select v577 c1_i32_442 c2_i32_440
  let v579 : BitVec 32 := Scalar.remsi arg32 v578
  let c0_i32_444 : BitVec 32 := 0#32
  let v581 : BitVec 1 := Scalar.cmpi .slt v579 c0_i32_444
  let c0_i32_445 : BitVec 32 := 0#32
  let v582 : BitVec 1 := Scalar.cmpi .slt v578 c0_i32_445
  let v583 : BitVec 1 := Scalar.xori v581 v582
  let c0_i32_443 : BitVec 32 := 0#32
  let v580 : BitVec 1 := Scalar.cmpi .ne v579 c0_i32_443
  let v584 : BitVec 1 := Scalar.andi v583 v580
  let v585 : BitVec 32 := Scalar.addi v579 v578
  let v586 : BitVec 32 := Scalar.select v584 v585 v579
  let c1024_i32_446 : BitVec 32 := 1024#32
  let v587 : BitVec 32 := Scalar.muli v586 c1024_i32_446
  let c0_i32_449 : BitVec 32 := 0#32
  ![v576.toNat, v587.toNat, 0]
def k0_cond2 (k0_t1 : Fin k0_t1_loop.trips) : BitVec 1 :=
  let c0_i32_408 : BitVec 32 := 0#32
  let c1_i32_410 : BitVec 32 := 1#32
  let arg32 : BitVec 32 := Scf.iv c0_i32_408 c1_i32_410 k0_t1
  let c2_i32_450 : BitVec 32 := 2#32
  let v592 : BitVec 1 := Scalar.cmpi .sge arg32 c2_i32_450
  let v593 : BitVec 32 := Scalar.extui v592
  let c0_i32_451 : BitVec 32 := 0#32
  let v594 : BitVec 1 := Scalar.cmpi .ne v593 c0_i32_451
  v594

def k0_off7 (k0_t1 : Fin k0_t1_loop.trips) : Fin 1 → Nat :=
  let c0_i32_408 : BitVec 32 := 0#32
  let c1_i32_410 : BitVec 32 := 1#32
  let arg32 : BitVec 32 := Scf.iv c0_i32_408 c1_i32_410 k0_t1
  let c2_i32_424 : BitVec 32 := 2#32
  let c0_i32_425 : BitVec 32 := 0#32
  let v546 : BitVec 1 := Scalar.cmpi .eq c2_i32_424 c0_i32_425
  let c1_i32_426 : BitVec 32 := 1#32
  let v547 : BitVec 32 := Scalar.select v546 c1_i32_426 c2_i32_424
  let v548 : BitVec 32 := Scalar.remsi arg32 v547
  let c0_i32_428 : BitVec 32 := 0#32
  let v550 : BitVec 1 := Scalar.cmpi .slt v548 c0_i32_428
  let c0_i32_429 : BitVec 32 := 0#32
  let v551 : BitVec 1 := Scalar.cmpi .slt v547 c0_i32_429
  let v552 : BitVec 1 := Scalar.xori v550 v551
  let c0_i32_427 : BitVec 32 := 0#32
  let v549 : BitVec 1 := Scalar.cmpi .ne v548 c0_i32_427
  let v553 : BitVec 1 := Scalar.andi v552 v549
  let v554 : BitVec 32 := Scalar.addi v548 v547
  let v555 : BitVec 32 := Scalar.select v553 v554 v548
  ![v555.toNat]
def k0_off8 (k0_t1 : Fin k0_t1_loop.trips) : Fin 3 → Nat :=
  let c0_i32_408 : BitVec 32 := 0#32
  let c1_i32_410 : BitVec 32 := 1#32
  let arg32 : BitVec 32 := Scf.iv c0_i32_408 c1_i32_410 k0_t1
  let c2_i32_2585 : BitVec 32 := 2#32
  let v4501 : BitVec 32 := Scalar.subi arg32 c2_i32_2585
  let c0_i32_2587 : BitVec 32 := 0#32
  let v4503 : BitVec 1 := Scalar.cmpi .sgt v4501 c0_i32_2587
  let v4504 : BitVec 32 := Scalar.extui v4503
  let c0_i32_2588 : BitVec 32 := 0#32
  let v4505 : BitVec 1 := Scalar.cmpi .slt v4501 c0_i32_2588
  let v4506 : BitVec 32 := Scalar.extui v4505
  let v4507 : BitVec 32 := Scalar.subi v4504 v4506
  let c2_i32_2586 : BitVec 32 := 2#32
  let c0_i32_2589 : BitVec 32 := 0#32
  let v4508 : BitVec 1 := Scalar.cmpi .sgt c2_i32_2586 c0_i32_2589
  let v4509 : BitVec 32 := Scalar.extui v4508
  let c0_i32_2590 : BitVec 32 := 0#32
  let v4510 : BitVec 1 := Scalar.cmpi .slt c2_i32_2586 c0_i32_2590
  let v4511 : BitVec 32 := Scalar.extui v4510
  let v4512 : BitVec 32 := Scalar.subi v4509 v4511
  let v4513 : BitVec 1 := Scalar.cmpi .ne v4507 v4512
  let v4514 : BitVec 32 := Scalar.remsi v4501 c2_i32_2586
  let c0_i32_2591 : BitVec 32 := 0#32
  let v4515 : BitVec 1 := Scalar.cmpi .ne v4514 c0_i32_2591
  let v4516 : BitVec 1 := Scalar.andi v4513 v4515
  let v4502 : BitVec 32 := Scalar.divsi v4501 c2_i32_2586
  let c1_i32_2592 : BitVec 32 := 1#32
  let v4517 : BitVec 32 := Scalar.subi v4502 c1_i32_2592
  let v4518 : BitVec 32 := Scalar.select v4516 v4517 v4502
  let c2_i32_2593 : BitVec 32 := 2#32
  let c0_i32_2594 : BitVec 32 := 0#32
  let v4519 : BitVec 1 := Scalar.cmpi .eq c2_i32_2593 c0_i32_2594
  let c1_i32_2595 : BitVec 32 := 1#32
  let v4520 : BitVec 32 := Scalar.select v4519 c1_i32_2595 c2_i32_2593
  let v4521 : BitVec 32 := Scalar.remsi v4501 v4520
  let c0_i32_2597 : BitVec 32 := 0#32
  let v4523 : BitVec 1 := Scalar.cmpi .slt v4521 c0_i32_2597
  let c0_i32_2598 : BitVec 32 := 0#32
  let v4524 : BitVec 1 := Scalar.cmpi .slt v4520 c0_i32_2598
  let v4525 : BitVec 1 := Scalar.xori v4523 v4524
  let c0_i32_2596 : BitVec 32 := 0#32
  let v4522 : BitVec 1 := Scalar.cmpi .ne v4521 c0_i32_2596
  let v4526 : BitVec 1 := Scalar.andi v4525 v4522
  let v4527 : BitVec 32 := Scalar.addi v4521 v4520
  let v4528 : BitVec 32 := Scalar.select v4526 v4527 v4521
  let c1024_i32_2599 : BitVec 32 := 1024#32
  let v4529 : BitVec 32 := Scalar.muli v4528 c1024_i32_2599
  let c0_i32_2600 : BitVec 32 := 0#32
  ![v4518.toNat, v4529.toNat, 0]
def k0_off9 (k0_t1 : Fin k0_t1_loop.trips) : Fin 3 → Nat :=
  let c0_i32_408 : BitVec 32 := 0#32
  let c1_i32_410 : BitVec 32 := 1#32
  let arg32 : BitVec 32 := Scf.iv c0_i32_408 c1_i32_410 k0_t1
  let c2_i32_424 : BitVec 32 := 2#32
  let c0_i32_425 : BitVec 32 := 0#32
  let v546 : BitVec 1 := Scalar.cmpi .eq c2_i32_424 c0_i32_425
  let c1_i32_426 : BitVec 32 := 1#32
  let v547 : BitVec 32 := Scalar.select v546 c1_i32_426 c2_i32_424
  let v548 : BitVec 32 := Scalar.remsi arg32 v547
  let c0_i32_428 : BitVec 32 := 0#32
  let v550 : BitVec 1 := Scalar.cmpi .slt v548 c0_i32_428
  let c0_i32_429 : BitVec 32 := 0#32
  let v551 : BitVec 1 := Scalar.cmpi .slt v547 c0_i32_429
  let v552 : BitVec 1 := Scalar.xori v550 v551
  let c0_i32_427 : BitVec 32 := 0#32
  let v549 : BitVec 1 := Scalar.cmpi .ne v548 c0_i32_427
  let v553 : BitVec 1 := Scalar.andi v552 v549
  let v554 : BitVec 32 := Scalar.addi v548 v547
  let v555 : BitVec 32 := Scalar.select v553 v554 v548
  let c0_i32_2601 : BitVec 32 := 0#32
  let c0_i32_2602 : BitVec 32 := 0#32
  ![v555.toNat, 0, 0]
def k0_off10 (k0_t1 : Fin k0_t1_loop.trips) : Fin 3 → Nat :=
  let c1_468 : Index := 1#32
  let c0_i32_408 : BitVec 32 := 0#32
  let c1_i32_410 : BitVec 32 := 1#32
  let arg32 : BitVec 32 := Scf.iv c0_i32_408 c1_i32_410 k0_t1
  let c0_i32_453 : BitVec 32 := 0#32
  let v596 : BitVec 1 := Scalar.cmpi .sgt arg32 c0_i32_453
  let v597 : BitVec 32 := Scalar.extui v596
  let c0_i32_454 : BitVec 32 := 0#32
  let v598 : BitVec 1 := Scalar.cmpi .slt arg32 c0_i32_454
  let v599 : BitVec 32 := Scalar.extui v598
  let v600 : BitVec 32 := Scalar.subi v597 v599
  let c2_i32_452 : BitVec 32 := 2#32
  let c0_i32_455 : BitVec 32 := 0#32
  let v601 : BitVec 1 := Scalar.cmpi .sgt c2_i32_452 c0_i32_455
  let v602 : BitVec 32 := Scalar.extui v601
  let c0_i32_456 : BitVec 32 := 0#32
  let v603 : BitVec 1 := Scalar.cmpi .slt c2_i32_452 c0_i32_456
  let v604 : BitVec 32 := Scalar.extui v603
  let v605 : BitVec 32 := Scalar.subi v602 v604
  let v606 : BitVec 1 := Scalar.cmpi .ne v600 v605
  let v607 : BitVec 32 := Scalar.remsi arg32 c2_i32_452
  let c0_i32_457 : BitVec 32 := 0#32
  let v608 : BitVec 1 := Scalar.cmpi .ne v607 c0_i32_457
  let v609 : BitVec 1 := Scalar.andi v606 v608
  let v595 : BitVec 32 := Scalar.divsi arg32 c2_i32_452
  let c1_i32_458 : BitVec 32 := 1#32
  let v610 : BitVec 32 := Scalar.subi v595 c1_i32_458
  let v611 : BitVec 32 := Scalar.select v609 v610 v595
  let v624 : Index := Scalar.indexCast v611
  let c0_469 : Index := 0#32
  ![1, v624.toNat, 0]
def k0_off11 (k0_t1 : Fin k0_t1_loop.trips) : Fin 3 → Nat :=
  let c0_471 : Index := 0#32
  let c0_i32_408 : BitVec 32 := 0#32
  let c1_i32_410 : BitVec 32 := 1#32
  let arg32 : BitVec 32 := Scf.iv c0_i32_408 c1_i32_410 k0_t1
  let c0_i32_453 : BitVec 32 := 0#32
  let v596 : BitVec 1 := Scalar.cmpi .sgt arg32 c0_i32_453
  let v597 : BitVec 32 := Scalar.extui v596
  let c0_i32_454 : BitVec 32 := 0#32
  let v598 : BitVec 1 := Scalar.cmpi .slt arg32 c0_i32_454
  let v599 : BitVec 32 := Scalar.extui v598
  let v600 : BitVec 32 := Scalar.subi v597 v599
  let c2_i32_452 : BitVec 32 := 2#32
  let c0_i32_455 : BitVec 32 := 0#32
  let v601 : BitVec 1 := Scalar.cmpi .sgt c2_i32_452 c0_i32_455
  let v602 : BitVec 32 := Scalar.extui v601
  let c0_i32_456 : BitVec 32 := 0#32
  let v603 : BitVec 1 := Scalar.cmpi .slt c2_i32_452 c0_i32_456
  let v604 : BitVec 32 := Scalar.extui v603
  let v605 : BitVec 32 := Scalar.subi v602 v604
  let v606 : BitVec 1 := Scalar.cmpi .ne v600 v605
  let v607 : BitVec 32 := Scalar.remsi arg32 c2_i32_452
  let c0_i32_457 : BitVec 32 := 0#32
  let v608 : BitVec 1 := Scalar.cmpi .ne v607 c0_i32_457
  let v609 : BitVec 1 := Scalar.andi v606 v608
  let v595 : BitVec 32 := Scalar.divsi arg32 c2_i32_452
  let c1_i32_458 : BitVec 32 := 1#32
  let v610 : BitVec 32 := Scalar.subi v595 c1_i32_458
  let v611 : BitVec 32 := Scalar.select v609 v610 v595
  let v630 : Index := Scalar.indexCast v611
  let c0_472 : Index := 0#32
  ![0, v630.toNat, 0]
def k0_off12 (k0_t1 : Fin k0_t1_loop.trips) : Fin 3 → Nat :=
  let c0_i32_408 : BitVec 32 := 0#32
  let c1_i32_410 : BitVec 32 := 1#32
  let arg32 : BitVec 32 := Scf.iv c0_i32_408 c1_i32_410 k0_t1
  let c0_i32_453 : BitVec 32 := 0#32
  let v596 : BitVec 1 := Scalar.cmpi .sgt arg32 c0_i32_453
  let v597 : BitVec 32 := Scalar.extui v596
  let c0_i32_454 : BitVec 32 := 0#32
  let v598 : BitVec 1 := Scalar.cmpi .slt arg32 c0_i32_454
  let v599 : BitVec 32 := Scalar.extui v598
  let v600 : BitVec 32 := Scalar.subi v597 v599
  let c2_i32_452 : BitVec 32 := 2#32
  let c0_i32_455 : BitVec 32 := 0#32
  let v601 : BitVec 1 := Scalar.cmpi .sgt c2_i32_452 c0_i32_455
  let v602 : BitVec 32 := Scalar.extui v601
  let c0_i32_456 : BitVec 32 := 0#32
  let v603 : BitVec 1 := Scalar.cmpi .slt c2_i32_452 c0_i32_456
  let v604 : BitVec 32 := Scalar.extui v603
  let v605 : BitVec 32 := Scalar.subi v602 v604
  let v606 : BitVec 1 := Scalar.cmpi .ne v600 v605
  let v607 : BitVec 32 := Scalar.remsi arg32 c2_i32_452
  let c0_i32_457 : BitVec 32 := 0#32
  let v608 : BitVec 1 := Scalar.cmpi .ne v607 c0_i32_457
  let v609 : BitVec 1 := Scalar.andi v606 v608
  let v595 : BitVec 32 := Scalar.divsi arg32 c2_i32_452
  let c1_i32_458 : BitVec 32 := 1#32
  let v610 : BitVec 32 := Scalar.subi v595 c1_i32_458
  let v611 : BitVec 32 := Scalar.select v609 v610 v595
  let c0_i32_1125 : BitVec 32 := 0#32
  let c0_i32_1126 : BitVec 32 := 0#32
  ![v611.toNat, 0, 0]
def k0_off13 (k0_t1 : Fin k0_t1_loop.trips) (c0_i32_1124 : BitVec 32) : Fin 3 → Nat :=
  let c0_1127 : Index := 0#32
  let c0_i32_408 : BitVec 32 := 0#32
  let c1_i32_410 : BitVec 32 := 1#32
  let arg32 : BitVec 32 := Scf.iv c0_i32_408 c1_i32_410 k0_t1
  let c2_i32_459 : BitVec 32 := 2#32
  let c0_i32_460 : BitVec 32 := 0#32
  let v612 : BitVec 1 := Scalar.cmpi .eq c2_i32_459 c0_i32_460
  let c1_i32_461 : BitVec 32 := 1#32
  let v613 : BitVec 32 := Scalar.select v612 c1_i32_461 c2_i32_459
  let v614 : BitVec 32 := Scalar.remsi arg32 v613
  let c0_i32_463 : BitVec 32 := 0#32
  let v616 : BitVec 1 := Scalar.cmpi .slt v614 c0_i32_463
  let c0_i32_464 : BitVec 32 := 0#32
  let v617 : BitVec 1 := Scalar.cmpi .slt v613 c0_i32_464
  let v618 : BitVec 1 := Scalar.xori v616 v617
  let c0_i32_462 : BitVec 32 := 0#32
  let v615 : BitVec 1 := Scalar.cmpi .ne v614 c0_i32_462
  let v619 : BitVec 1 := Scalar.andi v618 v615
  let v620 : BitVec 32 := Scalar.addi v614 v613
  let v621 : BitVec 32 := Scalar.select v619 v620 v614
  let c8_i32 : BitVec 32 := 8#32
  let v2086 : BitVec 32 := Scalar.muli v621 c8_i32
  let v2087 : BitVec 32 := Scalar.addi v2086 c0_i32_1124
  let v2089 : Index := Scalar.indexCast v2087
  let c0_1128 : Index := 0#32
  ![0, v2089.toNat, 0]
def k0_off14 (k0_t1 : Fin k0_t1_loop.trips) : Fin 3 → Nat :=
  let c2_2084 : Index := 2#32
  let c0_i32_408 : BitVec 32 := 0#32
  let c1_i32_410 : BitVec 32 := 1#32
  let arg32 : BitVec 32 := Scf.iv c0_i32_408 c1_i32_410 k0_t1
  let c0_i32_453 : BitVec 32 := 0#32
  let v596 : BitVec 1 := Scalar.cmpi .sgt arg32 c0_i32_453
  let v597 : BitVec 32 := Scalar.extui v596
  let c0_i32_454 : BitVec 32 := 0#32
  let v598 : BitVec 1 := Scalar.cmpi .slt arg32 c0_i32_454
  let v599 : BitVec 32 := Scalar.extui v598
  let v600 : BitVec 32 := Scalar.subi v597 v599
  let c2_i32_452 : BitVec 32 := 2#32
  let c0_i32_455 : BitVec 32 := 0#32
  let v601 : BitVec 1 := Scalar.cmpi .sgt c2_i32_452 c0_i32_455
  let v602 : BitVec 32 := Scalar.extui v601
  let c0_i32_456 : BitVec 32 := 0#32
  let v603 : BitVec 1 := Scalar.cmpi .slt c2_i32_452 c0_i32_456
  let v604 : BitVec 32 := Scalar.extui v603
  let v605 : BitVec 32 := Scalar.subi v602 v604
  let v606 : BitVec 1 := Scalar.cmpi .ne v600 v605
  let v607 : BitVec 32 := Scalar.remsi arg32 c2_i32_452
  let c0_i32_457 : BitVec 32 := 0#32
  let v608 : BitVec 1 := Scalar.cmpi .ne v607 c0_i32_457
  let v609 : BitVec 1 := Scalar.andi v606 v608
  let v595 : BitVec 32 := Scalar.divsi arg32 c2_i32_452
  let c1_i32_458 : BitVec 32 := 1#32
  let v610 : BitVec 32 := Scalar.subi v595 c1_i32_458
  let v611 : BitVec 32 := Scalar.select v609 v610 v595
  let v3792 : Index := Scalar.indexCast v611
  let c0_2085 : Index := 0#32
  ![2, v3792.toNat, 0]
abbrev stage0_0 : Fin 1 → Memref sig .tc .vmem S6x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MixerIdeal.lean ====
variable {F : FTy → Type} [FloatOps F] [Named F]
def κ : String → Option EReal := fun
  | "decay0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "decay1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "decay2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "decay3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "freq" => some (((-1 / 64) * (Real.log 10000) : ℝ) : EReal)
  | "log_gamma0" => some ((Real.log (31 / 32) : ℝ) : EReal)
  | "log_gamma1" => some ((Real.log (63 / 64) : ℝ) : EReal)
  | "log_gamma2" => some ((Real.log (127 / 128) : ℝ) : EReal)
  | "log_gamma3" => some ((Real.log (255 / 256) : ℝ) : EReal)
  | _ => none
-- ==== MixerRefIdeal.lean ====
abbrev S32x2048x1024 : Shape := ⟨3, ![32, 2048, 1024]⟩
abbrev S6x32x1024 : Shape := ⟨3, ![6, 32, 1024]⟩
abbrev S32x2048 : Shape := ⟨2, ![32, 2048]⟩
abbrev S1x1024 : Shape := ⟨2, ![1, 1024]⟩
abbrev S1x1024x3584 : Shape := ⟨3, ![1, 1024, 3584]⟩
abbrev S1x3x512 : Shape := ⟨3, ![1, 3, 512]⟩
abbrev S1x1024x1024 : Shape := ⟨3, ![1, 1024, 1024]⟩
abbrev S1x32x1024 : Shape := ⟨3, ![1, 32, 1024]⟩
abbrev S32x1024 : Shape := ⟨2, ![32, 1024]⟩
abbrev S32x1x1024 : Shape := ⟨3, ![32, 1, 1024]⟩
abbrev S1024 : Shape := ⟨1, ![1024]⟩
abbrev S_ : Shape := ⟨0, ![]⟩
abbrev S32x2048x1 : Shape := ⟨3, ![32, 2048, 1]⟩
abbrev S1x1x1024 : Shape := ⟨3, ![1, 1, 1024]⟩
abbrev S1024x3584 : Shape := ⟨2, ![1024, 3584]⟩
abbrev S32x2048x3584 : Shape := ⟨3, ![32, 2048, 3584]⟩
abbrev S32x2048x512 : Shape := ⟨3, ![32, 2048, 512]⟩
abbrev S3x512 : Shape := ⟨2, ![3, 512]⟩
abbrev S32x2050x512 : Shape := ⟨3, ![32, 2050, 512]⟩
abbrev S1x512 : Shape := ⟨2, ![1, 512]⟩
abbrev S512 : Shape := ⟨1, ![512]⟩
abbrev S1x1x512 : Shape := ⟨3, ![1, 1, 512]⟩
abbrev S32x2048x4x128 : Shape := ⟨4, ![32, 2048, 4, 128]⟩
abbrev S64 : Shape := ⟨1, ![64]⟩
abbrev S1x1x64 : Shape := ⟨3, ![1, 1, 64]⟩
abbrev S32x2048x64 : Shape := ⟨3, ![32, 2048, 64]⟩
abbrev S32x2048x1x64 : Shape := ⟨4, ![32, 2048, 1, 64]⟩
abbrev S32x2048x4x64 : Shape := ⟨4, ![32, 2048, 4, 64]⟩
abbrev S32x32x64x4x128 : Shape := ⟨5, ![32, 32, 64, 4, 128]⟩
abbrev S32x4x32x64x128 : Shape := ⟨5, ![32, 4, 32, 64, 128]⟩
abbrev S4 : Shape := ⟨1, ![4]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S32x4x32x64x64 : Shape := ⟨5, ![32, 4, 32, 64, 64]⟩
abbrev S4x1x64x64 : Shape := ⟨4, ![4, 1, 64, 64]⟩
abbrev S1x4x1x64x64 : Shape := ⟨5, ![1, 4, 1, 64, 64]⟩
abbrev S4x1x64x1 : Shape := ⟨4, ![4, 1, 64, 1]⟩
abbrev S1x4x1x64x1 : Shape := ⟨5, ![1, 4, 1, 64, 1]⟩
abbrev S32x32x4x128x128 : Shape := ⟨5, ![32, 32, 4, 128, 128]⟩
abbrev S32x4x128x128 : Shape := ⟨4, ![32, 4, 128, 128]⟩
abbrev S1x32x4x128x128 : Shape := ⟨5, ![1, 32, 4, 128, 128]⟩
abbrev S1x4x1x1 : Shape := ⟨4, ![1, 4, 1, 1]⟩
abbrev S32x2048x4 : Shape := ⟨3, ![32, 2048, 4]⟩
abbrev S32x2048x4x1 : Shape := ⟨4, ![32, 2048, 4, 1]⟩
abbrev S1024x1024 : Shape := ⟨2, ![1024, 1024]⟩

abbrev nBuf : Space → Nat
  | .hbm => 292
  | .vmem => 0
  | .smem => 0
  | _ => 0

abbrev hbmTy0_0 (i : Nat) : BufTy := match i % 128 with
  | 0 => ⟨S32x2048x1024, .f32⟩
  | 1 => ⟨S6x32x1024, .f32⟩
  | 2 => ⟨S32x2048, .i32⟩
  | 3 => ⟨S1x1024, .f32⟩
  | 4 => ⟨S1x1024, .f32⟩
  | 5 => ⟨S1x1024x3584, .f32⟩
  | 6 => ⟨S1x3x512, .f32⟩
  | 7 => ⟨S1x1024x1024, .f32⟩
  | 8 => ⟨S1x32x1024, .f32⟩
  | 9 => ⟨S32x1024, .f32⟩
  | 10 => ⟨S32x1x1024, .f32⟩
  | 11 => ⟨S1x32x1024, .f32⟩
  | 12 => ⟨S32x1024, .f32⟩
  | 13 => ⟨S32x1x1024, .f32⟩
  | 14 => ⟨S1x32x1024, .f32⟩
  | 15 => ⟨S32x1024, .f32⟩
  | 16 => ⟨S32x1x1024, .f32⟩
  | 17 => ⟨S1024, .f32⟩
  | 18 => ⟨S32x2048x1024, .f32⟩
  | 19 => ⟨S_, .f32⟩
  | 20 => ⟨S32x2048, .f32⟩
  | 21 => ⟨S32x2048x1, .f32⟩
  | 22 => ⟨S_, .f32⟩
  | 23 => ⟨S32x2048x1, .f32⟩
  | 24 => ⟨S32x2048x1, .f32⟩
  | 25 => ⟨S_, .f32⟩
  | 26 => ⟨S32x2048x1, .f32⟩
  | 27 => ⟨S32x2048x1, .f32⟩
  | 28 => ⟨S32x2048x1, .f32⟩
  | 29 => ⟨S32x2048x1024, .f32⟩
  | 30 => ⟨S32x2048x1024, .f32⟩
  | 31 => ⟨S1x1x1024, .f32⟩
  | 32 => ⟨S32x2048x1024, .f32⟩
  | 33 => ⟨S32x2048x1024, .f32⟩
  | 34 => ⟨S_, .f32⟩
  | 35 => ⟨S32x1x1024, .f32⟩
  | 36 => ⟨S32x1x1024, .f32⟩
  | 37 => ⟨S32x2048x1024, .f32⟩
  | 38 => ⟨S32x2048x1024, .f32⟩
  | 39 => ⟨S32x2048x1024, .f32⟩
  | 40 => ⟨S32x2048x1024, .f32⟩
  | 41 => ⟨S1024x3584, .f32⟩
  | 42 => ⟨S32x2048x3584, .f32⟩
  | 43 => ⟨S32x2048x512, .f32⟩
  | 44 => ⟨S32x2048x512, .f32⟩
  | 45 => ⟨S32x2048x512, .f32⟩
  | 46 => ⟨S32x2048x512, .f32⟩
  | 47 => ⟨S32x2048x512, .f32⟩
  | 48 => ⟨S32x2048x512, .f32⟩
  | 49 => ⟨S32x2048x512, .f32⟩
  | 50 => ⟨S3x512, .f32⟩
  | 51 => ⟨S32x2048x512, .f32⟩
  | 52 => ⟨S_, .i32⟩
  | 53 => ⟨S_, .f32⟩
  | 54 => ⟨S32x2050x512, .f32⟩
  | 55 => ⟨S32x2048x512, .f32⟩
  | 56 => ⟨S1x512, .f32⟩
  | 57 => ⟨S512, .f32⟩
  | 58 => ⟨S1x1x512, .f32⟩
  | 59 => ⟨S32x2048x512, .f32⟩
  | 60 => ⟨S32x2048x512, .f32⟩
  | 61 => ⟨S32x2048x512, .f32⟩
  | 62 => ⟨S1x512, .f32⟩
  | 63 => ⟨S512, .f32⟩
  | 64 => ⟨S1x1x512, .f32⟩
  | 65 => ⟨S32x2048x512, .f32⟩
  | 66 => ⟨S32x2048x512, .f32⟩
  | 67 => ⟨S32x2048x512, .f32⟩
  | 68 => ⟨S32x2048x512, .f32⟩
  | 69 => ⟨S1x512, .f32⟩
  | 70 => ⟨S512, .f32⟩
  | 71 => ⟨S1x1x512, .f32⟩
  | 72 => ⟨S32x2048x512, .f32⟩
  | 73 => ⟨S32x2048x512, .f32⟩
  | 74 => ⟨S32x2048x512, .f32⟩
  | 75 => ⟨S32x2048x512, .f32⟩
  | 76 => ⟨S32x2048x4x128, .f32⟩
  | 77 => ⟨S64, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S32x2048, .f32⟩
  | 86 => ⟨S32x2048x1, .f32⟩
  | 87 => ⟨S1x1x64, .f32⟩
  | 88 => ⟨S32x2048x64, .f32⟩
  | 89 => ⟨S32x2048x64, .f32⟩
  | 90 => ⟨S32x2048x64, .f32⟩
  | 91 => ⟨S32x2048x64, .f32⟩
  | 92 => ⟨S32x2048x1x64, .f32⟩
  | 93 => ⟨S32x2048x64, .f32⟩
  | 94 => ⟨S32x2048x1x64, .f32⟩
  | 95 => ⟨S32x2048x4x64, .f32⟩
  | 96 => ⟨S32x2048x4x64, .f32⟩
  | 97 => ⟨S32x2048x4x64, .f32⟩
  | 98 => ⟨S32x2048x4x64, .f32⟩
  | 99 => ⟨S32x2048x4x64, .f32⟩
  | 100 => ⟨S32x2048x4x64, .f32⟩
  | 101 => ⟨S32x2048x4x64, .f32⟩
  | 102 => ⟨S32x2048x4x64, .f32⟩
  | 103 => ⟨S32x2048x4x64, .f32⟩
  | 104 => ⟨S32x2048x4x64, .f32⟩
  | 105 => ⟨S32x2048x4x64, .f32⟩
  | 106 => ⟨S32x2048x4x64, .f32⟩
  | 107 => ⟨S32x2048x4x128, .f32⟩
  | 108 => ⟨S32x2048x4x128, .f32⟩
  | 109 => ⟨S64, .f32⟩
  | 110 => ⟨S64, .f32⟩
  | 111 => ⟨S_, .f32⟩
  | 112 => ⟨S64, .f32⟩
  | 113 => ⟨S64, .f32⟩
  | 114 => ⟨S_, .f32⟩
  | 115 => ⟨S64, .f32⟩
  | 116 => ⟨S64, .f32⟩
  | 117 => ⟨S32x2048, .f32⟩
  | 118 => ⟨S32x2048x1, .f32⟩
  | 119 => ⟨S1x1x64, .f32⟩
  | 120 => ⟨S32x2048x64, .f32⟩
  | 121 => ⟨S32x2048x64, .f32⟩
  | 122 => ⟨S32x2048x64, .f32⟩
  | 123 => ⟨S32x2048x64, .f32⟩
  | 124 => ⟨S32x2048x1x64, .f32⟩
  | 125 => ⟨S32x2048x64, .f32⟩
  | 126 => ⟨S32x2048x1x64, .f32⟩
  | 127 => ⟨S32x2048x4x64, .f32⟩
  | _ => ⟨S32x2048x1024, .f32⟩

abbrev hbmTy0_1 (i : Nat) : BufTy := match i % 128 with
  | 0 => ⟨S32x2048x4x64, .f32⟩
  | 1 => ⟨S32x2048x4x64, .f32⟩
  | 2 => ⟨S32x2048x4x64, .f32⟩
  | 3 => ⟨S32x2048x4x64, .f32⟩
  | 4 => ⟨S32x2048x4x64, .f32⟩
  | 5 => ⟨S32x2048x4x64, .f32⟩
  | 6 => ⟨S32x2048x4x64, .f32⟩
  | 7 => ⟨S32x2048x4x64, .f32⟩
  | 8 => ⟨S32x2048x4x64, .f32⟩
  | 9 => ⟨S32x2048x4x64, .f32⟩
  | 10 => ⟨S32x2048x4x64, .f32⟩
  | 11 => ⟨S32x2048x4x128, .f32⟩
  | 12 => ⟨S_, .f32⟩
  | 13 => ⟨S32x2048x4x128, .f32⟩
  | 14 => ⟨S32x2048x4x128, .f32⟩
  | 15 => ⟨S32x2048x4x128, .f32⟩
  | 16 => ⟨S32x32x64x4x128, .f32⟩
  | 17 => ⟨S32x4x32x64x128, .f32⟩
  | 18 => ⟨S32x32x64x4x128, .f32⟩
  | 19 => ⟨S32x4x32x64x128, .f32⟩
  | 20 => ⟨S32x32x64x4x128, .f32⟩
  | 21 => ⟨S32x4x32x64x128, .f32⟩
  | 22 => ⟨S4, .f32⟩
  | 23 => ⟨S_, .f32⟩
  | 24 => ⟨S4, .f32⟩
  | 25 => ⟨S4, .f32⟩
  | 26 => ⟨S_, .f32⟩
  | 27 => ⟨S4, .f32⟩
  | 28 => ⟨S4, .f32⟩
  | 29 => ⟨S4, .f32⟩
  | 30 => ⟨S4, .f32⟩
  | 31 => ⟨S4, .f32⟩
  | 32 => ⟨S64, .f32⟩
  | 33 => ⟨S4x1x1, .f32⟩
  | 34 => ⟨S64x1, .f32⟩
  | 35 => ⟨S1x64, .f32⟩
  | 36 => ⟨S64x64, .f32⟩
  | 37 => ⟨S64x64, .f32⟩
  | 38 => ⟨S64x64, .f32⟩
  | 39 => ⟨S64x64, .f32⟩
  | 40 => ⟨S1x64x64, .f32⟩
  | 41 => ⟨S4x64x64, .f32⟩
  | 42 => ⟨S4x64x64, .f32⟩
  | 43 => ⟨S4x64x64, .f32⟩
  | 44 => ⟨S4x64x64, .f32⟩
  | 45 => ⟨S4x1, .f32⟩
  | 46 => ⟨S_, .f32⟩
  | 47 => ⟨S64, .f32⟩
  | 48 => ⟨S64, .f32⟩
  | 49 => ⟨S1x64, .f32⟩
  | 50 => ⟨S4x64, .f32⟩
  | 51 => ⟨S4x64, .f32⟩
  | 52 => ⟨S4x64, .f32⟩
  | 53 => ⟨S4x64, .f32⟩
  | 54 => ⟨S4x1, .f32⟩
  | 55 => ⟨S_, .f32⟩
  | 56 => ⟨S64, .f32⟩
  | 57 => ⟨S64, .f32⟩
  | 58 => ⟨S1x64, .f32⟩
  | 59 => ⟨S4x64, .f32⟩
  | 60 => ⟨S4x64, .f32⟩
  | 61 => ⟨S4x64, .f32⟩
  | 62 => ⟨S4x64, .f32⟩
  | 63 => ⟨S_, .f32⟩
  | 64 => ⟨S4, .f32⟩
  | 65 => ⟨S4, .f32⟩
  | 66 => ⟨S4, .f32⟩
  | 67 => ⟨S32x4x32x64x64, .f32⟩
  | 68 => ⟨S4x1x64x64, .f32⟩
  | 69 => ⟨S1x4x1x64x64, .f32⟩
  | 70 => ⟨S32x4x32x64x64, .f32⟩
  | 71 => ⟨S32x4x32x64x64, .f32⟩
  | 72 => ⟨S32x4x32x64x128, .f32⟩
  | 73 => ⟨S4x1x64x1, .f32⟩
  | 74 => ⟨S1x4x1x64x1, .f32⟩
  | 75 => ⟨S32x4x32x64x128, .f32⟩
  | 76 => ⟨S32x4x32x64x128, .f32⟩
  | 77 => ⟨S32x32x4x128x128, .f32⟩
  | 78 => ⟨S_, .f32⟩
  | 79 => ⟨S32x4x128x128, .f32⟩
  | 80 => ⟨S_, .f32⟩
  | 81 => ⟨S32x32x4x128x128, .f32⟩
  | 82 => ⟨S_, .i32⟩
  | 83 => ⟨S32x32x4x128x128, .f32⟩
  | 84 => ⟨S4, .f32⟩
  | 85 => ⟨S_, .i32⟩
  | 86 => ⟨S32x4x128x128, .f32⟩
  | 87 => ⟨S32x32x4x128x128, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S1x32x4x128x128, .f32⟩
  | 95 => ⟨S32x4x128x128, .f32⟩
  | 96 => ⟨S4x1x1, .f32⟩
  | 97 => ⟨S1x4x1x1, .f32⟩
  | 98 => ⟨S32x4x128x128, .f32⟩
  | 99 => ⟨S32x4x128x128, .f32⟩
  | 100 => ⟨S32x4x128x128, .f32⟩
  | 101 => ⟨S1x32x4x128x128, .f32⟩
  | 102 => ⟨S_, .i32⟩
  | 103 => ⟨S_, .i32⟩
  | 104 => ⟨S_, .i32⟩
  | 105 => ⟨S_, .i32⟩
  | 106 => ⟨S32x32x4x128x128, .f32⟩
  | 107 => ⟨S_, .i32⟩
  | 108 => ⟨S_, .i32⟩
  | 109 => ⟨S4x1x64x1, .f32⟩
  | 110 => ⟨S1x4x1x64x1, .f32⟩
  | 111 => ⟨S32x4x32x64x128, .f32⟩
  | 112 => ⟨S32x4x32x64x128, .f32⟩
  | 113 => ⟨S32x4x32x64x128, .f32⟩
  | 114 => ⟨S32x4x32x64x128, .f32⟩
  | 115 => ⟨S32x32x64x4x128, .f32⟩
  | 116 => ⟨S32x2048x4x128, .f32⟩
  | 117 => ⟨S32x2048x4x128, .f32⟩
  | 118 => ⟨S_, .f32⟩
  | 119 => ⟨S32x2048x4, .f32⟩
  | 120 => ⟨S32x2048x4x1, .f32⟩
  | 121 => ⟨S_, .f32⟩
  | 122 => ⟨S32x2048x4x1, .f32⟩
  | 123 => ⟨S32x2048x4x1, .f32⟩
  | 124 => ⟨S_, .f32⟩
  | 125 => ⟨S32x2048x4x1, .f32⟩
  | 126 => ⟨S32x2048x4x1, .f32⟩
  | 127 => ⟨S32x2048x4x1, .f32⟩
  | _ => ⟨S32x2048x1024, .f32⟩

abbrev hbmTy0_2 (i : Nat) : BufTy := match i % 128 with
  | 0 => ⟨S32x2048x4x128, .f32⟩
  | 1 => ⟨S32x2048x4x128, .f32⟩
  | 2 => ⟨S32x2048x512, .f32⟩
  | 3 => ⟨S32x2048x512, .f32⟩
  | 4 => ⟨S_, .f32⟩
  | 5 => ⟨S32x2048x512, .f32⟩
  | 6 => ⟨S32x2048x512, .f32⟩
  | 7 => ⟨S_, .f32⟩
  | 8 => ⟨S32x2048x512, .f32⟩
  | 9 => ⟨S32x2048x512, .f32⟩
  | 10 => ⟨S32x2048x512, .f32⟩
  | 11 => ⟨S32x2048x512, .f32⟩
  | 12 => ⟨S32x2048x512, .f32⟩
  | 13 => ⟨S32x2048x1024, .f32⟩
  | 14 => ⟨S1024x1024, .f32⟩
  | 15 => ⟨S32x2048x1024, .f32⟩
  | 16 => ⟨S1024, .f32⟩
  | 17 => ⟨S32x2048x1024, .f32⟩
  | 18 => ⟨S_, .f32⟩
  | 19 => ⟨S32x2048, .f32⟩
  | 20 => ⟨S32x2048x1, .f32⟩
  | 21 => ⟨S_, .f32⟩
  | 22 => ⟨S32x2048x1, .f32⟩
  | 23 => ⟨S32x2048x1, .f32⟩
  | 24 => ⟨S_, .f32⟩
  | 25 => ⟨S32x2048x1, .f32⟩
  | 26 => ⟨S32x2048x1, .f32⟩
  | 27 => ⟨S32x2048x1, .f32⟩
  | 28 => ⟨S32x2048x1024, .f32⟩
  | 29 => ⟨S32x2048x1024, .f32⟩
  | 30 => ⟨S1x1x1024, .f32⟩
  | 31 => ⟨S32x2048x1024, .f32⟩
  | 32 => ⟨S32x2048x1024, .f32⟩
  | 33 => ⟨S32x2048x1024, .f32⟩
  | 34 => ⟨S32x2048x1024, .f32⟩
  | 35 => ⟨S32x2048x1024, .f32⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c : Ref sig .tc := ⟨.hbm, 52, rfl⟩
abbrev main_call0_v0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_3 : Ref sig .tc := ⟨.hbm, 79, rfl⟩
abbrev main_v65 : Ref sig .tc := ⟨.hbm, 80, rfl⟩
abbrev main_v66 : Ref sig .tc := ⟨.hbm, 81, rfl⟩
abbrev main_cst_4 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_5 : Ref sig .tc := ⟨.hbm, 111, rfl⟩
abbrev main_v95 : Ref sig .tc := ⟨.hbm, 112, rfl⟩
abbrev main_v96 : Ref sig .tc := ⟨.hbm, 113, rfl⟩
abbrev main_cst_6 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_cst_7 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_cst_8 : Ref sig .tc := ⟨.hbm, 151, rfl⟩
abbrev main_v132 : Ref sig .tc := ⟨.hbm, 152, rfl⟩
abbrev main_v133 : Ref sig .tc := ⟨.hbm, 153, rfl⟩
abbrev main_cst_9 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_cst_10 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_cst_11 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_cst_12 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_cst_13 : Ref sig .tc := ⟨.hbm, 206, rfl⟩
abbrev main_v182 : Ref sig .tc := ⟨.hbm, 207, rfl⟩
abbrev main_cst_14 : Ref sig .tc := ⟨.hbm, 208, rfl⟩
abbrev main_v183 : Ref sig .tc := ⟨.hbm, 209, rfl⟩
abbrev main_c_15 : Ref sig .tc := ⟨.hbm, 210, rfl⟩
abbrev main_v184_0 : Ref sig .tc := ⟨.hbm, 211, rfl⟩
abbrev main_v184_1 : Ref sig .tc := ⟨.hbm, 212, rfl⟩
abbrev main_v184_2 : Ref sig .tc := ⟨.hbm, 213, rfl⟩
abbrev main_v184_3 : Ref sig .tc := ⟨.hbm, 214, rfl⟩
abbrev main_v184_4 : Ref sig .tc := ⟨.hbm, 215, rfl⟩
abbrev main_while0c_c_26 : Ref sig .tc := ⟨.hbm, 216, rfl⟩
abbrev main_while0c_v226 : Ref sig .tc := ⟨.hbm, 217, rfl⟩
abbrev main_while0b_call1_c : Ref sig .tc := ⟨.hbm, 218, rfl⟩
abbrev main_while0b_call1_c_0 : Ref sig .tc := ⟨.hbm, 219, rfl⟩
abbrev main_while0b_call1_c_1 : Ref sig .tc := ⟨.hbm, 220, rfl⟩
abbrev main_while0b_call1_c_2 : Ref sig .tc := ⟨.hbm, 221, rfl⟩
abbrev main_while0b_call1_v0 : Ref sig .tc := ⟨.hbm, 222, rfl⟩
abbrev main_while0b_v226 : Ref sig .tc := ⟨.hbm, 223, rfl⟩
abbrev main_while0b_v227 : Ref sig .tc := ⟨.hbm, 224, rfl⟩
abbrev main_while0b_v228 : Ref sig .tc := ⟨.hbm, 225, rfl⟩
abbrev main_while0b_v229 : Ref sig .tc := ⟨.hbm, 226, rfl⟩
abbrev main_while0b_v230 : Ref sig .tc := ⟨.hbm, 227, rfl⟩
abbrev main_while0b_v231 : Ref sig .tc := ⟨.hbm, 228, rfl⟩
abbrev main_while0b_call2_v0 : Ref sig .tc := ⟨.hbm, 229, rfl⟩
abbrev main_while0b_call2_c : Ref sig .tc := ⟨.hbm, 230, rfl⟩
abbrev main_while0b_call2_c_0 : Ref sig .tc := ⟨.hbm, 231, rfl⟩
abbrev main_while0b_call2_c_1 : Ref sig .tc := ⟨.hbm, 232, rfl⟩
abbrev main_while0b_call2_c_2 : Ref sig .tc := ⟨.hbm, 233, rfl⟩
abbrev main_while0b_v232 : Ref sig .tc := ⟨.hbm, 234, rfl⟩
abbrev main_while0b_c_26 : Ref sig .tc := ⟨.hbm, 235, rfl⟩
abbrev main_while0b_v233 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_cst_16 : Ref sig .tc := ⟨.hbm, 246, rfl⟩
abbrev main_v194 : Ref sig .tc := ⟨.hbm, 247, rfl⟩
abbrev main_v195 : Ref sig .tc := ⟨.hbm, 248, rfl⟩
abbrev main_cst_17 : Ref sig .tc := ⟨.hbm, 249, rfl⟩
abbrev main_v196 : Ref sig .tc := ⟨.hbm, 250, rfl⟩
abbrev main_v197 : Ref sig .tc := ⟨.hbm, 251, rfl⟩
abbrev main_cst_18 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_call3_v0 : Ref sig .tc := ⟨.hbm, 258, rfl⟩
abbrev main_call3_v1 : Ref sig .tc := ⟨.hbm, 259, rfl⟩
abbrev main_call3_cst : Ref sig .tc := ⟨.hbm, 260, rfl⟩
abbrev main_call3_v2 : Ref sig .tc := ⟨.hbm, 261, rfl⟩
abbrev main_call3_v3 : Ref sig .tc := ⟨.hbm, 262, rfl⟩
abbrev main_call3_cst_0 : Ref sig .tc := ⟨.hbm, 263, rfl⟩
abbrev main_call3_v4 : Ref sig .tc := ⟨.hbm, 264, rfl⟩
abbrev main_call3_v5 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_cst_19 : Ref sig .tc := ⟨.hbm, 274, rfl⟩
abbrev main_v211 : Ref sig .tc := ⟨.hbm, 275, rfl⟩
abbrev main_v212 : Ref sig .tc := ⟨.hbm, 276, rfl⟩
abbrev main_cst_20 : Ref sig .tc := ⟨.hbm, 277, rfl⟩
abbrev main_v213 : Ref sig .tc := ⟨.hbm, 278, rfl⟩
abbrev main_v214 : Ref sig .tc := ⟨.hbm, 279, rfl⟩
abbrev main_cst_21 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩

abbrev nD : Nat := 1
abbrev τ : Topo := Topo.v7x

variable {F : FTy → Type} [FloatOps F]

abbrev main_while0_count : Scf.Loop 32 := ⟨0#32, 32#32, 1#32⟩
-- ==== Mlp.lean ====
abbrev S32x2048x1024 : Shape := ⟨3, ![32, 2048, 1024]⟩
abbrev S6x32x1024 : Shape := ⟨3, ![6, 32, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x1024 : Shape := ⟨2, ![4096, 1024]⟩
abbrev S2x1024x1024 : Shape := ⟨3, ![2, 1024, 1024]⟩
abbrev S2 : Shape := ⟨1, ![2]⟩
abbrev S4x64x4096 : Shape := ⟨3, ![4, 64, 4096]⟩
abbrev S4x256x1024 : Shape := ⟨3, ![4, 256, 1024]⟩
abbrev S4 : Shape := ⟨1, ![4]⟩
abbrev S1 : Shape := ⟨1, ![1]⟩
abbrev S_ : Shape := ⟨0, ![]⟩
abbrev S1x1024x1024 : Shape := ⟨3, ![1, 1024, 1024]⟩
abbrev S1x64x4096 : Shape := ⟨3, ![1, 64, 4096]⟩
abbrev S64x4096 : Shape := ⟨2, ![64, 4096]⟩
abbrev S1x256x1024 : Shape := ⟨3, ![1, 256, 1024]⟩
abbrev S256x1024 : Shape := ⟨2, ![256, 1024]⟩
abbrev S1x1x1024 : Shape := ⟨3, ![1, 1, 1024]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩

abbrev nBuf : Space → Nat
  | .hbm => 9
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S6x32x1024, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S1024x4096, .f32⟩
  | .hbm, ⟨7, _⟩ => ⟨S4096x1024, .f32⟩
  | .hbm, ⟨8, _⟩ => ⟨S32x2048x1024, .f32⟩
  | .local _ .vmem, ⟨0, _⟩ => ⟨S6x32x1024, .f32⟩
  | .local _ .vmem, ⟨1, _⟩ => ⟨S1x1024, .f32⟩
  | .local _ .vmem, ⟨2, _⟩ => ⟨S1x1024, .f32⟩
  | .local _ .vmem, ⟨3, _⟩ => ⟨S2x1024x1024, .f32⟩
  | .local _ .vmem, ⟨4, _⟩ => ⟨S2x1024x1024, .f32⟩
  | .local _ .vmem, ⟨5, _⟩ => ⟨S1024x4096, .bf16⟩
  | .local _ .vmem, ⟨6, _⟩ => ⟨S4096x1024, .bf16⟩
  | .local _ .vmem, ⟨7, _⟩ => ⟨S4x64x4096, .f32⟩
  | .local _ .vmem, ⟨8, _⟩ => ⟨S4x256x1024, .f32⟩
  | .local _ .vmem, ⟨9, _⟩ => ⟨S1024x4096, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch10 : Ref sig .tc := ⟨.vmem, 9, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_489 : BitVec 32 := 0#32
  let c64_i32_490 : BitVec 32 := 64#32
  let v516 : BitVec 32 := Scalar.addi c0_i32_489 c64_i32_490
  let c1_i32_491 : BitVec 32 := 1#32
  ⟨c0_i32_489, v516, c1_i32_491⟩
def k0_cond1 (k0_t1 : Fin k0_t1_loop.trips) : BitVec 1 :=
  let c0_i32_489 : BitVec 32 := 0#32
  let c1_i32_491 : BitVec 32 := 1#32
  let arg18 : BitVec 32 := Scf.iv c0_i32_489 c1_i32_491 k0_t1
  let c1_i32_512 : BitVec 32 := 1#32
  let v535 : BitVec 32 := Scalar.addi arg18 c1_i32_512
  let c64_i32_513 : BitVec 32 := 64#32
  let v536 : BitVec 1 := Scalar.cmpi .slt v535 c64_i32_513
  let v537 : BitVec 32 := Scalar.extui v536
  let c0_i32_514 : BitVec 32 := 0#32
  let v538 : BitVec 1 := Scalar.cmpi .ne v537 c0_i32_514
  v538

def k0_off1 (k0_t1 : Fin k0_t1_loop.trips) : Fin 1 → Nat :=
  let c1_i32_641 : BitVec 32 := 1#32
  let c0_i32_489 : BitVec 32 := 0#32
  let c1_i32_491 : BitVec 32 := 1#32
  let arg18 : BitVec 32 := Scf.iv c0_i32_489 c1_i32_491 k0_t1
  let c2_i32_506 : BitVec 32 := 2#32
  let c0_i32_507 : BitVec 32 := 0#32
  let v525 : BitVec 1 := Scalar.cmpi .eq c2_i32_506 c0_i32_507
  let c1_i32_508 : BitVec 32 := 1#32
  let v526 : BitVec 32 := Scalar.select v525 c1_i32_508 c2_i32_506
  let v527 : BitVec 32 := Scalar.remsi arg18 v526
  let c0_i32_510 : BitVec 32 := 0#32
  let v529 : BitVec 1 := Scalar.cmpi .slt v527 c0_i32_510
  let c0_i32_511 : BitVec 32 := 0#32
  let v530 : BitVec 1 := Scalar.cmpi .slt v526 c0_i32_511
  let v531 : BitVec 1 := Scalar.xori v529 v530
  let c0_i32_509 : BitVec 32 := 0#32
  let v528 : BitVec 1 := Scalar.cmpi .ne v527 c0_i32_509
  let v532 : BitVec 1 := Scalar.andi v531 v528
  let v533 : BitVec 32 := Scalar.addi v527 v526
  let v534 : BitVec 32 := Scalar.select v532 v533 v527
  let v752 : BitVec 32 := Scalar.subi c1_i32_641 v534
  ![v752.toNat]
def k0_off2 (k0_t1 : Fin k0_t1_loop.trips) : Fin 3 → Nat :=
  let c1_i32_641 : BitVec 32 := 1#32
  let c0_i32_489 : BitVec 32 := 0#32
  let c1_i32_491 : BitVec 32 := 1#32
  let arg18 : BitVec 32 := Scf.iv c0_i32_489 c1_i32_491 k0_t1
  let c2_i32_506 : BitVec 32 := 2#32
  let c0_i32_507 : BitVec 32 := 0#32
  let v525 : BitVec 1 := Scalar.cmpi .eq c2_i32_506 c0_i32_507
  let c1_i32_508 : BitVec 32 := 1#32
  let v526 : BitVec 32 := Scalar.select v525 c1_i32_508 c2_i32_506
  let v527 : BitVec 32 := Scalar.remsi arg18 v526
  let c0_i32_510 : BitVec 32 := 0#32
  let v529 : BitVec 1 := Scalar.cmpi .slt v527 c0_i32_510
  let c0_i32_511 : BitVec 32 := 0#32
  let v530 : BitVec 1 := Scalar.cmpi .slt v526 c0_i32_511
  let v531 : BitVec 1 := Scalar.xori v529 v530
  let c0_i32_509 : BitVec 32 := 0#32
  let v528 : BitVec 1 := Scalar.cmpi .ne v527 c0_i32_509
  let v532 : BitVec 1 := Scalar.andi v531 v528
  let v533 : BitVec 32 := Scalar.addi v527 v526
  let v534 : BitVec 32 := Scalar.select v532 v533 v527
  let v752 : BitVec 32 := Scalar.subi c1_i32_641 v534
  let c0_i32_656 : BitVec 32 := 0#32
  let c0_i32_657 : BitVec 32 := 0#32
  ![v752.toNat, 0, 0]
def k0_off3 (k0_t1 : Fin k0_t1_loop.trips) : Fin 3 → Nat :=
  let c0_i32_489 : BitVec 32 := 0#32
  let c1_i32_491 : BitVec 32 := 1#32
  let arg18 : BitVec 32 := Scf.iv c0_i32_489 c1_i32_491 k0_t1
  let c1_i32_640 : BitVec 32 := 1#32
  let v751 : BitVec 32 := Scalar.addi arg18 c1_i32_640
  let c0_i32_643 : BitVec 32 := 0#32
  let v754 : BitVec 1 := Scalar.cmpi .sgt v751 c0_i32_643
  let v755 : BitVec 32 := Scalar.extui v754
  let c0_i32_644 : BitVec 32 := 0#32
  let v756 : BitVec 1 := Scalar.cmpi .slt v751 c0_i32_644
  let v757 : BitVec 32 := Scalar.extui v756
  let v758 : BitVec 32 := Scalar.subi v755 v757
  let c2_i32_642 : BitVec 32 := 2#32
  let c0_i32_645 : BitVec 32 := 0#32
  let v759 : BitVec 1 := Scalar.cmpi .sgt c2_i32_642 c0_i32_645
  let v760 : BitVec 32 := Scalar.extui v759
  let c0_i32_646 : BitVec 32 := 0#32
  let v761 : BitVec 1 := Scalar.cmpi .slt c2_i32_642 c0_i32_646
  let v762 : BitVec 32 := Scalar.extui v761
  let v763 : BitVec 32 := Scalar.subi v760 v762
  let v764 : BitVec 1 := Scalar.cmpi .ne v758 v763
  let v765 : BitVec 32 := Scalar.remsi v751 c2_i32_642
  let c0_i32_647 : BitVec 32 := 0#32
  let v766 : BitVec 1 := Scalar.cmpi .ne v765 c0_i32_647
  let v767 : BitVec 1 := Scalar.andi v764 v766
  let v753 : BitVec 32 := Scalar.divsi v751 c2_i32_642
  let c1_i32_648 : BitVec 32 := 1#32
  let v768 : BitVec 32 := Scalar.subi v753 c1_i32_648
  let v769 : BitVec 32 := Scalar.select v767 v768 v753
  let c2_i32_649 : BitVec 32 := 2#32
  let c0_i32_650 : BitVec 32 := 0#32
  let v770 : BitVec 1 := Scalar.cmpi .eq c2_i32_649 c0_i32_650
  let c1_i32_651 : BitVec 32 := 1#32
  let v771 : BitVec 32 := Scalar.select v770 c1_i32_651 c2_i32_649
  let v772 : BitVec 32 := Scalar.remsi v751 v771
  let c0_i32_653 : BitVec 32 := 0#32
  let v774 : BitVec 1 := Scalar.cmpi .slt v772 c0_i32_653
  let c0_i32_654 : BitVec 32 := 0#32
  let v775 : BitVec 1 := Scalar.cmpi .slt v771 c0_i32_654
  let v776 : BitVec 1 := Scalar.xori v774 v775
  let c0_i32_652 : BitVec 32 := 0#32
  let v773 : BitVec 1 := Scalar.cmpi .ne v772 c0_i32_652
  let v777 : BitVec 1 := Scalar.andi v776 v773
  let v778 : BitVec 32 := Scalar.addi v772 v771
  let v779 : BitVec 32 := Scalar.select v777 v778 v772
  let c1024_i32_655 : BitVec 32 := 1024#32
  let v780 : BitVec 32 := Scalar.muli v779 c1024_i32_655
  let c0_i32_658 : BitVec 32 := 0#32
  ![v769.toNat, v780.toNat, 0]
def k0_off4 (k0_t1 : Fin k0_t1_loop.trips) : Fin 1 → Nat :=
  let c0_i32_489 : BitVec 32 := 0#32
  let c1_i32_491 : BitVec 32 := 1#32
  let arg18 : BitVec 32 := Scf.iv c0_i32_489 c1_i32_491 k0_t1
  let c2_i32_506 : BitVec 32 := 2#32
  let c0_i32_507 : BitVec 32 := 0#32
  let v525 : BitVec 1 := Scalar.cmpi .eq c2_i32_506 c0_i32_507
  let c1_i32_508 : BitVec 32 := 1#32
  let v526 : BitVec 32 := Scalar.select v525 c1_i32_508 c2_i32_506
  let v527 : BitVec 32 := Scalar.remsi arg18 v526
  let c0_i32_510 : BitVec 32 := 0#32
  let v529 : BitVec 1 := Scalar.cmpi .slt v527 c0_i32_510
  let c0_i32_511 : BitVec 32 := 0#32
  let v530 : BitVec 1 := Scalar.cmpi .slt v526 c0_i32_511
  let v531 : BitVec 1 := Scalar.xori v529 v530
  let c0_i32_509 : BitVec 32 := 0#32
  let v528 : BitVec 1 := Scalar.cmpi .ne v527 c0_i32_509
  let v532 : BitVec 1 := Scalar.andi v531 v528
  let v533 : BitVec 32 := Scalar.addi v527 v526
  let v534 : BitVec 32 := Scalar.select v532 v533 v527
  ![v534.toNat]
def k0_off5 (k0_t1 : Fin k0_t1_loop.trips) : Fin 3 → Nat :=
  let c0_i32_489 : BitVec 32 := 0#32
  let c1_i32_491 : BitVec 32 := 1#32
  let arg18 : BitVec 32 := Scf.iv c0_i32_489 c1_i32_491 k0_t1
  let c2_i32_506 : BitVec 32 := 2#32
  let c0_i32_507 : BitVec 32 := 0#32
  let v525 : BitVec 1 := Scalar.cmpi .eq c2_i32_506 c0_i32_507
  let c1_i32_508 : BitVec 32 := 1#32
  let v526 : BitVec 32 := Scalar.select v525 c1_i32_508 c2_i32_506
  let v527 : BitVec 32 := Scalar.remsi arg18 v526
  let c0_i32_510 : BitVec 32 := 0#32
  let v529 : BitVec 1 := Scalar.cmpi .slt v527 c0_i32_510
  let c0_i32_511 : BitVec 32 := 0#32
  let v530 : BitVec 1 := Scalar.cmpi .slt v526 c0_i32_511
  let v531 : BitVec 1 := Scalar.xori v529 v530
  let c0_i32_509 : BitVec 32 := 0#32
  let v528 : BitVec 1 := Scalar.cmpi .ne v527 c0_i32_509
  let v532 : BitVec 1 := Scalar.andi v531 v528
  let v533 : BitVec 32 := Scalar.addi v527 v526
  let v534 : BitVec 32 := Scalar.select v532 v533 v527
  let c0_i32_529 : BitVec 32 := 0#32
  let c0_i32_530 : BitVec 32 := 0#32
  ![v534.toNat, 0, 0]
def k0_off6 (k0_t1 : Fin k0_t1_loop.trips) : Fin 3 → Nat :=
  let c0_i32_489 : BitVec 32 := 0#32
  let c1_i32_491 : BitVec 32 := 1#32
  let arg18 : BitVec 32 := Scf.iv c0_i32_489 c1_i32_491 k0_t1
  let c0_i32_516 : BitVec 32 := 0#32
  let v540 : BitVec 1 := Scalar.cmpi .sgt arg18 c0_i32_516
  let v541 : BitVec 32 := Scalar.extui v540
  let c0_i32_517 : BitVec 32 := 0#32
  let v542 : BitVec 1 := Scalar.cmpi .slt arg18 c0_i32_517
  let v543 : BitVec 32 := Scalar.extui v542
  let v544 : BitVec 32 := Scalar.subi v541 v543
  let c2_i32_515 : BitVec 32 := 2#32
  let c0_i32_518 : BitVec 32 := 0#32
  let v545 : BitVec 1 := Scalar.cmpi .sgt c2_i32_515 c0_i32_518
  let v546 : BitVec 32 := Scalar.extui v545
  let c0_i32_519 : BitVec 32 := 0#32
  let v547 : BitVec 1 := Scalar.cmpi .slt c2_i32_515 c0_i32_519
  let v548 : BitVec 32 := Scalar.extui v547
  let v549 : BitVec 32 := Scalar.subi v546 v548
  let v550 : BitVec 1 := Scalar.cmpi .ne v544 v549
  let v551 : BitVec 32 := Scalar.remsi arg18 c2_i32_515
  let c0_i32_520 : BitVec 32 := 0#32
  let v552 : BitVec 1 := Scalar.cmpi .ne v551 c0_i32_520
  let v553 : BitVec 1 := Scalar.andi v550 v552
  let v539 : BitVec 32 := Scalar.divsi arg18 c2_i32_515
  let c1_i32_521 : BitVec 32 := 1#32
  let v554 : BitVec 32 := Scalar.subi v539 c1_i32_521
  let v555 : BitVec 32 := Scalar.select v553 v554 v539
  let c2_i32_522 : BitVec 32 := 2#32
  let c0_i32_523 : BitVec 32 := 0#32
  let v556 : BitVec 1 := Scalar.cmpi .eq c2_i32_522 c0_i32_523
  let c1_i32_524 : BitVec 32 := 1#32
  let v557 : BitVec 32 := Scalar.select v556 c1_i32_524 c2_i32_522
  let v558 : BitVec 32 := Scalar.remsi arg18 v557
  let c0_i32_526 : BitVec 32 := 0#32
  let v560 : BitVec 1 := Scalar.cmpi .slt v558 c0_i32_526
  let c0_i32_527 : BitVec 32 := 0#32
  let v561 : BitVec 1 := Scalar.cmpi .slt v557 c0_i32_527
  let v562 : BitVec 1 := Scalar.xori v560 v561
  let c0_i32_525 : BitVec 32 := 0#32
  let v559 : BitVec 1 := Scalar.cmpi .ne v558 c0_i32_525
  let v563 : BitVec 1 := Scalar.andi v562 v559
  let v564 : BitVec 32 := Scalar.addi v558 v557
  let v565 : BitVec 32 := Scalar.select v563 v564 v558
  let c1024_i32_528 : BitVec 32 := 1024#32
  let v566 : BitVec 32 := Scalar.muli v565 c1024_i32_528
  let c0_i32_531 : BitVec 32 := 0#32
  ![v555.toNat, v566.toNat, 0]
def k0_cond2 (k0_t1 : Fin k0_t1_loop.trips) : BitVec 1 :=
  let c0_i32_489 : BitVec 32 := 0#32
  let c1_i32_491 : BitVec 32 := 1#32
  let arg18 : BitVec 32 := Scf.iv c0_i32_489 c1_i32_491 k0_t1
  let c2_i32_532 : BitVec 32 := 2#32
  let v571 : BitVec 1 := Scalar.cmpi .sge arg18 c2_i32_532
  let v572 : BitVec 32 := Scalar.extui v571
  let c0_i32_533 : BitVec 32 := 0#32
  let v573 : BitVec 1 := Scalar.cmpi .ne v572 c0_i32_533
  v573

def k0_off7 (k0_t1 : Fin k0_t1_loop.trips) : Fin 1 → Nat :=
  let c0_i32_489 : BitVec 32 := 0#32
  let c1_i32_491 : BitVec 32 := 1#32
  let arg18 : BitVec 32 := Scf.iv c0_i32_489 c1_i32_491 k0_t1
  let c2_i32_506 : BitVec 32 := 2#32
  let c0_i32_507 : BitVec 32 := 0#32
  let v525 : BitVec 1 := Scalar.cmpi .eq c2_i32_506 c0_i32_507
  let c1_i32_508 : BitVec 32 := 1#32
  let v526 : BitVec 32 := Scalar.select v525 c1_i32_508 c2_i32_506
  let v527 : BitVec 32 := Scalar.remsi arg18 v526
  let c0_i32_510 : BitVec 32 := 0#32
  let v529 : BitVec 1 := Scalar.cmpi .slt v527 c0_i32_510
  let c0_i32_511 : BitVec 32 := 0#32
  let v530 : BitVec 1 := Scalar.cmpi .slt v526 c0_i32_511
  let v531 : BitVec 1 := Scalar.xori v529 v530
  let c0_i32_509 : BitVec 32 := 0#32
  let v528 : BitVec 1 := Scalar.cmpi .ne v527 c0_i32_509
  let v532 : BitVec 1 := Scalar.andi v531 v528
  let v533 : BitVec 32 := Scalar.addi v527 v526
  let v534 : BitVec 32 := Scalar.select v532 v533 v527
  ![v534.toNat]
def k0_off8 (k0_t1 : Fin k0_t1_loop.trips) : Fin 3 → Nat :=
  let c0_i32_489 : BitVec 32 := 0#32
  let c1_i32_491 : BitVec 32 := 1#32
  let arg18 : BitVec 32 := Scf.iv c0_i32_489 c1_i32_491 k0_t1
  let c2_i32_640 : BitVec 32 := 2#32
  let v751 : BitVec 32 := Scalar.subi arg18 c2_i32_640
  let c0_i32_642 : BitVec 32 := 0#32
  let v753 : BitVec 1 := Scalar.cmpi .sgt v751 c0_i32_642
  let v754 : BitVec 32 := Scalar.extui v753
  let c0_i32_643 : BitVec 32 := 0#32
  let v755 : BitVec 1 := Scalar.cmpi .slt v751 c0_i32_643
  let v756 : BitVec 32 := Scalar.extui v755
  let v757 : BitVec 32 := Scalar.subi v754 v756
  let c2_i32_641 : BitVec 32 := 2#32
  let c0_i32_644 : BitVec 32 := 0#32
  let v758 : BitVec 1 := Scalar.cmpi .sgt c2_i32_641 c0_i32_644
  let v759 : BitVec 32 := Scalar.extui v758
  let c0_i32_645 : BitVec 32 := 0#32
  let v760 : BitVec 1 := Scalar.cmpi .slt c2_i32_641 c0_i32_645
  let v761 : BitVec 32 := Scalar.extui v760
  let v762 : BitVec 32 := Scalar.subi v759 v761
  let v763 : BitVec 1 := Scalar.cmpi .ne v757 v762
  let v764 : BitVec 32 := Scalar.remsi v751 c2_i32_641
  let c0_i32_646 : BitVec 32 := 0#32
  let v765 : BitVec 1 := Scalar.cmpi .ne v764 c0_i32_646
  let v766 : BitVec 1 := Scalar.andi v763 v765
  let v752 : BitVec 32 := Scalar.divsi v751 c2_i32_641
  let c1_i32_647 : BitVec 32 := 1#32
  let v767 : BitVec 32 := Scalar.subi v752 c1_i32_647
  let v768 : BitVec 32 := Scalar.select v766 v767 v752
  let c2_i32_648 : BitVec 32 := 2#32
  let c0_i32_649 : BitVec 32 := 0#32
  let v769 : BitVec 1 := Scalar.cmpi .eq c2_i32_648 c0_i32_649
  let c1_i32_650 : BitVec 32 := 1#32
  let v770 : BitVec 32 := Scalar.select v769 c1_i32_650 c2_i32_648
  let v771 : BitVec 32 := Scalar.remsi v751 v770
  let c0_i32_652 : BitVec 32 := 0#32
  let v773 : BitVec 1 := Scalar.cmpi .slt v771 c0_i32_652
  let c0_i32_653 : BitVec 32 := 0#32
  let v774 : BitVec 1 := Scalar.cmpi .slt v770 c0_i32_653
  let v775 : BitVec 1 := Scalar.xori v773 v774
  let c0_i32_651 : BitVec 32 := 0#32
  let v772 : BitVec 1 := Scalar.cmpi .ne v771 c0_i32_651
  let v776 : BitVec 1 := Scalar.andi v775 v772
  let v777 : BitVec 32 := Scalar.addi v771 v770
  let v778 : BitVec 32 := Scalar.select v776 v777 v771
  let c1024_i32_654 : BitVec 32 := 1024#32
  let v779 : BitVec 32 := Scalar.muli v778 c1024_i32_654
  let c0_i32_655 : BitVec 32 := 0#32
  ![v768.toNat, v779.toNat, 0]
def k0_off9 (k0_t1 : Fin k0_t1_loop.trips) : Fin 3 → Nat :=
  let c0_i32_489 : BitVec 32 := 0#32
  let c1_i32_491 : BitVec 32 := 1#32
  let arg18 : BitVec 32 := Scf.iv c0_i32_489 c1_i32_491 k0_t1
  let c2_i32_506 : BitVec 32 := 2#32
  let c0_i32_507 : BitVec 32 := 0#32
  let v525 : BitVec 1 := Scalar.cmpi .eq c2_i32_506 c0_i32_507
  let c1_i32_508 : BitVec 32 := 1#32
  let v526 : BitVec 32 := Scalar.select v525 c1_i32_508 c2_i32_506
  let v527 : BitVec 32 := Scalar.remsi arg18 v526
  let c0_i32_510 : BitVec 32 := 0#32
  let v529 : BitVec 1 := Scalar.cmpi .slt v527 c0_i32_510
  let c0_i32_511 : BitVec 32 := 0#32
  let v530 : BitVec 1 := Scalar.cmpi .slt v526 c0_i32_511
  let v531 : BitVec 1 := Scalar.xori v529 v530
  let c0_i32_509 : BitVec 32 := 0#32
  let v528 : BitVec 1 := Scalar.cmpi .ne v527 c0_i32_509
  let v532 : BitVec 1 := Scalar.andi v531 v528
  let v533 : BitVec 32 := Scalar.addi v527 v526
  let v534 : BitVec 32 := Scalar.select v532 v533 v527
  let c0_i32_656 : BitVec 32 := 0#32
  let c0_i32_657 : BitVec 32 := 0#32
  ![v534.toNat, 0, 0]
def k0_off10 (k0_t1 : Fin k0_t1_loop.trips) : Fin 3 → Nat :=
  let c3_541 : Index := 3#32
  let c0_i32_489 : BitVec 32 := 0#32
  let c1_i32_491 : BitVec 32 := 1#32
  let arg18 : BitVec 32 := Scf.iv c0_i32_489 c1_i32_491 k0_t1
  let c0_i32_535 : BitVec 32 := 0#32
  let v575 : BitVec 1 := Scalar.cmpi .sgt arg18 c0_i32_535
  let v576 : BitVec 32 := Scalar.extui v575
  let c0_i32_536 : BitVec 32 := 0#32
  let v577 : BitVec 1 := Scalar.cmpi .slt arg18 c0_i32_536
  let v578 : BitVec 32 := Scalar.extui v577
  let v579 : BitVec 32 := Scalar.subi v576 v578
  let c2_i32_534 : BitVec 32 := 2#32
  let c0_i32_537 : BitVec 32 := 0#32
  let v580 : BitVec 1 := Scalar.cmpi .sgt c2_i32_534 c0_i32_537
  let v581 : BitVec 32 := Scalar.extui v580
  let c0_i32_538 : BitVec 32 := 0#32
  let v582 : BitVec 1 := Scalar.cmpi .slt c2_i32_534 c0_i32_538
  let v583 : BitVec 32 := Scalar.extui v582
  let v584 : BitVec 32 := Scalar.subi v581 v583
  let v585 : BitVec 1 := Scalar.cmpi .ne v579 v584
  let v586 : BitVec 32 := Scalar.remsi arg18 c2_i32_534
  let c0_i32_539 : BitVec 32 := 0#32
  let v587 : BitVec 1 := Scalar.cmpi .ne v586 c0_i32_539
  let v588 : BitVec 1 := Scalar.andi v585 v587
  let v574 : BitVec 32 := Scalar.divsi arg18 c2_i32_534
  let c1_i32_540 : BitVec 32 := 1#32
  let v589 : BitVec 32 := Scalar.subi v574 c1_i32_540
  let v590 : BitVec 32 := Scalar.select v588 v589 v574
  let v591 : Index := Scalar.indexCast v590
  let c0_542 : Index := 0#32
  ![3, v591.toNat, 0]
def k0_off11 (k0_t1 : Fin k0_t1_loop.trips) : Fin 3 → Nat :=
  let c4 : Index := 4#32
  let c0_i32_489 : BitVec 32 := 0#32
  let c1_i32_491 : BitVec 32 := 1#32
  let arg18 : BitVec 32 := Scf.iv c0_i32_489 c1_i32_491 k0_t1
  let c0_i32_535 : BitVec 32 := 0#32
  let v575 : BitVec 1 := Scalar.cmpi .sgt arg18 c0_i32_535
  let v576 : BitVec 32 := Scalar.extui v575
  let c0_i32_536 : BitVec 32 := 0#32
  let v577 : BitVec 1 := Scalar.cmpi .slt arg18 c0_i32_536
  let v578 : BitVec 32 := Scalar.extui v577
  let v579 : BitVec 32 := Scalar.subi v576 v578
  let c2_i32_534 : BitVec 32 := 2#32
  let c0_i32_537 : BitVec 32 := 0#32
  let v580 : BitVec 1 := Scalar.cmpi .sgt c2_i32_534 c0_i32_537
  let v581 : BitVec 32 := Scalar.extui v580
  let c0_i32_538 : BitVec 32 := 0#32
  let v582 : BitVec 1 := Scalar.cmpi .slt c2_i32_534 c0_i32_538
  let v583 : BitVec 32 := Scalar.extui v582
  let v584 : BitVec 32 := Scalar.subi v581 v583
  let v585 : BitVec 1 := Scalar.cmpi .ne v579 v584
  let v586 : BitVec 32 := Scalar.remsi arg18 c2_i32_534
  let c0_i32_539 : BitVec 32 := 0#32
  let v587 : BitVec 1 := Scalar.cmpi .ne v586 c0_i32_539
  let v588 : BitVec 1 := Scalar.andi v585 v587
  let v574 : BitVec 32 := Scalar.divsi arg18 c2_i32_534
  let c1_i32_540 : BitVec 32 := 1#32
  let v589 : BitVec 32 := Scalar.subi v574 c1_i32_540
  let v590 : BitVec 32 := Scalar.select v588 v589 v574
  let v594 : Index := Scalar.indexCast v590
  let c0_543 : Index := 0#32
  ![4, v594.toNat, 0]
def k0_off12 (k0_t1 : Fin k0_t1_loop.trips) : Fin 3 → Nat :=
  let c5 : Index := 5#32
  let c0_i32_489 : BitVec 32 := 0#32
  let c1_i32_491 : BitVec 32 := 1#32
  let arg18 : BitVec 32 := Scf.iv c0_i32_489 c1_i32_491 k0_t1
  let c0_i32_535 : BitVec 32 := 0#32
  let v575 : BitVec 1 := Scalar.cmpi .sgt arg18 c0_i32_535
  let v576 : BitVec 32 := Scalar.extui v575
  let c0_i32_536 : BitVec 32 := 0#32
  let v577 : BitVec 1 := Scalar.cmpi .slt arg18 c0_i32_536
  let v578 : BitVec 32 := Scalar.extui v577
  let v579 : BitVec 32 := Scalar.subi v576 v578
  let c2_i32_534 : BitVec 32 := 2#32
  let c0_i32_537 : BitVec 32 := 0#32
  let v580 : BitVec 1 := Scalar.cmpi .sgt c2_i32_534 c0_i32_537
  let v581 : BitVec 32 := Scalar.extui v580
  let c0_i32_538 : BitVec 32 := 0#32
  let v582 : BitVec 1 := Scalar.cmpi .slt c2_i32_534 c0_i32_538
  let v583 : BitVec 32 := Scalar.extui v582
  let v584 : BitVec 32 := Scalar.subi v581 v583
  let v585 : BitVec 1 := Scalar.cmpi .ne v579 v584
  let v586 : BitVec 32 := Scalar.remsi arg18 c2_i32_534
  let c0_i32_539 : BitVec 32 := 0#32
  let v587 : BitVec 1 := Scalar.cmpi .ne v586 c0_i32_539
  let v588 : BitVec 1 := Scalar.andi v585 v587
  let v574 : BitVec 32 := Scalar.divsi arg18 c2_i32_534
  let c1_i32_540 : BitVec 32 := 1#32
  let v589 : BitVec 32 := Scalar.subi v574 c1_i32_540
  let v590 : BitVec 32 := Scalar.select v588 v589 v574
  let v597 : Index := Scalar.indexCast v590
  let c0_544 : Index := 0#32
  ![5, v597.toNat, 0]
abbrev stage0_0 : Fin 1 → Memref sig .tc .vmem S6x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== MlpRefIdeal.lean ====
abbrev S32x2048x1024 : Shape := ⟨3, ![32, 2048, 1024]⟩
abbrev S6x32x1024 : Shape := ⟨3, ![6, 32, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x32x1024 : Shape := ⟨3, ![1, 32, 1024]⟩
abbrev S32x1024 : Shape := ⟨2, ![32, 1024]⟩
abbrev S32x1x1024 : Shape := ⟨3, ![32, 1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x4096 : Shape := ⟨2, ![1024, 4096]⟩
abbrev S32x2048x4096 : Shape := ⟨3, ![32, 2048, 4096]⟩
abbrev S4096x1024 : Shape := ⟨2, ![4096, 1024]⟩

abbrev nBuf : Space → Nat
  | .hbm => 67
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S6x32x1024, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S1x32x1024, .f32⟩
  | .hbm, ⟨7, _⟩ => ⟨S32x1024, .f32⟩
  | .hbm, ⟨8, _⟩ => ⟨S32x1x1024, .f32⟩
  | .hbm, ⟨9, _⟩ => ⟨S1x32x1024, .f32⟩
  | .hbm, ⟨10, _⟩ => ⟨S32x1024, .f32⟩
  | .hbm, ⟨11, _⟩ => ⟨S32x1x1024, .f32⟩
  | .hbm, ⟨12, _⟩ => ⟨S1x32x1024, .f32⟩
  | .hbm, ⟨13, _⟩ => ⟨S32x1024, .f32⟩
  | .hbm, ⟨14, _⟩ => ⟨S32x1x1024, .f32⟩
  | .hbm, ⟨15, _⟩ => ⟨S1024, .f32⟩
  | .hbm, ⟨16, _⟩ => ⟨S32x2048x1024, .f32⟩
  | .hbm, ⟨17, _⟩ => ⟨S_, .f32⟩
  | .hbm, ⟨18, _⟩ => ⟨S32x2048, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S_, .f32⟩
  | .hbm, ⟨24, _⟩ => ⟨S32x2048x1, .f32⟩
  | .hbm, ⟨25, _⟩ => ⟨S32x2048x1, .f32⟩
  | .hbm, ⟨26, _⟩ => ⟨S32x2048x1, .f32⟩
  | .hbm, ⟨27, _⟩ => ⟨S32x2048x1024, .f32⟩
  | .hbm, ⟨28, _⟩ => ⟨S32x2048x1024, .f32⟩
  | .hbm, ⟨29, _⟩ => ⟨S1x1x1024, .f32⟩
  | .hbm, ⟨30, _⟩ => ⟨S32x2048x1024, .f32⟩
  | .hbm, ⟨31, _⟩ => ⟨S32x2048x1024, .f32⟩
  | .hbm, ⟨32, _⟩ => ⟨S_, .f32⟩
  | .hbm, ⟨33, _⟩ => ⟨S32x1x1024, .f32⟩
  | .hbm, ⟨34, _⟩ => ⟨S32x1x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S1024x4096, .f32⟩
  | .hbm, ⟨40, _⟩ => ⟨S32x2048x4096, .f32⟩
  | .hbm, ⟨41, _⟩ => ⟨S_, .f32⟩
  | .hbm, ⟨42, _⟩ => ⟨S32x2048x4096, .f32⟩
  | .hbm, ⟨43, _⟩ => ⟨S32x2048x4096, .f32⟩
  | .hbm, ⟨44, _⟩ => ⟨S32x2048x4096, .f32⟩
  | .hbm, ⟨45, _⟩ => ⟨S4096x1024, .f32⟩
  | .hbm, ⟨46, _⟩ => ⟨S32x2048x1024, .f32⟩
  | .hbm, ⟨47, _⟩ => ⟨S1024, .f32⟩
  | .hbm, ⟨48, _⟩ => ⟨S32x2048x1024, .f32⟩
  | .hbm, ⟨49, _⟩ => ⟨S_, .f32⟩
  | .hbm, ⟨50, _⟩ => ⟨S32x2048, .f32⟩
  | .hbm, ⟨51, _⟩ => ⟨S32x2048x1, .f32⟩
  | .hbm, ⟨52, _⟩ => ⟨S_, .f32⟩
  | .hbm, ⟨53, _⟩ => ⟨S32x2048x1, .f32⟩
  | .hbm, ⟨54, _⟩ => ⟨S32x2048x1, .f32⟩
  | .hbm, ⟨55, _⟩ => ⟨S_, .f32⟩
  | .hbm, ⟨56, _⟩ => ⟨S32x2048x1, .f32⟩
  | .hbm, ⟨57, _⟩ => ⟨S32x2048x1, .f32⟩
  | .hbm, ⟨58, _⟩ => ⟨S32x2048x1, .f32⟩
  | .hbm, ⟨59, _⟩ => ⟨S32x2048x1024, .f32⟩
  | .hbm, ⟨60, _⟩ => ⟨S32x2048x1024, .f32⟩
  | .hbm, ⟨61, _⟩ => ⟨S1x1x1024, .f32⟩
  | .hbm, ⟨62, _⟩ => ⟨S32x2048x1024, .f32⟩
  | .hbm, ⟨63, _⟩ => ⟨S32x2048x1024, .f32⟩
  | .hbm, ⟨64, _⟩ => ⟨S32x2048x1024, .f32⟩
  | .hbm, ⟨65, _⟩ => ⟨S32x2048x1024, .f32⟩
  | .hbm, ⟨66, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_cst : Ref sig .tc := ⟨.hbm, 41, rfl⟩
abbrev main_call0_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Ada.lean ====
abbrev S32x1024 : Shape := ⟨2, ![32, 1024]⟩
abbrev S1x1024x6144 : Shape := ⟨3, ![1, 1024, 6144]⟩
abbrev S1x6144 : Shape := ⟨2, ![1, 6144]⟩
abbrev S1024x6144 : Shape := ⟨2, ![1024, 6144]⟩
abbrev S6x32x1024 : Shape := ⟨3, ![6, 32, 1024]⟩
abbrev S1024x2048 : Shape := ⟨2, ![1024, 2048]⟩
abbrev S1x2048 : Shape := ⟨2, ![1, 2048]⟩
abbrev S2x32x1024 : Shape := ⟨3, ![2, 32, 1024]⟩
abbrev S32x2048 : Shape := ⟨2, ![32, 2048]⟩
abbrev S1x32x1024 : Shape := ⟨3, ![1, 32, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6x32x1024, .f32⟩
  | .local _ .vmem, ⟨0, _⟩ => ⟨S32x1024, .f32⟩
  | .local _ .vmem, ⟨1, _⟩ => ⟨S1024x2048, .f32⟩
  | .local _ .vmem, ⟨2, _⟩ => ⟨S1024x2048, .f32⟩
  | .local _ .vmem, ⟨3, _⟩ => ⟨S1x2048, .f32⟩
  | .local _ .vmem, ⟨4, _⟩ => ⟨S1x2048, .f32⟩
  | .local _ .vmem, ⟨5, _⟩ => ⟨S2x32x1024, .f32⟩
  | .local _ .vmem, ⟨6, _⟩ => ⟨S2x32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S32x1024 : Shape := ⟨2, ![32, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S32x6144 : Shape := ⟨2, ![32, 6144]⟩
abbrev S6144 : Shape := ⟨1, ![6144]⟩
abbrev S1x32x1024 : Shape := ⟨3, ![1, 32, 1024]⟩
abbrev S6x32x1024 : Shape := ⟨3, ![6, 32, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024x6144, .f32⟩
  | .hbm, ⟨2, _⟩ => ⟨S1x6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S1024x6144, .f32⟩
  | .hbm, ⟨13, _⟩ => ⟨S32x6144, .f32⟩
  | .hbm, ⟨14, _⟩ => ⟨S6144, .f32⟩
  | .hbm, ⟨15, _⟩ => ⟨S1x6144, .f32⟩
  | .hbm, ⟨16, _⟩ => ⟨S32x6144, .f32⟩
  | .hbm, ⟨17, _⟩ => ⟨S32x6144, .f32⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S1x32x1024, .f32⟩
  | .hbm, ⟨25, _⟩ => ⟨S1x32x1024, .f32⟩
  | .hbm, ⟨26, _⟩ => ⟨S1x32x1024, .f32⟩
  | .hbm, ⟨27, _⟩ => ⟨S1x32x1024, .f32⟩
  | .hbm, ⟨28, _⟩ => ⟨S1x32x1024, .f32⟩
  | .hbm, ⟨29, _⟩ => ⟨S1x32x1024, .f32⟩
  | .hbm, ⟨30, _⟩ => ⟨S6x32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.MixerRef.lean ====
/- The reference of the mixer runs and leaves its arguments: none of its stretches, before the loop over the chunks, in it
   or after it, writes an argument. -/
module

public import proofs.«01_k».proof.Proof.Gen.MixerRefIdeal.Run

@[expose] public section

set_option maxRecDepth 100000

noncomputable section

namespace Cert.Proof.MixerRef

open Idealize.ShloMosaic Idealize.ShloMosaic.TcCoe Idealize.SL.Sem
open Idealize.ShloMosaic.StableHlo Cert.MixerRefIdeal Cert.MixerRefIdeal.Gen Cert.MixerRefIdeal.Value

variable {F : FTy → Type} [FloatOps F]

/-- The arguments. -/
abbrev args : List (Ref sig .tc) := [main_arg0, main_arg1, main_arg2, main_arg3, main_arg4, main_arg5, main_arg6, main_arg7]

/-- What the reference's stretch after the loop of this number writes. -/
abbrev post3_W : List (Ref Cert.MixerRefIdeal.sig .tc) := [main_v185, main_v186, main_v187, main_v188, main_v189, main_v190, main_v191, main_v192, main_v193, main_cst_16, main_v194, main_v195, main_cst_17, main_v196, main_v197, main_cst_18, main_v198, main_v199, main_v200, main_v201, main_v202]
theorem post3_writes : (hostOps0_3 : List (HloOp τ sig (Elt F))).Forall fun op => op.writes ⊆ (post3_W.map (Proc.devRef (τ := τ) .tc)).toFinset :=
  StableHlo.forall_writes_sub_of_map rfl

/-- What the reference's stretch after the loop of this number writes. -/
abbrev post4_W : List (Ref Cert.MixerRefIdeal.sig .tc) := [main_call3_v0, main_call3_v1, main_call3_cst, main_call3_v2, main_call3_v3, main_call3_cst_0, main_call3_v4, main_call3_v5, main_v203]
theorem post4_writes : (hostOps0_4 : List (HloOp τ sig (Elt F))).Forall fun op => op.writes ⊆ (post4_W.map (Proc.devRef (τ := τ) .tc)).toFinset :=
  StableHlo.forall_writes_sub_of_map rfl

/-- What the reference's stretch after the loop of this number writes. -/
abbrev post5_W : List (Ref Cert.MixerRefIdeal.sig .tc) := [main_v204, main_v205, main_v206, main_v207, main_v208, main_v209, main_v210, main_cst_19, main_v211, main_v212, main_cst_20, main_v213, main_v214, main_cst_21, main_v215, main_v216, main_v217, main_v218, main_v219, main_v220, main_v221, main_v222, main_v223, main_v224, main_v225]
theorem post5_writes : (hostOps0_5 : List (HloOp τ sig (Elt F))).Forall fun op => op.writes ⊆ (post5_W.map (Proc.devRef (τ := τ) .tc)).toFinset :=
  StableHlo.forall_writes_sub_of_map rfl

/-! ## A stretch leaves the arguments -/

theorem keep_hostOps0 (V : Valuation τ sig (Elt F)) (r : Ref sig .tc) (h : r ∈ args) :
    after hostOps0 V (Proc.devRef .tc r) = V (Proc.devRef .tc r) :=
  after_of_writes_sub hostOps0 V hostOps0_writes ((by decide +kernel : ∀ r ∈ args, r ∉ hostOps0_W) r h)
theorem keep_hostOps0_1 (V : Valuation τ sig (Elt F)) (r : Ref sig .tc) (h : r ∈ args) :
    after hostOps0_1 V (Proc.devRef .tc r) = V (Proc.devRef .tc r) :=
  after_of_writes_sub hostOps0_1 V hostOps0_1_writes ((by decide +kernel : ∀ r ∈ args, r ∉ hostOps0_1_W) r h)
theorem keep_hostOps0_2 (V : Valuation τ sig (Elt F)) (r : Ref sig .tc) (h : r ∈ args) :
    after hostOps0_2 V (Proc.devRef .tc r) = V (Proc.devRef .tc r) :=
  after_of_writes_sub hostOps0_2 V hostOps0_2_writes ((by decide +kernel : ∀ r ∈ args, r ∉ hostOps0_2_W) r h)
theorem keep_while0Ops0 (V : Valuation τ sig (Elt F)) (r : Ref sig .tc) (h : r ∈ args) :
    after while0Ops0 V (Proc.devRef .tc r) = V (Proc.devRef .tc r) :=
  after_of_writes_sub while0Ops0 V while0Ops0_writes ((by decide +kernel : ∀ r ∈ args, r ∉ while0Ops0_W) r h)
theorem keep_while0Ops0_1 (V : Valuation τ sig (Elt F)) (r : Ref sig .tc) (h : r ∈ args) :
    after while0Ops0_1 V (Proc.devRef .tc r) = V (Proc.devRef .tc r) :=
  after_of_writes_sub while0Ops0_1 V while0Ops0_1_writes ((by decide +kernel : ∀ r ∈ args, r ∉ while0Ops0_1_W) r h)
theorem keep_while0Ops0_2 (V : Valuation τ sig (Elt F)) (r : Ref sig .tc) (h : r ∈ args) :
    after while0Ops0_2 V (Proc.devRef .tc r) = V (Proc.devRef .tc r) :=
  after_of_writes_sub while0Ops0_2 V while0Ops0_2_writes ((by decide +kernel : ∀ r ∈ args, r ∉ while0Ops0_2_W) r h)
theorem keep_while0Ops0_3 (V : Valuation τ sig (Elt F)) (r : Ref sig .tc) (h : r ∈ args) :
    after while0Ops0_3 V (Proc.devRef .tc r) = V (Proc.devRef .tc r) :=
  after_of_writes_sub while0Ops0_3 V while0Ops0_3_writes ((by decide +kernel : ∀ r ∈ args, r ∉ while0Ops0_3_W) r h)
theorem keep_condOps (V : Valuation τ sig (Elt F)) (r : Ref sig .tc) (h : r ∈ args) :
    after condOps V (Proc.devRef .tc r) = V (Proc.devRef .tc r) :=
  after_of_writes_sub condOps V condOps_writes ((by decide +kernel : ∀ r ∈ args, r ∉ condOps_W) r h)
theorem keep_hostOps0_3 (V : Valuation τ sig (Elt F)) (r : Ref sig .tc) (h : r ∈ args) :
    after hostOps0_3 V (Proc.devRef .tc r) = V (Proc.devRef .tc r) :=
  after_of_writes_sub hostOps0_3 V post3_writes ((by decide +kernel : ∀ r ∈ args, r ∉ post3_W) r h)
theorem keep_hostOps0_4 (V : Valuation τ sig (Elt F)) (r : Ref sig .tc) (h : r ∈ args) :
    after hostOps0_4 V (Proc.devRef .tc r) = V (Proc.devRef .tc r) :=
  after_of_writes_sub hostOps0_4 V post4_writes ((by decide +kernel : ∀ r ∈ args, r ∉ post4_W) r h)
theorem keep_hostOps0_5 (V : Valuation τ sig (Elt F)) (r : Ref sig .tc) (h : r ∈ args) :
    after hostOps0_5 V (Proc.devRef .tc r) = V (Proc.devRef .tc r) :=
  after_of_writes_sub hostOps0_5 V post5_writes ((by decide +kernel : ∀ r ∈ args, r ∉ post5_W) r h)

/-- A trip of the loop leaves the arguments. -/
theorem keep_trip (V : Valuation τ sig (Elt F)) (r : Ref sig .tc) (h : r ∈ args) :
    afterL bodyI (after condOps V) (Proc.devRef .tc r) = V (Proc.devRef .tc r) := by
  rw [afterL_cons, afterL_cons, afterL_cons, afterL_cons, afterL_nil, keep_while0Ops0_3 _ r h, keep_while0Ops0_2 _ r h,
    keep_while0Ops0_1 _ r h, keep_while0Ops0 _ r h, keep_condOps _ r h]

/-- …and so do all the trips. -/
theorem keep_trips (W₀ : Dev nD → Valuation τ sig (Elt F)) (c : Dev nD) (r : Ref sig .tc) (h : r ∈ args) :
    ∀ k, atTrip condOps bodyI W₀ k c (Proc.devRef .tc r) = W₀ c (Proc.devRef .tc r)
  | 0 => rfl
  | k + 1 => (keep_trip _ r h).trans (keep_trips W₀ c r h k)

/-- The reference's arguments at its end. -/
theorem args_kept (m : (ℓ : Loc nD τ sig) → Buf (Elt F) ℓ) (c : Dev nD) (r : Ref sig .tc) (h : r ∈ args) :
    finalContents condOps preI bodyI postI 32 m c (Proc.devRef .tc r) = m ((c.tc : Thread nD τ).loc r) := by
  rw [finalContents, afterL_cons, afterL_cons, afterL_cons, afterL_nil, keep_hostOps0_5 _ r h, keep_hostOps0_4 _ r h,
    keep_hostOps0_3 _ r h, keep_condOps _ r h, keep_trips _ c r h, entryContents, afterL_cons, afterL_cons, afterL_cons,
    afterL_nil, keep_hostOps0_2 _ r h, keep_hostOps0_1 _ r h, keep_hostOps0 _ r h]

/-- The reference runs and leaves its arguments. -/
theorem run (m : (ℓ : Loc nD τ sig) → Buf (Elt F) ℓ) (ρ : Dev nD → PrngReg) :
    θ_run (defs (F := F)) (onTc (τ := τ) (main (F := F))) ⟨m, fun _ => 0, ρ⟩ (fun r => ∀ (c : Dev nD) (b : Ref sig .tc), b ∈ args →
      r.2.mem ((c.tc : Thread nD τ).loc b) = m ((c.tc : Thread nD τ).loc b)) :=
  (θ_run (defs (F := F)) _ _).mono (fun _ h c b hb =>
    (h c b ((by decide +kernel : ∀ b ∈ args, (Proc.devRef .tc b : DevRef τ sig).isScoped = false) b hb)).trans (args_kept m c b hb))
    (run_fold m ρ)

end Cert.Proof.MixerRef

end
-- ==== Proof.MixerNames.lean ====
/- The names of the pieces of memory the mixer kernel's ring of copies moves: block `b` of the argument and of the result,
   slot `s` of the two double buffers, slot `s`'s semaphores; and the equations that rewrite the slices the kernel
   computes at trip `k` to those names. Here `b = 0 … 63` numbers the 1024-row blocks of the 32 × 2048 rows. -/
module

public import proofs.«01_k».proof.Proof.Gen.MixerIdeal.Frame
public import proofs.«01_k».proof.Proof.Gen.MixerIdeal.Skeleton
public import proofs.«01_k».proof.Proof.Gen.MixerIdeal.Loops
public import Idealize.ShloMosaic.Lib.Ring
public import Idealize.ShloMosaic.Lib.Ring.Trips
public import Idealize.ShloMosaic.Lib.Ring.WriteBehind
public import Idealize.ShloMosaic.Lib.Pipeline.Routed
public import Idealize.ShloMosaic.Lib.Affine
public import Idealize.ShloMosaic.Lib.Tactic

@[expose] public section

set_option maxRecDepth 16384

noncomputable section

namespace Cert.Proof.Mixer

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The whole buffers -/

/-- The argument `x`, in HBM. -/
abbrev xM : Memref sig .tc .hbm S32x2048x1024 .f32 := Memref.whole main_arg0
/-- The result, in HBM. -/
abbrev oM : Memref sig .tc .hbm S32x2048x1024 .f32 := Memref.whole main_v4
/-- The two-slot buffer the blocks of `x` land in. -/
abbrev xbM : Memref sig .tc .vmem S2x1024x1024 .f32 := Memref.whole cc0_scratch0
/-- The two-slot buffer the blocks of the result leave from. -/
abbrev obM : Memref sig .tc .vmem S2x1024x1024 .f32 := Memref.whole cc0_scratch1

/-! ## Offsets -/

/-- Block `b` of 1024 rows: half `b % 2` of batch `b / 2`. -/
abbrev blkOff (b : Fin 64) : Fin 3 → Nat := ![b.val / 2, b.val % 2 * 1024, 0]
theorem blkOff_inb (b : Fin 64) : ∀ a, blkOff b a + S1x1024x1024.size a ≤ S32x2048x1024.size a := by
  have := b.isLt; intro a; fin_cases a
  · show b.val / 2 + 1 ≤ 32; omega
  · show b.val % 2 * 1024 + 1024 ≤ 2048; omega
  · show 0 + 1024 ≤ 1024; omega
abbrev slotOff (s : Fin 2) : Fin 3 → Nat := ![s.val, 0, 0]
theorem slotOff_inb (s : Fin 2) : ∀ a, slotOff s a + S1x1024x1024.size a ≤ S2x1024x1024.size a := by
  have := s.isLt; intro a; fin_cases a
  · show s.val + 1 ≤ 2; omega
  · show 0 + 1024 ≤ 1024; omega
  · show 0 + 1024 ≤ 1024; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-! ## Names -/

/-- Block `b` of the argument. -/
def xblk (b : Fin 64) : Memref sig .tc .hbm S1x1024x1024 .f32 :=
  xM.slice (Rect.unit (s := S32x2048x1024) (blkOff b) S1x1024x1024.size (blkOff_inb b)) (fun _ => rfl)
/-- Block `b` of the result. -/
def oblk (b : Fin 64) : Memref sig .tc .hbm S1x1024x1024 .f32 :=
  oM.slice (Rect.unit (s := S32x2048x1024) (blkOff b) S1x1024x1024.size (blkOff_inb b)) (fun _ => rfl)
/-- Slot `s` of the buffer the argument's blocks land in. -/
def xslot (s : Fin 2) : Memref sig .tc .vmem S1x1024x1024 .f32 :=
  xbM.slice (Rect.unit (s := S2x1024x1024) (slotOff s) S1x1024x1024.size (slotOff_inb s)) (fun _ => rfl)
/-- Slot `s` of the buffer the result's blocks leave from. -/
def oslot (s : Fin 2) : Memref sig .tc .vmem S1x1024x1024 .f32 :=
  obM.slice (Rect.unit (s := S2x1024x1024) (slotOff s) S1x1024x1024.size (slotOff_inb s)) (fun _ => rfl)
/-- The semaphore of the copies into slot `s`. -/
def xsem (s : Fin 2) : DmaSems sig S_ := (cc0_scratch2.slice (Rect.unit (s := S2) (semOff s) S1.size (semOff_inb s))).squeeze S_ squeezes_S1_S_
/-- The semaphore of the copies out of slot `s`. -/
def osem (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 64) : ClosedOff (blkOff b) := ⟨blkOff b, rfl⟩

/-! ## What the kernel computes at trip `k`, in closed form: decided trip by trip -/

theorem trips_eq : k0_t1_loop.trips = 64 := by decide
theorem trip_lt (k : Fin k0_t1_loop.trips) : k.val < 64 := Nat.lt_of_lt_of_eq k.isLt trips_eq

theorem cond1_iff : ∀ k : Fin k0_t1_loop.trips, k0_cond1 k = 1#1 ↔ k.val + 1 < 64 := by decide +kernel
theorem cond2_iff : ∀ k : Fin k0_t1_loop.trips, k0_cond2 k = 1#1 ↔ 2 ≤ k.val := by decide +kernel
theorem off1_eq : ∀ k : Fin k0_t1_loop.trips, k.val + 1 < 64 → k0_off1 k = semOff (Ring.sl 2 (k.val + 1)) := by decide +kernel
theorem off2_eq : ∀ k : Fin k0_t1_loop.trips, k.val + 1 < 64 → k0_off2 k = slotOff (Ring.sl 2 (k.val + 1)) := by decide +kernel
theorem off3_eq : ∀ k : Fin k0_t1_loop.trips, k.val + 1 < 64 → k0_off3 k = blkOff (Ring.bk 64 (k.val + 1)) := by decide +kernel
theorem off4_eq : ∀ k : Fin k0_t1_loop.trips, k0_off4 k = semOff (Ring.sl 2 k.val) := by decide +kernel
theorem off5_eq : ∀ k : Fin k0_t1_loop.trips, k0_off5 k = slotOff (Ring.sl 2 k.val) := by decide +kernel
theorem off6_eq : ∀ k : Fin k0_t1_loop.trips, k0_off6 k = blkOff (Ring.bk 64 k.val) := by decide +kernel
theorem off7_eq : ∀ k : Fin k0_t1_loop.trips, k0_off7 k = semOff (Ring.sl 2 k.val) := by decide +kernel
theorem off8_eq : ∀ k : Fin k0_t1_loop.trips, 2 ≤ k.val → k0_off8 k = blkOff (Ring.bk 64 (k.val - 2)) := by decide +kernel
theorem off9_eq : ∀ k : Fin k0_t1_loop.trips, k0_off9 k = slotOff (Ring.sl 2 k.val) := by decide +kernel

/-! ## The equations to the names -/

section Canon

private theorem xsem_congr {off : Fin 1 → Nat} {s : Fin 2} (e : off = semOff s) (hh) :
    (cc0_scratch2.slice (Rect.unit (s := S2) off S1.size hh)).squeeze S_ squeezes_S1_S_ = xsem s :=
  congrArg (fun A : DmaSems sig S1 => A.squeeze S_ squeezes_S1_S_) (SemArray.slice_unit_congr _ e _ _)
private theorem osem_congr {off : Fin 1 → Nat} {s : Fin 2} (e : off = semOff s) (hh) :
    (cc0_scratch3.slice (Rect.unit (s := S2) off S1.size hh)).squeeze S_ squeezes_S1_S_ = osem s :=
  congrArg (fun A : DmaSems sig S1 => A.squeeze S_ squeezes_S1_S_) (SemArray.slice_unit_congr _ e _ _)
private theorem xslot_congr {off : Fin 3 → Nat} {s : Fin 2} (e : off = slotOff s) (hh hs) :
    xbM.slice (Rect.unit (s := S2x1024x1024) off S1x1024x1024.size hh) hs = xslot s := Memref.slice_unit_congr _ e _ _ _ (fun _ => rfl)
private theorem oslot_congr {off : Fin 3 → Nat} {s : Fin 2} (e : off = slotOff s) (hh hs) :
    obM.slice (Rect.unit (s := S2x1024x1024) off S1x1024x1024.size hh) hs = oslot s := Memref.slice_unit_congr _ e _ _ _ (fun _ => rfl)
private theorem xblk_congr {off : Fin 3 → Nat} {b : Fin 64} (e : off = blkOff b) (hh hs) :
    xM.slice (Rect.unit (s := S32x2048x1024) off S1x1024x1024.size hh) hs = xblk b := Memref.slice_unit_congr _ e _ _ _ (fun _ => rfl)
private theorem oblk_congr {off : Fin 3 → Nat} {b : Fin 64} (e : off = blkOff b) (hh hs) :
    oM.slice (Rect.unit (s := S32x2048x1024) off S1x1024x1024.size hh) hs = oblk b := Memref.slice_unit_congr _ e _ _ _ (fun _ => rfl)

variable (k : Fin k0_t1_loop.trips)

/-- Trip `k` starts the copy of block `k + 1` into slot `k + 1`; -/
@[sl_canon] theorem semI (hk : k.val + 1 < 64) (hh) :
    (cc0_scratch2.slice (Rect.unit (s := S2) (k0_off1 k) S1.size hh)).squeeze S_ squeezes_S1_S_ = xsem (Ring.sl 2 (k.val + 1)) := xsem_congr (off1_eq k hk) _
@[sl_canon] theorem slotI (hk : k.val + 1 < 64) (hh hs) :
    xbM.slice (Rect.unit (s := S2x1024x1024) (k0_off2 k) S1x1024x1024.size hh) hs = xslot (Ring.sl 2 (k.val + 1)) := xslot_congr (off2_eq k hk) _ _
@[sl_canon] theorem blkI (hk : k.val + 1 < 64) (hh hs) :
    xM.slice (Rect.unit (s := S32x2048x1024) (k0_off3 k) S1x1024x1024.size hh) hs = xblk (Ring.bk 64 (k.val + 1)) := xblk_congr (off3_eq k hk) _ _
/-- waits for block `k` in slot `k`; -/
@[sl_canon] theorem semW (hh) :
    (cc0_scratch2.slice (Rect.unit (s := S2) (k0_off4 k) S1.size hh)).squeeze S_ squeezes_S1_S_ = xsem (Ring.sl 2 k.val) := xsem_congr (off4_eq k) _
@[sl_canon] theorem slotW (hh hs) :
    xbM.slice (Rect.unit (s := S2x1024x1024) (k0_off5 k) S1x1024x1024.size hh) hs = xslot (Ring.sl 2 k.val) := xslot_congr (off5_eq k) _ _
@[sl_canon] theorem blkW (hh hs) :
    xM.slice (Rect.unit (s := S32x2048x1024) (k0_off6 k) S1x1024x1024.size hh) hs = xblk (Ring.bk 64 k.val) := xblk_congr (off6_eq k) _ _
/-- from its third on waits for the copy of the result's block `k - 2` out of slot `k`; -/
@[sl_canon] theorem osemW (hh) :
    (cc0_scratch3.slice (Rect.unit (s := S2) (k0_off7 k) S1.size hh)).squeeze S_ squeezes_S1_S_ = osem (Ring.sl 2 k.val) := osem_congr (off7_eq k) _
@[sl_canon] theorem oslotW (hh hs) :
    obM.slice (Rect.unit (s := S2x1024x1024) (k0_off9 k) S1x1024x1024.size hh) hs = oslot (Ring.sl 2 k.val) := oslot_congr (off9_eq k) _ _
@[sl_canon] theorem oblkW (hk : 2 ≤ k.val) (hh hs) :
    oM.slice (Rect.unit (s := S32x2048x1024) (k0_off8 k) S1x1024x1024.size hh) hs = oblk (Ring.bk 64 (k.val - 2)) := oblk_congr (off8_eq k hk) _ _
/-- and starts the copy of the result's block `k` out of it. -/
@[sl_canon] theorem osemI (hh) :
    (cc0_scratch3.slice (Rect.unit (s := S2) (k0_off4 k) S1.size hh)).squeeze S_ squeezes_S1_S_ = osem (Ring.sl 2 k.val) := osem_congr (off4_eq k) _
@[sl_canon] theorem oslotI (hh hs) :
    obM.slice (Rect.unit (s := S2x1024x1024) (k0_off5 k) S1x1024x1024.size hh) hs = oslot (Ring.sl 2 k.val) := oslot_congr (off5_eq k) _ _
@[sl_canon] theorem oblkI (hh hs) :
    oM.slice (Rect.unit (s := S32x2048x1024) (k0_off6 k) S1x1024x1024.size hh) hs = oblk (Ring.bk 64 k.val) := oblk_congr (off6_eq k) _ _

/-- The set-up's copy of block 0 into slot 0, and the last two waits. -/
@[sl_canon] theorem semL (hh) : (cc0_scratch2.slice (Rect.unit (s := S2) ![0] S1.size hh)).squeeze S_ squeezes_S1_S_ = xsem 0 := xsem_congr (by decide) _
@[sl_canon] theorem slotL (hh hs) : xbM.slice (Rect.unit (s := S2x1024x1024) ![0, 0, 0] S1x1024x1024.size hh) hs = xslot 0 := xslot_congr (by decide) _ _
@[sl_canon] theorem blkL (hh hs) : xM.slice (Rect.unit (s := S32x2048x1024) ![0, 0, 0] S1x1024x1024.size hh) hs = xblk 0 := xblk_congr (by decide) _ _
@[sl_canon] theorem osemL0 (hh) : (cc0_scratch3.slice (Rect.unit (s := S2) ![0] S1.size hh)).squeeze S_ squeezes_S1_S_ = osem 0 := osem_congr (by decide) _
@[sl_canon] theorem osemL1 (hh) : (cc0_scratch3.slice (Rect.unit (s := S2) ![1] S1.size hh)).squeeze S_ squeezes_S1_S_ = osem 1 := osem_congr (by decide) _
@[sl_canon] theorem oslotL0 (hh hs) : obM.slice (Rect.unit (s := S2x1024x1024) ![0, 0, 0] S1x1024x1024.size hh) hs = oslot 0 := oslot_congr (by decide) _ _
@[sl_canon] theorem oslotL1 (hh hs) : obM.slice (Rect.unit (s := S2x1024x1024) ![1, 0, 0] S1x1024x1024.size hh) hs = oslot 1 := oslot_congr (by decide) _ _
@[sl_canon] theorem oblkL0 (hh hs) : oM.slice (Rect.unit (s := S32x2048x1024) ![31, 0, 0] S1x1024x1024.size hh) hs = oblk 62 := oblk_congr (by decide) _ _
@[sl_canon] theorem oblkL1 (hh hs) : oM.slice (Rect.unit (s := S32x2048x1024) ![31, 1024, 0] S1x1024x1024.size hh) hs = oblk 63 := oblk_congr (by decide) _ _

end Canon

end Cert.Proof.Mixer

end
-- ==== Proof.MixerTrip.lean ====
/- One trip of the mixer kernel's loop, run for any way of starting the next copy and of freeing the slot of the result. -/
module

public import proofs.«01_k».proof.Proof.MixerNames

@[expose] public section

set_option maxRecDepth 65536

noncomputable section

namespace Cert.Proof.Mixer

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UC sig nD τ) ℕ
abbrev 𝒱₀ : Variants := Variants.none

variable (c : Dev nD) (XA : Buf (Elt F) (xM.view.loc (c : Thread nD τ)))

/-! ## The pieces -/

/-- The cell of the copies into slot `s`, at zero; of the copies out of it. -/
abbrev xcellP (s : Fin 2) : sProp 𝕄 := semVal ((c : Thread nD τ), SemLoc.dma (xsem s).sem) 0
abbrev ocellP (s : Fin 2) : sProp 𝕄 := semVal ((c : Thread nD τ), SemLoc.dma (osem s).sem) 0
/-- Slot `s`, held at `f`. -/
abbrev xslotP (s : Fin 2) (f : Buf (Elt F) ((xslot s).view.loc (c : Thread nD τ))) : sProp 𝕄 :=
  (xslot s).view.loc (c : Thread nD τ) ↦[(xslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
/-- Block `b` of the argument, held at the argument's contents; of the result, at `f`. -/
abbrev xblkP (b : Fin 64) : sProp 𝕄 := (xblk b).view.loc (c : Thread nD τ) ↦[(xblk b).view.set]{fullShare} XA
abbrev oblkP (b : Fin 64) (f : Buf (Elt F) ((oblk b).view.loc (c : Thread nD τ))) : sProp 𝕄 :=
  (oblk b).view.loc (c : Thread nD τ) ↦[(oblk b).view.set]{fullShare} f
/-- A slot in flight with its contents to come from block `b`. -/
abbrev NN : ℕ := 131072
abbrev xflightP (s : Fin 2) (b : Fin 64) (f : Buf (Elt F) ((xslot s).view.loc (c : Thread nD τ))) : sProp 𝕄 :=
  Transfers.Flight countersEmb (c : Thread nD τ) (SemLoc.dma (xsem s).sem) () NN
    iprop(xslotP c s ((xslot s).view.writes (Elt F) f [⟨Rect.whole S1x1024x1024, ReadAs.same.apply ((xblk b).view.read (Elt F) XA)⟩]) ∗ xblkP c XA b)
abbrev oflightP (s : Fin 2) (b : Fin 64) (f : Buf (Elt F) ((oblk b).view.loc (c : Thread nD τ))) (g : Buf (Elt F) ((oslot s).view.loc (c : Thread nD τ))) : sProp 𝕄 :=
  Transfers.Flight countersEmb (c : Thread nD τ) (SemLoc.dma (osem s).sem) () NN iprop(oblkP c b f ∗ oslotP c s g)

section Trip

variable
  (arg1 : Memref sig .tc .vmem S6x32x1024 .f32) (harg1 : arg1.IsWhole)
  (arg2 : Memref sig .tc .vmem S32x16x128 .i32) (harg2 : arg2.IsWhole)
  (arg3 : Memref sig .tc .vmem S1x1024 .f32) (harg3 : arg3.IsWhole)
  (arg4 : Memref sig .tc .vmem S1x1024 .f32) (harg4 : arg4.IsWhole)
  (arg6 : Memref sig .tc .vmem S3x512 .f32) (harg6 : arg6.IsWhole)
  (g1 : Buf (Elt F) (arg1.view.loc (c : Thread nD τ))) (g2 : Buf (Elt F) (arg2.view.loc (c : Thread nD τ))) (g3 : Buf (Elt F) (arg3.view.loc (c : Thread nD τ)))
  (g4 : Buf (Elt F) (arg4.view.loc (c : Thread nD τ))) (g6 : Buf (Elt F) (arg6.view.loc (c : Thread nD τ)))

abbrev winM : Memref sig .tc .vmem S1024x3584 .bf16 := Memref.whole cc0_scratch4
abbrev woutM : Memref sig .tc .vmem S1024x1024 .bf16 := Memref.whole cc0_scratch5
abbrev hM : Memref sig .tc .vmem S1024x1024 .bf16 := Memref.whole cc0_scratch10
abbrev projM : Memref sig .tc .vmem S1024x3584 .f32 := Memref.whole cc0_scratch11
abbrev ymixM : Memref sig .tc .vmem S1024x1024 .bf16 := Memref.whole cc0_scratch12
abbrev mixM : Memref sig .tc .vmem S1024x1024 .f32 := Memref.whole cc0_scratch13
abbrev stateM : Memref sig .tc .vmem S4x128x128 .f32 := Memref.whole cc0_scratch14
abbrev ucarryM : Memref sig .tc .vmem S8x512 .f32 := Memref.whole cc0_scratch15
abbrev dmatM : Memref sig .tc .vmem S4x256x256 .f32 := Memref.whole cc0_scratch16
abbrev qdecM : Memref sig .tc .vmem S4x256x128 .f32 := Memref.whole cc0_scratch17
abbrev kdecM : Memref sig .tc .vmem S4x256x128 .f32 := Memref.whole cc0_scratch18
abbrev cosrM : Memref sig .tc .vmem S256x128 .f32 := Memref.whole cc0_scratch19
abbrev sinrM : Memref sig .tc .vmem S256x128 .f32 := Memref.whole cc0_scratch20
abbrev cos2M : Memref sig .tc .vmem S256x128 .f32 := Memref.whole cc0_scratch21
abbrev sin2M : Memref sig .tc .vmem S256x128 .f32 := Memref.whole cc0_scratch22

abbrev tripG (v381 : FVec F S256x128 .f32) (v500 : BitVec 32) (v502 : IVec S1x128 32) (v511 : IVec S1x128 1)
    (k : Fin k0_t1_loop.trips) : Prog (TpuEff nD τ sig (Elt F) Λ₀ .tc) Unit :=
  k0_t1_body (F := F) xM (Memref.isWhole_whole _) arg1 harg1 arg2 harg2 arg3 harg3 arg4 harg4 (Memref.whole main_v1) (Memref.isWhole_whole _) arg6 harg6 (Memref.whole main_v3) (Memref.isWhole_whole _) oM (Memref.isWhole_whole _) xbM (Memref.isWhole_whole _) obM (Memref.isWhole_whole _) cc0_scratch2 cc0_scratch3 winM (Memref.isWhole_whole _) woutM (Memref.isWhole_whole _) (Memref.whole cc0_scratch6) (Memref.isWhole_whole _) (Memref.whole cc0_scratch7) (Memref.isWhole_whole _) cc0_scratch8 cc0_scratch9 hM (Memref.isWhole_whole _) projM (Memref.isWhole_whole _) ymixM (Memref.isWhole_whole _) mixM (Memref.isWhole_whole _) stateM (Memref.isWhole_whole _) ucarryM (Memref.isWhole_whole _) dmatM (Memref.isWhole_whole _) qdecM (Memref.isWhole_whole _) kdecM (Memref.isWhole_whole _) cosrM (Memref.isWhole_whole _) sinrM (Memref.isWhole_whole _) cos2M (Memref.isWhole_whole _) sin2M (Memref.isWhole_whole _) v381 v500 v502 v511 k ()

variable (v381 : FVec F S256x128 .f32) (v500 : BitVec 32) (v502 : IVec S1x128 32) (v511 : IVec S1x128 1)

/-- The trip's number as the loop counts it. -/
abbrev ivOf (k : Fin k0_t1_loop.trips) : BitVec 32 := Scf.iv 0#32 1#32 k

/-- A buffer held at `f`. -/
abbrev heldP {sp : Space} {s : Shape} {e : EltTy} (M : Memref sig .tc sp s e) (f : Buf (Elt F) (M.view.loc (c : Thread nD τ))) : sProp 𝕄 :=
  M.view.loc (c : Thread nD τ) ↦[M.view.set]{fullShare} f

abbrev landed (k : Fin k0_t1_loop.trips) (f : Buf (Elt F) ((xslot (Ring.sl 2 k.val)).view.loc (c : Thread nD τ))) : Buf (Elt F) ((xslot (Ring.sl 2 k.val)).view.loc (c : Thread nD τ)) :=
  (xslot (Ring.sl 2 k.val)).view.writes (Elt F) f [⟨Rect.whole S1x1024x1024, ReadAs.same.apply ((xblk (Ring.bk 64 k.val)).view.read (Elt F) XA)⟩]

set_option maxHeartbeats 40000000 in
/-- The trip up to its last block of 32 rows. -/
def tripRun (k : Fin k0_t1_loop.trips) (w1 : BitVec 32) (w2 : BitVec 1) (w3 : BitVec 32) (A1 B1 A2 C2 Φ : sProp 𝕄) (fx fo gs)
    (fwi : Buf (Elt F) (winM.view.loc (c : Thread nD τ))) (fwo : Buf (Elt F) (woutM.view.loc (c : Thread nD τ)))
    (fst : Buf (Elt F) (stateM.view.loc (c : Thread nD τ))) (fuc : Buf (Elt F) (ucarryM.view.loc (c : Thread nD τ)))
    (fdm : Buf (Elt F) (dmatM.view.loc (c : Thread nD τ))) (fqd : Buf (Elt F) (qdecM.view.loc (c : Thread nD τ)))
    (fkd : Buf (Elt F) (kdecM.view.loc (c : Thread nD τ))) (fcr : Buf (Elt F) (cosrM.view.loc (c : Thread nD τ)))
    (fsr : Buf (Elt F) (sinrM.view.loc (c : Thread nD τ)))
    (fh : Buf (Elt F) (hM.view.loc (c : Thread nD τ))) (fp : Buf (Elt F) (projM.view.loc (c : Thread nD τ)))
    (fym : Buf (Elt F) (ymixM.view.loc (c : Thread nD τ))) (fm : Buf (Elt F) (mixM.view.loc (c : Thread nD τ)))
    (fc2 : Buf (Elt F) (cos2M.view.loc (c : Thread nD τ))) (fs2 : Buf (Elt F) (sin2M.view.loc (c : Thread nD τ))) (W)
    (hp1 : iprop(A1 ∗ owes (c : Thread nD τ) 0 W) ⊢ wp frame (wpE (defs₀ (F := F)) 𝒱₀ (c : Thread nD τ) none) Set.univ
      (k0_part1 (F := F) xM (Memref.isWhole_whole _) arg1 harg1 arg2 harg2 arg3 harg3 arg4 harg4 (Memref.whole main_v1) (Memref.isWhole_whole _) arg6 harg6 (Memref.whole main_v3) (Memref.isWhole_whole _) oM (Memref.isWhole_whole _) xbM (Memref.isWhole_whole _) obM (Memref.isWhole_whole _) cc0_scratch2 cc0_scratch3 winM (Memref.isWhole_whole _) woutM (Memref.isWhole_whole _) (Memref.whole cc0_scratch6) (Memref.isWhole_whole _) (Memref.whole cc0_scratch7) (Memref.isWhole_whole _) cc0_scratch8 cc0_scratch9 hM (Memref.isWhole_whole _) projM (Memref.isWhole_whole _) ymixM (Memref.isWhole_whole _) mixM (Memref.isWhole_whole _) stateM (Memref.isWhole_whole _) ucarryM (Memref.isWhole_whole _) dmatM (Memref.isWhole_whole _) qdecM (Memref.isWhole_whole _) kdecM (Memref.isWhole_whole _) cosrM (Memref.isWhole_whole _) sinrM (Memref.isWhole_whole _) cos2M (Memref.isWhole_whole _) sin2M (Memref.isWhole_whole _) 0#32 1#32 k) (fun r => iprop(⌜r.1 = ivOf k⌝ ∗ B1 ∗ ∃ W, owes (c : Thread nD τ) 0 W)))
    (hp2 : ∀ a b d e g z W, a = ivOf k → iprop(A2 ∗ owes (c : Thread nD τ) 0 W) ⊢ wp frame (wpE (defs₀ (F := F)) 𝒱₀ (c : Thread nD τ) none) Set.univ
      (k0_part2 (F := F) xM (Memref.isWhole_whole _) arg1 harg1 arg2 harg2 arg3 harg3 arg4 harg4 (Memref.whole main_v1) (Memref.isWhole_whole _) arg6 harg6 (Memref.whole main_v3) (Memref.isWhole_whole _) oM (Memref.isWhole_whole _) xbM (Memref.isWhole_whole _) obM (Memref.isWhole_whole _) cc0_scratch2 cc0_scratch3 winM (Memref.isWhole_whole _) woutM (Memref.isWhole_whole _) (Memref.whole cc0_scratch6) (Memref.isWhole_whole _) (Memref.whole cc0_scratch7) (Memref.isWhole_whole _) cc0_scratch8 cc0_scratch9 hM (Memref.isWhole_whole _) projM (Memref.isWhole_whole _) ymixM (Memref.isWhole_whole _) mixM (Memref.isWhole_whole _) stateM (Memref.isWhole_whole _) ucarryM (Memref.isWhole_whole _) dmatM (Memref.isWhole_whole _) qdecM (Memref.isWhole_whole _) kdecM (Memref.isWhole_whole _) cosrM (Memref.isWhole_whole _) sinrM (Memref.isWhole_whole _) cos2M (Memref.isWhole_whole _) sin2M (Memref.isWhole_whole _) k a b d e g z)
      (fun r => iprop(⌜r.2.1 = w1⌝ ∗ ⌜r.2.2.1 = w2⌝ ∗ ⌜r.2.2.2 = w3⌝ ∗ C2
        ∗ xslotP c (Ring.sl 2 k.val) (landed c XA k fx) ∗ oslotP c (Ring.sl 2 k.val) gs ∗ ocellP c (Ring.sl 2 k.val) ∗ ∃ W, owes (c : Thread nD τ) 0 W))) :
    Σ' (G : Prop), G → (iprop(heldP c arg1 g1 ∗ heldP c arg2 g2 ∗ heldP c arg3 g3 ∗ heldP c arg4 g4 ∗ heldP c arg6 g6
        ∗ heldP c winM fwi ∗ heldP c woutM fwo ∗ heldP c stateM fst ∗ heldP c ucarryM fuc ∗ heldP c dmatM fdm ∗ heldP c qdecM fqd
        ∗ heldP c kdecM fkd ∗ heldP c cosrM fcr ∗ heldP c sinrM fsr ∗ heldP c hM fh ∗ heldP c projM fp ∗ heldP c ymixM fym ∗ heldP c mixM fm
        ∗ heldP c cos2M fc2 ∗ heldP c sin2M fs2 ∗ owes (c : Thread nD τ) 0 W ∗ A1 ∗ A2 ∗ oblkP c (Ring.bk 64 k.val) fo)
      ⊢ wp frame (wpE (defs₀ (F := F)) 𝒱₀ (c : Thread nD τ) none) Set.univ (tripG arg1 harg1 arg2 harg2 arg3 harg3 arg4 harg4 arg6 harg6 v381 v500 v502 v511 k)
        (fun _ => Φ)) := by
  sl_stretch
  iintro ⟨H1, H2, H3, H4, H6, Hwi, Hwo, Hst, Huc, Hdm, Hqd, Hkd, Hcr, Hsr, Hh, Hp, Hym, Hm, Hc2, Hs2, HW, HA1, HA2, Hob⟩
  sl_unfold [tripG, k0_t1_body, k0_part106, k0_part107]
  set_option sl_exec.stopBefore "k0_part105" in sl_exec_parts
  sl_seam

end Trip

end Cert.Proof.Mixer

end
-- ==== Proof.MixerSetup.lean ====
/- The mixer kernel's set-up: the weights staged and rounded, the tables of decays and of rotations, the state cleared. -/
module

public import proofs.«01_k».proof.Proof.MixerTrip

@[expose] public section

set_option maxRecDepth 65536

noncomputable section

namespace Cert.Proof.Mixer

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UC sig nD τ) ℕ

variable (c : Dev nD) (XA : Buf (Elt F) (xM.view.loc (c : Thread nD τ)))
  (arg1 : Memref sig .tc .vmem S6x32x1024 .f32) (harg1 : arg1.IsWhole)
  (arg2 : Memref sig .tc .vmem S32x16x128 .i32) (harg2 : arg2.IsWhole)
  (arg3 : Memref sig .tc .vmem S1x1024 .f32) (harg3 : arg3.IsWhole)
  (arg4 : Memref sig .tc .vmem S1x1024 .f32) (harg4 : arg4.IsWhole)
  (arg6 : Memref sig .tc .vmem S3x512 .f32) (harg6 : arg6.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (g6 : Buf (Elt F) (arg6.view.loc (c : Thread nD τ)))

/-- The two weights in HBM, and the buffers their pieces land in. -/
abbrev a5M : Memref sig .tc .hbm S1024x3584 .f32 := Memref.whole main_v1
abbrev a7M : Memref sig .tc .hbm S1024x1024 .f32 := Memref.whole main_v3
abbrev s1M : Memref sig .tc .vmem S4x64x3584 .f32 := Memref.whole cc0_scratch6
abbrev s2M : Memref sig .tc .vmem S4x256x1024 .f32 := Memref.whole cc0_scratch7

abbrev bodyG : Prog (TpuEff nD τ sig (Elt F) Λ₀ .tc) PUnit :=
  cc0_mixer (F := F) xM (Memref.isWhole_whole _) arg1 harg1 arg2 harg2 arg3 harg3 arg4 harg4 (Memref.whole main_v1) (Memref.isWhole_whole _) arg6 harg6 (Memref.whole main_v3) (Memref.isWhole_whole _) oM (Memref.isWhole_whole _) xbM (Memref.isWhole_whole _) obM (Memref.isWhole_whole _) cc0_scratch2 cc0_scratch3 winM (Memref.isWhole_whole _) woutM (Memref.isWhole_whole _) (Memref.whole cc0_scratch6) (Memref.isWhole_whole _) (Memref.whole cc0_scratch7) (Memref.isWhole_whole _) cc0_scratch8 cc0_scratch9 hM (Memref.isWhole_whole _) projM (Memref.isWhole_whole _) ymixM (Memref.isWhole_whole _) mixM (Memref.isWhole_whole _) stateM (Memref.isWhole_whole _) ucarryM (Memref.isWhole_whole _) dmatM (Memref.isWhole_whole _) qdecM (Memref.isWhole_whole _) kdecM (Memref.isWhole_whole _) cosrM (Memref.isWhole_whole _) sinrM (Memref.isWhole_whole _) cos2M (Memref.isWhole_whole _) sin2M (Memref.isWhole_whole _)

/-- The semaphores of the copies into the staging slots. -/
abbrev w1sem0 : DmaSems sig S_ := (cc0_scratch8.slice (Rect.unit (s := S4) ![0] S1.size inb_S4_S1_0)).squeeze S_ squeezes_S1_S_
abbrev w1sem1 : DmaSems sig S_ := (cc0_scratch8.slice (Rect.unit (s := S4) ![1] S1.size inb_S4_S1_1)).squeeze S_ squeezes_S1_S_
abbrev w1sem2 : DmaSems sig S_ := (cc0_scratch8.slice (Rect.unit (s := S4) ![2] S1.size inb_S4_S1_2)).squeeze S_ squeezes_S1_S_
abbrev w1sem3 : DmaSems sig S_ := (cc0_scratch8.slice (Rect.unit (s := S4) ![3] S1.size inb_S4_S1_3)).squeeze S_ squeezes_S1_S_
abbrev w2sem0 : DmaSems sig S_ := (cc0_scratch9.slice (Rect.unit (s := S4) ![0] S1.size inb_S4_S1_0)).squeeze S_ squeezes_S1_S_
abbrev w2sem1 : DmaSems sig S_ := (cc0_scratch9.slice (Rect.unit (s := S4) ![1] S1.size inb_S4_S1_1)).squeeze S_ squeezes_S1_S_
abbrev w2sem2 : DmaSems sig S_ := (cc0_scratch9.slice (Rect.unit (s := S4) ![2] S1.size inb_S4_S1_2)).squeeze S_ squeezes_S1_S_
abbrev w2sem3 : DmaSems sig S_ := (cc0_scratch9.slice (Rect.unit (s := S4) ![3] S1.size inb_S4_S1_3)).squeeze S_ squeezes_S1_S_
abbrev scellP (s : DmaSems sig S_) : sProp 𝕄 := semVal ((c : Thread nD τ), SemLoc.dma s.sem) 0

/-- The staging slots. -/
abbrev w1slot0 : Memref sig .tc .vmem S64x3584 .f32 := (s1M.slice (Rect.unit (s := S4x64x3584) ![0, 0, 0] S1x64x3584.size inb_S4x64x3584_S1x64x3584_0_0_0) (fun _ => rfl)).squeeze S64x3584 squeezes_S1x64x3584_S64x3584
abbrev w1slot1 : Memref sig .tc .vmem S64x3584 .f32 := (s1M.slice (Rect.unit (s := S4x64x3584) ![1, 0, 0] S1x64x3584.size inb_S4x64x3584_S1x64x3584_1_0_0) (fun _ => rfl)).squeeze S64x3584 squeezes_S1x64x3584_S64x3584
abbrev w1slot2 : Memref sig .tc .vmem S64x3584 .f32 := (s1M.slice (Rect.unit (s := S4x64x3584) ![2, 0, 0] S1x64x3584.size inb_S4x64x3584_S1x64x3584_2_0_0) (fun _ => rfl)).squeeze S64x3584 squeezes_S1x64x3584_S64x3584
abbrev w1slot3 : Memref sig .tc .vmem S64x3584 .f32 := (s1M.slice (Rect.unit (s := S4x64x3584) ![3, 0, 0] S1x64x3584.size inb_S4x64x3584_S1x64x3584_3_0_0) (fun _ => rfl)).squeeze S64x3584 squeezes_S1x64x3584_S64x3584
abbrev w2slot0 : Memref sig .tc .vmem S256x1024 .f32 := (s2M.slice (Rect.unit (s := S4x256x1024) ![0, 0, 0] S1x256x1024.size inb_S4x256x1024_S1x256x1024_0_0_0) (fun _ => rfl)).squeeze S256x1024 squeezes_S1x256x1024_S256x1024
abbrev w2slot1 : Memref sig .tc .vmem S256x1024 .f32 := (s2M.slice (Rect.unit (s := S4x256x1024) ![1, 0, 0] S1x256x1024.size inb_S4x256x1024_S1x256x1024_1_0_0) (fun _ => rfl)).squeeze S256x1024 squeezes_S1x256x1024_S256x1024
abbrev w2slot2 : Memref sig .tc .vmem S256x1024 .f32 := (s2M.slice (Rect.unit (s := S4x256x1024) ![2, 0, 0] S1x256x1024.size inb_S4x256x1024_S1x256x1024_2_0_0) (fun _ => rfl)).squeeze S256x1024 squeezes_S1x256x1024_S256x1024
abbrev w2slot3 : Memref sig .tc .vmem S256x1024 .f32 := (s2M.slice (Rect.unit (s := S4x256x1024) ![3, 0, 0] S1x256x1024.size inb_S4x256x1024_S1x256x1024_3_0_0) (fun _ => rfl)).squeeze S256x1024 squeezes_S1x256x1024_S256x1024

set_option maxHeartbeats 40000000 in
/-- The body up to its loop. -/
def setUp (Φ : sProp 𝕄) (A5 : Buf (Elt F) (a5M.view.loc (c : Thread nD τ))) (A7 : Buf (Elt F) (a7M.view.loc (c : Thread nD τ)))
    (fx0 : Buf (Elt F) ((xslot 0).view.loc (c : Thread nD τ))) (W) (f10 f11 f12 f13 : Buf (Elt F) (s1M.view.loc (c : Thread nD τ))) (f20 f21 f22 f23 : Buf (Elt F) (s2M.view.loc (c : Thread nD τ)))
    (fwi : Buf (Elt F) (winM.view.loc (c : Thread nD τ))) (fwo : Buf (Elt F) (woutM.view.loc (c : Thread nD τ)))
    (fst : Buf (Elt F) (stateM.view.loc (c : Thread nD τ))) (fuc : Buf (Elt F) (ucarryM.view.loc (c : Thread nD τ)))
    (fdm : Buf (Elt F) (dmatM.view.loc (c : Thread nD τ))) (fqd : Buf (Elt F) (qdecM.view.loc (c : Thread nD τ)))
    (fkd : Buf (Elt F) (kdecM.view.loc (c : Thread nD τ))) (fcr : Buf (Elt F) (cosrM.view.loc (c : Thread nD τ)))
    (fsr : Buf (Elt F) (sinrM.view.loc (c : Thread nD τ)))
    (Rest : sProp 𝕄) :
    Σ' (G : Prop), G → (iprop(heldP c arg1 g1 ∗ heldP c arg2 g2 ∗ heldP c arg3 g3 ∗ heldP c arg4 g4 ∗ heldP c arg6 g6
        ∗ heldP c winM fwi ∗ heldP c woutM fwo ∗ heldP c stateM fst ∗ heldP c ucarryM fuc ∗ heldP c dmatM fdm ∗ heldP c qdecM fqd
        ∗ heldP c kdecM fkd ∗ heldP c cosrM fcr ∗ heldP c sinrM fsr ∗ owes (c : Thread nD τ) 0 W
        ∗ heldP c a5M A5 ∗ heldP c a7M A7
        ∗ heldP c w1slot0 f10 ∗ heldP c w1slot1 f11 ∗ heldP c w1slot2 f12 ∗ heldP c w1slot3 f13
        ∗ heldP c w2slot0 f20 ∗ heldP c w2slot1 f21 ∗ heldP c w2slot2 f22 ∗ heldP c w2slot3 f23
        ∗ scellP c w1sem0 ∗ scellP c w1sem1 ∗ scellP c w1sem2 ∗ scellP c w1sem3
        ∗ scellP c w2sem0 ∗ scellP c w2sem1 ∗ scellP c w2sem2 ∗ scellP c w2sem3
        ∗ xblkP c XA 0 ∗ xslotP c 0 fx0 ∗ xcellP c 0 ∗ Rest)
      ⊢ wp frame (wpE (defs₀ (F := F)) 𝒱₀ (c : Thread nD τ) none) Set.univ (bodyG arg1 harg1 arg2 harg2 arg3 harg3 arg4 harg4 arg6 harg6)
        (fun _ => Φ)) := by
  sl_stretch
  iintro ⟨H1, H2, H3, H4, H6, Hwi, Hwo, Hst, Huc, Hdm, Hqd, Hkd, Hcr, Hsr, HW, Ha5, Ha7, HS0, HS1, HS2, HS3, HS4, HS5, HS6, HS7, Hc10, Hc11, Hc12, Hc13, Hc20, Hc21, Hc22, Hc23, Hb, Hx, Hxc, HR⟩
  sl_exec_parts
  sl_seam

end Cert.Proof.Mixer

end
-- ==== Proof.MixerGen.lean ====
/- One trip of the mixer kernel's loop, from its start to the copy out of its block of the result. -/
module

public import proofs.«01_k».proof.Proof.MixerTrip
public import Idealize.ShloMosaic.Lib.Pipeline.ReadBack
public import Idealize.ShloMosaic.Lib.Pipeline.ValueKit.Tiles

@[expose] public section

set_option maxRecDepth 65536

noncomputable section

namespace Cert.Proof.Mixer

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UC sig nD τ) ℕ

variable (c : Dev nD) (XA : Buf (Elt F) (xM.view.loc (c : Thread nD τ)))
  (arg1 : Memref sig .tc .vmem S6x32x1024 .f32) (harg1 : arg1.IsWhole)
  (arg2 : Memref sig .tc .vmem S32x16x128 .i32) (harg2 : arg2.IsWhole)
  (arg3 : Memref sig .tc .vmem S1x1024 .f32) (harg3 : arg3.IsWhole)
  (arg4 : Memref sig .tc .vmem S1x1024 .f32) (harg4 : arg4.IsWhole)
  (arg6 : Memref sig .tc .vmem S3x512 .f32) (harg6 : arg6.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (g6 : Buf (Elt F) (arg6.view.loc (c : Thread nD τ)))
  (fwi : Buf (Elt F) (winM.view.loc (c : Thread nD τ))) (fwo : Buf (Elt F) (woutM.view.loc (c : Thread nD τ)))
  (fdm : Buf (Elt F) (dmatM.view.loc (c : Thread nD τ))) (fqd : Buf (Elt F) (qdecM.view.loc (c : Thread nD τ)))
  (fkd : Buf (Elt F) (kdecM.view.loc (c : Thread nD τ))) (fcr : Buf (Elt F) (cosrM.view.loc (c : Thread nD τ)))
  (fsr : Buf (Elt F) (sinrM.view.loc (c : Thread nD τ)))

/-! ## The first two parts -/

/-- What the second part hands on: the trip's number modulo 2, as the kernel computes it. -/
abbrev w614 (k : Fin k0_t1_loop.trips) : BitVec 32 := Scalar.remsi (ivOf k) 2#32
abbrev w619 : BitVec 1 := 0#1
abbrev w620 (k : Fin k0_t1_loop.trips) : BitVec 32 := Scalar.addi (w614 k) 2#32

/-- A part of a trip, taking `A` to `B` and keeping what the core owes. -/
abbrev Part1 (k : Fin k0_t1_loop.trips) (A B : sProp 𝕄) : Prop := ∀ W, iprop(A ∗ owes (c : Thread nD τ) 0 W) ⊢ wp frame (wpE (defs₀ (F := F)) 𝒱₀ (c : Thread nD τ) none) Set.univ
  (k0_part1 (F := F) xM (Memref.isWhole_whole _) arg1 harg1 arg2 harg2 arg3 harg3 arg4 harg4 (Memref.whole main_v1) (Memref.isWhole_whole _) arg6 harg6 (Memref.whole main_v3) (Memref.isWhole_whole _) oM (Memref.isWhole_whole _) xbM (Memref.isWhole_whole _) obM (Memref.isWhole_whole _) cc0_scratch2 cc0_scratch3 winM (Memref.isWhole_whole _) woutM (Memref.isWhole_whole _) (Memref.whole cc0_scratch6) (Memref.isWhole_whole _) (Memref.whole cc0_scratch7) (Memref.isWhole_whole _) cc0_scratch8 cc0_scratch9 hM (Memref.isWhole_whole _) projM (Memref.isWhole_whole _) ymixM (Memref.isWhole_whole _) mixM (Memref.isWhole_whole _) stateM (Memref.isWhole_whole _) ucarryM (Memref.isWhole_whole _) dmatM (Memref.isWhole_whole _) qdecM (Memref.isWhole_whole _) kdecM (Memref.isWhole_whole _) cosrM (Memref.isWhole_whole _) sinrM (Memref.isWhole_whole _) cos2M (Memref.isWhole_whole _) sin2M (Memref.isWhole_whole _) 0#32 1#32 k) (fun r => iprop(⌜r.1 = ivOf k⌝ ∗ B ∗ ∃ W, owes (c : Thread nD τ) 0 W))
abbrev Part2 (k : Fin k0_t1_loop.trips) (A C : sProp 𝕄) (fx : Buf (Elt F) ((xslot (Ring.sl 2 k.val)).view.loc (c : Thread nD τ))) (gs : Buf (Elt F) ((oslot (Ring.sl 2 k.val)).view.loc (c : Thread nD τ))) : Prop := ∀ a b d e g z W, a = ivOf k → iprop(A ∗ owes (c : Thread nD τ) 0 W) ⊢ wp frame (wpE (defs₀ (F := F)) 𝒱₀ (c : Thread nD τ) none) Set.univ
  (k0_part2 (F := F) xM (Memref.isWhole_whole _) arg1 harg1 arg2 harg2 arg3 harg3 arg4 harg4 (Memref.whole main_v1) (Memref.isWhole_whole _) arg6 harg6 (Memref.whole main_v3) (Memref.isWhole_whole _) oM (Memref.isWhole_whole _) xbM (Memref.isWhole_whole _) obM (Memref.isWhole_whole _) cc0_scratch2 cc0_scratch3 winM (Memref.isWhole_whole _) woutM (Memref.isWhole_whole _) (Memref.whole cc0_scratch6) (Memref.isWhole_whole _) (Memref.whole cc0_scratch7) (Memref.isWhole_whole _) cc0_scratch8 cc0_scratch9 hM (Memref.isWhole_whole _) projM (Memref.isWhole_whole _) ymixM (Memref.isWhole_whole _) mixM (Memref.isWhole_whole _) stateM (Memref.isWhole_whole _) ucarryM (Memref.isWhole_whole _) dmatM (Memref.isWhole_whole _) qdecM (Memref.isWhole_whole _) kdecM (Memref.isWhole_whole _) cosrM (Memref.isWhole_whole _) sinrM (Memref.isWhole_whole _) cos2M (Memref.isWhole_whole _) sin2M (Memref.isWhole_whole _) k a b d e g z)
  (fun r => iprop(⌜r.2.1 = w614 k⌝ ∗ ⌜r.2.2.1 = w619⌝ ∗ ⌜r.2.2.2 = w620 k⌝ ∗ C
    ∗ xslotP c (Ring.sl 2 k.val) (landed c XA k fx) ∗ oslotP c (Ring.sl 2 k.val) gs ∗ ocellP c (Ring.sl 2 k.val) ∗ ∃ W, owes (c : Thread nD τ) 0 W))

theorem part1_start (k : Fin k0_t1_loop.trips) (h1 : k.val + 1 < 64) (fy) :
    Part1 (F := F) c arg1 harg1 arg2 harg2 arg3 harg3 arg4 harg4 arg6 harg6 k iprop(xslotP c (Ring.sl 2 (k.val + 1)) fy ∗ xcellP c (Ring.sl 2 (k.val + 1)) ∗ xblkP c XA (Ring.bk 64 (k.val + 1)))
      iprop(∃ f, xflightP c XA (Ring.sl 2 (k.val + 1)) (Ring.bk 64 (k.val + 1)) f) := by
  intro W
  have c1 := (cond1_iff k).mpr h1
  iintro ⟨⟨Hy, Hyc, Hyb⟩, HW⟩
  sl_unfold [k0_part1]
  sl_exec
  sl_step
  isplitr
  · ipureintro; rfl
  isplitl [Hyc]
  · iexists fy; iexact Hyc
  iexists _; iexact HW

theorem part1_skip (k : Fin k0_t1_loop.trips) (h1 : k.val = 63) : Part1 (F := F) c arg1 harg1 arg2 harg2 arg3 harg3 arg4 harg4 arg6 harg6 k iprop(emp) iprop(emp) := by
  intro W
  have c1 : ¬ k0_cond1 k = 1#1 := fun h => absurd ((cond1_iff k).mp h) (by omega)
  iintro ⟨-, HW⟩
  sl_unfold [k0_part1]
  sl_exec
  sl_step
  isplitr
  · ipureintro; rfl
  isplitr
  · iempintro
  iexists _; iexact HW

theorem part2_wait (k : Fin k0_t1_loop.trips) (h2 : 2 ≤ k.val) (fx gb gs) :
    Part2 c XA arg1 harg1 arg2 harg2 arg3 harg3 arg4 harg4 arg6 harg6 k iprop(xflightP c XA (Ring.sl 2 k.val) (Ring.bk 64 k.val) fx ∗ oflightP c (Ring.sl 2 k.val) (Ring.bk 64 (k.val - 2)) gb gs)
      iprop(xblkP c XA (Ring.bk 64 k.val) ∗ xcellP c (Ring.sl 2 k.val) ∗ oblkP c (Ring.bk 64 (k.val - 2)) gb) fx gs := by
  intro a b d e g z W ha
  have c2 := (cond2_iff k).mpr h2
  subst ha
  iintro ⟨⟨HFx, HFo⟩, HW⟩
  sl_unfold [k0_part2]
  sl_exec
  sl_step
  isplitr
  · ipureintro; rfl
  isplitr
  · ipureintro; rfl
  isplitr
  · ipureintro; rfl
  isplitl [HFx_src HFx HFo_dst]
  · isplitl [HFx_src]; iexact HFx_src
    isplitl [HFx]; iexact HFx
    iexact HFo_dst
  isplitl [HFx_dst]; iexact HFx_dst
  isplitl [HFo_src]; iexact HFo_src
  isplitl [HFo]; iexact HFo
  iexists _; iexact HW

theorem part2_skip (k : Fin k0_t1_loop.trips) (h2 : k.val < 2) (fx gs) :
    Part2 c XA arg1 harg1 arg2 harg2 arg3 harg3 arg4 harg4 arg6 harg6 k iprop(xflightP c XA (Ring.sl 2 k.val) (Ring.bk 64 k.val) fx ∗ oslotP c (Ring.sl 2 k.val) gs ∗ ocellP c (Ring.sl 2 k.val))
      iprop(xblkP c XA (Ring.bk 64 k.val) ∗ xcellP c (Ring.sl 2 k.val)) fx gs := by
  intro a b d e g z W ha
  have c2 : ¬ k0_cond2 k = 1#1 := fun h => absurd ((cond2_iff k).mp h) (by omega)
  subst ha
  iintro ⟨⟨HFx, Hs, Hsc⟩, HW⟩
  sl_unfold [k0_part2]
  sl_exec
  sl_step
  isplitr
  · ipureintro; rfl
  isplitr
  · ipureintro; rfl
  isplitr
  · ipureintro; rfl
  isplitl [HFx_src HFx]
  · isplitl [HFx_src]; iexact HFx_src
    iexact HFx
  isplitl [HFx_dst]; iexact HFx_dst
  isplitl [Hs]; iexact Hs
  isplitl [Hsc]; iexact Hsc
  iexists _; iexact HW

variable (v381 : FVec F S256x128 .f32) (v500 : BitVec 32) (v502 : IVec S1x128 32) (v511 : IVec S1x128 1)

/-! ## The trip -/

/-- What every trip reads and the buffers it writes over. -/
def readsP : sProp 𝕄 :=
  iprop(heldP c arg1 g1 ∗ heldP c arg2 g2 ∗ heldP c arg3 g3 ∗ heldP c arg4 g4 ∗ heldP c arg6 g6
    ∗ heldP c winM fwi ∗ heldP c woutM fwo ∗ heldP c dmatM fdm ∗ heldP c qdecM fqd ∗ heldP c kdecM fkd ∗ heldP c cosrM fcr ∗ heldP c sinrM fsr
    ∗ (∃ f, heldP c hM f) ∗ (∃ f, heldP c projM f) ∗ (∃ f, heldP c ymixM f) ∗ (∃ f, heldP c mixM f) ∗ (∃ f, heldP c cos2M f) ∗ (∃ f, heldP c sin2M f)
    ∗ (∃ W, owes (c : Thread nD τ) 0 W))

/-- Block `b` of the result in flight out of slot `s`, its contents to be `w`. -/
def sentP (s : Fin 2) (b : Fin 64) (w : Vec F S1x1024x1024 .f32) : sProp 𝕄 :=
  iprop(∃ f g, ⌜(oblk b).view.read (Elt F) f = w⌝ ∗ oflightP c s b f g)

theorem sent_intro (s : Fin 2) (b : Fin 64) (fo gs) (L : List (View.Piece (Elt F) S1x1024x1024 .f32)) (h : ∀ y, ∃ p ∈ L, y ∈ p.1.set) :
    oflightP c s b ((oblk b).view.writes (Elt F) fo [⟨Rect.whole S1x1024x1024, ReadAs.same.apply ((oslot s).view.read (Elt F) ((oslot s).view.writes (Elt F) gs L))⟩])
      ((oslot s).view.writes (Elt F) gs L) ⊢ sentP c s b (View.canon L) := by
  unfold sentP
  iintro H
  iexists _
  iexists _
  isplitr [H]
  rotate_left
  · iexact H
  · ipureintro
    rw [View.read_writes_whole]
    funext y
    exact View.read_writes_apply_eq_canon _ _ y L (h y)

/-- The carried state and the last rows of the convolution's input, after trip `k`. -/
def stStep (k : Fin k0_t1_loop.trips) (s : Buf (Elt F) (stateM.view.loc (c : Thread nD τ)) × Buf (Elt F) (ucarryM.view.loc (c : Thread nD τ))) :
    Buf (Elt F) (stateM.view.loc (c : Thread nD τ)) × Buf (Elt F) (ucarryM.view.loc (c : Thread nD τ)) :=
  (stateM.view.writes (Elt F) s.1 (tripRun.sl.Hst_16 c XA arg1 arg2 arg3 g1 g2 g3 k fwi s.1 fkd fcr fsr (w614 k) w619 (w620 k)),
    ucarryM.view.writes (Elt F) s.2 (tripRun.sl.Huc_1 c XA arg1 arg3 g1 g3 k fwi))
def stateP (s : Buf (Elt F) (stateM.view.loc (c : Thread nD τ)) × Buf (Elt F) (ucarryM.view.loc (c : Thread nD τ))) : sProp 𝕄 :=
  iprop(heldP c stateM s.1 ∗ heldP c ucarryM s.2)

set_option maxHeartbeats 4000000 in
/-- A trip, for any first two parts; the first component is the block of the result it computes. -/
def tripGen (k : Fin k0_t1_loop.trips) (A1 B1 A2 C2 : sProp 𝕄) (fx fo gs) (s : Buf (Elt F) (stateM.view.loc (c : Thread nD τ)) × Buf (Elt F) (ucarryM.view.loc (c : Thread nD τ)))
    (fh : Buf (Elt F) (hM.view.loc (c : Thread nD τ))) (fp : Buf (Elt F) (projM.view.loc (c : Thread nD τ))) (fym : Buf (Elt F) (ymixM.view.loc (c : Thread nD τ))) (fm : Buf (Elt F) (mixM.view.loc (c : Thread nD τ))) (fc2 : Buf (Elt F) (cos2M.view.loc (c : Thread nD τ))) (fs2 : Buf (Elt F) (sin2M.view.loc (c : Thread nD τ)))
    (hp1 : Part1 c arg1 harg1 arg2 harg2 arg3 harg3 arg4 harg4 arg6 harg6 k A1 B1) (hp2 : Part2 c XA arg1 harg1 arg2 harg2 arg3 harg3 arg4 harg4 arg6 harg6 k A2 C2 fx gs) (W) :
    Σ' (T : Vec F S1x1024x1024 .f32), iprop(heldP c arg1 g1 ∗ heldP c arg2 g2 ∗ heldP c arg3 g3 ∗ heldP c arg4 g4 ∗ heldP c arg6 g6
        ∗ heldP c winM fwi ∗ heldP c woutM fwo ∗ heldP c stateM s.1 ∗ heldP c ucarryM s.2 ∗ heldP c dmatM fdm ∗ heldP c qdecM fqd
        ∗ heldP c kdecM fkd ∗ heldP c cosrM fcr ∗ heldP c sinrM fsr ∗ heldP c hM fh ∗ heldP c projM fp ∗ heldP c ymixM fym ∗ heldP c mixM fm
        ∗ heldP c cos2M fc2 ∗ heldP c sin2M fs2 ∗ owes (c : Thread nD τ) 0 W ∗ A1 ∗ A2 ∗ oblkP c (Ring.bk 64 k.val) fo)
      ⊢ wp frame (wpE (defs₀ (F := F)) 𝒱₀ (c : Thread nD τ) none) Set.univ (tripG arg1 harg1 arg2 harg2 arg3 harg3 arg4 harg4 arg6 harg6 v381 v500 v502 v511 k)
        (fun _ => iprop(readsP c arg1 arg2 arg3 arg4 arg6 g1 g2 g3 g4 g6 fwi fwo fdm fqd fkd fcr fsr
          ∗ stateP c (stStep c XA arg1 arg2 arg3 g1 g2 g3 fwi fkd fcr fsr k s) ∗ B1 ∗ C2
          ∗ (∃ f, xslotP c (Ring.sl 2 k.val) f) ∗ sentP c (Ring.sl 2 k.val) (Ring.bk 64 k.val) T)) := by
  refine ⟨?T, (tripRun c XA arg1 harg1 arg2 harg2 arg3 harg3 arg4 harg4 arg6 harg6 g1 g2 g3 g4 g6 v381 v500 v502 v511 k (w614 k) w619 (w620 k) A1 B1 A2 C2 _ fx fo gs fwi fwo s.1 s.2 fdm fqd fkd fcr fsr fh fp fym fm fc2 fs2 W (hp1 W) hp2).2 ?G⟩
  case G =>
  sl_resume
  obtain rfl : v614 = w614 k := hk0_part2_0
  obtain rfl : v619 = w619 := hk0_part2_1
  obtain rfl : v620 = w620 k := hk0_part2_2
  sl_exec_parts
  sl_step
  unfold readsP stateP stStep
  isplitl [H1 H2 H3 H4 H6 Hwi Hwo Hdm Hqd Hkd Hcr Hsr Hh Hp Hym Hm Hc2 Hs2 Hk0_part2_7]
  · isplitl [H1]; iexact H1
    isplitl [H2]; iexact H2
    isplitl [H3]; iexact H3
    isplitl [H4]; iexact H4
    isplitl [H6]; iexact H6
    isplitl [Hwi]; iexact Hwi
    isplitl [Hwo]; iexact Hwo
    isplitl [Hdm]; iexact Hdm
    isplitl [Hqd]; iexact Hqd
    isplitl [Hkd]; iexact Hkd
    isplitl [Hcr]; iexact Hcr
    isplitl [Hsr]; iexact Hsr
    isplitl [Hh]; · iexists _; iexact Hh
    isplitl [Hp]; · iexists _; iexact Hp
    isplitl [Hym]; · iexists _; iexact Hym
    isplitl [Hm]; · iexists _; iexact Hm
    isplitl [Hc2]; · iexists _; iexact Hc2
    isplitl [Hs2]; · iexists _; iexact Hs2
    iexists _; iexact Hk0_part2_7
  isplitl [Hst Huc]
  · isplitl [Hst]; iexact Hst
    iexact Huc
  isplitl [Hk0_part1_1]; iexact Hk0_part1_1
  isplitl [Hk0_part2_3]; iexact Hk0_part2_3
  isplitl [Hk0_part2_4]; · iexists _; iexact Hk0_part2_4
  iapply (sent_intro c (Ring.sl 2 k.val) (Ring.bk 64 k.val) fo gs _ ?hc)
  rotate_left
  · iexact Hk0_part2_6
  · intro y
    exact View.cover_of_tiled_head _ _ _ rfl y

/-- Trip `k`'s block of the result, of the contents the trip finds. -/
def tileAt (k : Fin k0_t1_loop.trips) (s : Buf (Elt F) (stateM.view.loc (c : Thread nD τ)) × Buf (Elt F) (ucarryM.view.loc (c : Thread nD τ))) : Vec F S1x1024x1024 .f32 :=
  View.canon (tripGen.sl.Hk0_part2_5_32 c XA arg1 arg2 arg3 arg4 arg6 g1 g2 g3 g4 g6 fwi fwo fdm fqd fkd fcr fsr k s)

set_option maxHeartbeats 4000000 in
/-- A trip, for any first two parts. -/
theorem tripFull (k : Fin k0_t1_loop.trips) (A1 B1 A2 C2 : sProp 𝕄) (fx fo gs) (s : Buf (Elt F) (stateM.view.loc (c : Thread nD τ)) × Buf (Elt F) (ucarryM.view.loc (c : Thread nD τ)))
    (hp1 : Part1 c arg1 harg1 arg2 harg2 arg3 harg3 arg4 harg4 arg6 harg6 k A1 B1) (hp2 : Part2 c XA arg1 harg1 arg2 harg2 arg3 harg3 arg4 harg4 arg6 harg6 k A2 C2 fx gs) :
    iprop(readsP c arg1 arg2 arg3 arg4 arg6 g1 g2 g3 g4 g6 fwi fwo fdm fqd fkd fcr fsr ∗ stateP c s ∗ A1 ∗ A2 ∗ oblkP c (Ring.bk 64 k.val) fo)
      ⊢ wp frame (wpE (defs₀ (F := F)) 𝒱₀ (c : Thread nD τ) none) Set.univ (tripG arg1 harg1 arg2 harg2 arg3 harg3 arg4 harg4 arg6 harg6 v381 v500 v502 v511 k)
        (fun _ => iprop(readsP c arg1 arg2 arg3 arg4 arg6 g1 g2 g3 g4 g6 fwi fwo fdm fqd fkd fcr fsr
          ∗ stateP c (stStep c XA arg1 arg2 arg3 g1 g2 g3 fwi fkd fcr fsr k s) ∗ B1 ∗ C2
          ∗ (∃ f, xslotP c (Ring.sl 2 k.val) f)
          ∗ sentP c (Ring.sl 2 k.val) (Ring.bk 64 k.val) (tileAt c XA arg1 arg2 arg3 arg4 arg6 g1 g2 g3 g4 g6 fwi fwo fdm fqd fkd fcr fsr k s))) := by
  have key := fun fh fp fym fm fc2 fs2 W => (tripGen c XA arg1 harg1 arg2 harg2 arg3 harg3 arg4 harg4 arg6 harg6 g1 g2 g3 g4 g6 fwi fwo fdm fqd fkd fcr fsr v381 v500 v502 v511 k A1 B1 A2 C2 fx fo gs s fh fp fym fm fc2 fs2 hp1 hp2 W).2
  rw [tileAt]
  conv_lhs => unfold readsP stateP
  iintro ⟨⟨H1, H2, H3, H4, H6, Hwi, Hwo, Hdm, Hqd, Hkd, Hcr, Hsr, ⟨%fh, Hh⟩, ⟨%fp, Hp⟩, ⟨%fym, Hym⟩, ⟨%fm, Hm⟩, ⟨%fc2, Hc2⟩, ⟨%fs2, Hs2⟩, ⟨%W, HW⟩⟩, ⟨Hst, Huc⟩, HA1, HA2, Hob⟩
  iapply (key fh fp fym fm fc2 fs2 W)
  isplitl [H1]; iexact H1
  isplitl [H2]; iexact H2
  isplitl [H3]; iexact H3
  isplitl [H4]; iexact H4
  isplitl [H6]; iexact H6
  isplitl [Hwi]; iexact Hwi
  isplitl [Hwo]; iexact Hwo
  isplitl [Hst]; iexact Hst
  isplitl [Huc]; iexact Huc
  isplitl [Hdm]; iexact Hdm
  isplitl [Hqd]; iexact Hqd
  isplitl [Hkd]; iexact Hkd
  isplitl [Hcr]; iexact Hcr
  isplitl [Hsr]; iexact Hsr
  isplitl [Hh]; iexact Hh
  isplitl [Hp]; iexact Hp
  isplitl [Hym]; iexact Hym
  isplitl [Hm]; iexact Hm
  isplitl [Hc2]; iexact Hc2
  isplitl [Hs2]; iexact Hs2
  isplitl [HW]; iexact HW
  isplitl [HA1]; iexact HA1
  isplitl [HA2]; iexact HA2
  iexact Hob

end Cert.Proof.Mixer

end
-- ==== Proof.MixerLoop.lean ====
/- The invariant of the mixer kernel's loop over its 64 blocks. -/
module

public import proofs.«01_k».proof.Proof.MixerGen

@[expose] public section

set_option maxRecDepth 65536

noncomputable section

namespace Cert.Proof.Mixer

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UC sig nD τ) ℕ

variable (c : Dev nD) (XA : Buf (Elt F) (xM.view.loc (c : Thread nD τ)))
  (arg1 : Memref sig .tc .vmem S6x32x1024 .f32) (harg1 : arg1.IsWhole)
  (arg2 : Memref sig .tc .vmem S32x16x128 .i32) (harg2 : arg2.IsWhole)
  (arg3 : Memref sig .tc .vmem S1x1024 .f32) (harg3 : arg3.IsWhole)
  (arg4 : Memref sig .tc .vmem S1x1024 .f32) (harg4 : arg4.IsWhole)
  (arg6 : Memref sig .tc .vmem S3x512 .f32) (harg6 : arg6.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (g6 : Buf (Elt F) (arg6.view.loc (c : Thread nD τ)))
  (fwi : Buf (Elt F) (winM.view.loc (c : Thread nD τ))) (fwo : Buf (Elt F) (woutM.view.loc (c : Thread nD τ)))
  (fdm : Buf (Elt F) (dmatM.view.loc (c : Thread nD τ))) (fqd : Buf (Elt F) (qdecM.view.loc (c : Thread nD τ)))
  (fkd : Buf (Elt F) (kdecM.view.loc (c : Thread nD τ))) (fcr : Buf (Elt F) (cosrM.view.loc (c : Thread nD τ)))
  (fsr : Buf (Elt F) (sinrM.view.loc (c : Thread nD τ)))

variable (v381 : FVec F S256x128 .f32) (v500 : BitVec 32) (v502 : IVec S1x128 32) (v511 : IVec S1x128 1)

/-- The contents of the two buffers that carry from trip to trip. -/
abbrev Carry : Type := Buf (Elt F) (stateM.view.loc (c : Thread nD τ)) × Buf (Elt F) (ucarryM.view.loc (c : Thread nD τ))

variable (s0 : Carry (F := F) c)

/-- Block `b`'s trip. -/
def tripOf (b : Fin 64) : Fin k0_t1_loop.trips := ⟨b.val, by rw [trips_eq]; exact b.isLt⟩

theorem tripOf_bk (k : Fin k0_t1_loop.trips) : tripOf (Ring.bk 64 k.val) = k :=
  Fin.ext (Ring.bk_val (NB := 64) (trip_lt k))

/-- What the carried buffers hold before trip `k`. -/
def stAt : ℕ → Carry (F := F) c
  | 0 => s0
  | n + 1 => if h : n < k0_t1_loop.trips then stStep c XA arg1 arg2 arg3 g1 g2 g3 fwi fkd fcr fsr ⟨n, h⟩ (stAt n) else stAt n

theorem stAt_succ (k : Fin k0_t1_loop.trips) : stAt c XA arg1 arg2 arg3 g1 g2 g3 fwi fkd fcr fsr s0 (k.val + 1) = stStep c XA arg1 arg2 arg3 g1 g2 g3 fwi fkd fcr fsr k (stAt c XA arg1 arg2 arg3 g1 g2 g3 fwi fkd fcr fsr s0 k.val) := by
  rw [stAt, dif_pos k.isLt]

/-- Block `b`'s tile. -/
def tileB (b : Fin 64) : Vec F S1x1024x1024 .f32 := tileAt c XA arg1 arg2 arg3 arg4 arg6 g1 g2 g3 g4 g6 fwi fwo fdm fqd fkd fcr fsr (tripOf b) (stAt c XA arg1 arg2 arg3 g1 g2 g3 fwi fkd fcr fsr s0 b.val)

theorem tileB_bk (k : Fin k0_t1_loop.trips) : tileB c XA arg1 arg2 arg3 arg4 arg6 g1 g2 g3 g4 g6 fwi fwo fdm fqd fkd fcr fsr s0 (Ring.bk 64 k.val) = tileAt c XA arg1 arg2 arg3 arg4 arg6 g1 g2 g3 g4 g6 fwi fwo fdm fqd fkd fcr fsr k (stAt c XA arg1 arg2 arg3 g1 g2 g3 fwi fkd fcr fsr s0 k.val) := by
  unfold tileB
  rw [tripOf_bk, Ring.bk_val (NB := 64) (trip_lt k)]

/-- A block of the result not yet written, and one that holds the block `T b`. -/
def freshP (b : Fin 64) : sProp 𝕄 := iprop(∃ f, oblkP c b f)
def landedP (T : Fin 64 → Vec F S1x1024x1024 .f32) (b : Fin 64) : sProp 𝕄 :=
  iprop(∃ f, ⌜(oblk b).view.read (Elt F) f = T b⌝ ∗ oblkP c b f)

/-- A free slot of the argument's buffer, of the result's. -/
def xfreeP (s : Fin 2) : sProp 𝕄 := iprop((∃ f, xslotP c s f) ∗ xcellP c s)
def ofreeP (s : Fin 2) : sProp 𝕄 := iprop((∃ g, oslotP c s g) ∗ ocellP c s)

/-- Before trip `k`: the slot that block `k` lands in; the slots that block `k - 2` and block `k - 1` left from. -/
def xAt (k : ℕ) : sProp 𝕄 :=
  if k < 64 then iprop(∃ f, xflightP c XA (Ring.sl 2 k) (Ring.bk 64 k) f) else xfreeP c (Ring.sl 2 k)
def oAt (T : Fin 64 → Vec F S1x1024x1024 .f32) (d k : ℕ) : sProp 𝕄 :=
  if k < d then ofreeP c (Ring.sl 2 (k + (2 - d)))
  else sentP c (Ring.sl 2 (k + (2 - d))) (Ring.bk 64 (k - d)) (T (Ring.bk 64 (k - d)))

/-- The resources before trip `k`, the blocks of the result being `T`'s. -/
def ringAt (T : Fin 64 → Vec F S1x1024x1024 .f32) (k : ℕ) : sProp 𝕄 :=
  iprop(xAt c XA k ∗ xfreeP c (Ring.sl 2 (k + 1)) ∗ bigSep (Ring.homeSet 1 k) (xblkP c XA)
    ∗ oAt c T 2 k ∗ oAt c T 1 k
    ∗ bigSep (Ring.aheadSet k) (freshP c) ∗ bigSep (Ring.behindSet 2 k) (landedP c T))
def invAt (k : ℕ) : sProp 𝕄 :=
  iprop(readsP c arg1 arg2 arg3 arg4 arg6 g1 g2 g3 g4 g6 fwi fwo fdm fqd fkd fcr fsr ∗ stateP c (stAt c XA arg1 arg2 arg3 g1 g2 g3 fwi fkd fcr fsr s0 k) ∗ ringAt c XA (tileB c XA arg1 arg2 arg3 arg4 arg6 g1 g2 g3 g4 g6 fwi fwo fdm fqd fkd fcr fsr s0) k)

/-- A block in flight, its contents named. -/
theorem sent_open (s : Fin 2) (b : Fin 64) (w : Vec F S1x1024x1024 .f32) :
    sentP c s b w ⊢ iprop(∃ (f : Buf (Elt F) ((oblk b).view.loc (c : Thread nD τ))) (g : Buf (Elt F) ((oslot s).view.loc (c : Thread nD τ))),
      ⌜(oblk b).view.read (Elt F) f = w⌝ ∗ oflightP c s b f g) := by
  unfold sentP; exact .rfl
/-- A block that has landed. -/
theorem landed_intro (T : Fin 64 → Vec F S1x1024x1024 .f32) (b : Fin 64) (f : Buf (Elt F) ((oblk b).view.loc (c : Thread nD τ)))
    (h : (oblk b).view.read (Elt F) f = T b) : oblkP c b f ⊢ landedP c T b := by
  unfold landedP
  iintro H
  iexists f
  isplitr [H]
  · ipureintro; exact h
  · iexact H

theorem sl2_next (k : ℕ) : Ring.sl 2 (k + 1 + 1) = Ring.sl 2 k := by rw [show k + 1 + 1 = k + 2 from rfl, Ring.sl_add]

theorem homes_here (k : ℕ) (hk : k + 1 < 64) :
    bigSep (Ring.homeSet 1 k) (xblkP c XA)
      = iprop(xblkP c XA (Ring.bk 64 (k + 1)) ∗ bigSep ((Ring.homeSet 1 k).erase (Ring.bk 64 (k + 1))) (xblkP c XA)) := by
  conv_lhs => rw [Ring.homeSet_out 1 k hk, bigSep_insert (Ring.bkL_not_mem_erase 1 k)]
  rfl
theorem homes_next (k : ℕ) (hk : k + 1 < 64) :
    bigSep (Ring.homeSet 1 (k + 1)) (xblkP c XA)
      = iprop(xblkP c XA (Ring.bk 64 k) ∗ bigSep ((Ring.homeSet 1 k).erase (Ring.bk 64 (k + 1))) (xblkP c XA)) := by
  conv_lhs => rw [Ring.homeSet_succ 1 k hk, bigSep_insert (Ring.bk_not_mem_erase 1 k (by omega) (by decide))]
  rfl
theorem homes_last (k : ℕ) (hk : k = 63) :
    bigSep (Ring.homeSet 1 (k + 1)) (xblkP c XA)
      = iprop(xblkP c XA (Ring.bk 64 k) ∗ bigSep (Ring.homeSet 1 k) (xblkP c XA)) := by
  conv_lhs => rw [Ring.homeSet_succ_tail 1 k (by omega) (by omega), bigSep_insert (Ring.bk_not_mem_homeSet 1 k (by omega) (by decide))]
  rfl
theorem fresh_here (k : ℕ) (hk : k < 64) :
    bigSep (Ring.aheadSet k) (freshP c)
      = iprop(freshP c (Ring.bk 64 k) ∗ bigSep (Ring.aheadSet (k + 1)) (freshP (F := F) c)) := by
  conv_lhs => rw [Ring.aheadSet_open k hk, bigSep_insert (Ring.bk_not_mem_aheadSet_succ k hk)]
  rfl
theorem landed_next (T : Fin 64 → Vec F S1x1024x1024 .f32) (k : ℕ) (h2 : 2 ≤ k) (hk : k < 64) :
    bigSep (Ring.behindSet 2 (k + 1)) (landedP c T)
      = iprop(landedP c T (Ring.bk 64 (k - 2)) ∗ bigSep (Ring.behindSet 2 k) (landedP c T)) := by
  conv_lhs => rw [Ring.behindSet_close 2 k h2 (by omega), bigSep_insert (Ring.bk_not_mem_behindSet 2 k h2 (by omega))]
  rfl

theorem oAt_sent (T : Fin 64 → Vec F S1x1024x1024 .f32) (k : ℕ) :
    sentP c (Ring.sl 2 k) (Ring.bk 64 k) (T (Ring.bk 64 k)) = oAt c T 1 (k + 1) := by
  unfold oAt
  rw [if_neg (by omega), Nat.add_sub_cancel, show k + 1 + (2 - 1) = k + 1 + 1 from rfl, sl2_next]
theorem oAt_shift (T : Fin 64 → Vec F S1x1024x1024 .f32) (k : ℕ) : oAt c T 1 k = oAt c T 2 (k + 1) := by
  unfold oAt
  by_cases h : k < 1
  · rw [if_pos h, if_pos (by omega)]
  · rw [if_neg h, if_neg (by omega), show k + 1 - 2 = k - 1 from by omega]

theorem stepLow (k : Fin k0_t1_loop.trips) (h2 : k.val < 2) :
    invAt c XA arg1 arg2 arg3 arg4 arg6 g1 g2 g3 g4 g6 fwi fwo fdm fqd fkd fcr fsr s0 k.val
      ⊢ wp frame (wpE (defs₀ (F := F)) 𝒱₀ (c : Thread nD τ) none) Set.univ (tripG arg1 harg1 arg2 harg2 arg3 harg3 arg4 harg4 arg6 harg6 v381 v500 v502 v511 k)
        (fun _ => invAt c XA arg1 arg2 arg3 arg4 arg6 g1 g2 g3 g4 g6 fwi fwo fdm fqd fkd fcr fsr s0 (k.val + 1)) := by
  have h1 : k.val + 1 < 64 := by omega
  unfold invAt ringAt
  have eT := tileB_bk c XA arg1 arg2 arg3 arg4 arg6 g1 g2 g3 g4 g6 fwi fwo fdm fqd fkd fcr fsr s0 k
  rw [stAt_succ]
  generalize tileB c XA arg1 arg2 arg3 arg4 arg6 g1 g2 g3 g4 g6 fwi fwo fdm fqd fkd fcr fsr s0 = T at eT ⊢
  generalize stAt c XA arg1 arg2 arg3 g1 g2 g3 fwi fkd fcr fsr s0 k.val = s at eT ⊢
  rw [homes_here c XA k.val h1, homes_next c XA k.val h1, fresh_here c k.val (by omega), oAt_shift c T k.val,
    ← oAt_sent c T k.val, eT, sl2_next, Ring.behindSet_boot 2 k.val (by omega), Ring.behindSet_boot 2 (k.val + 1) (by omega)]
  rw [show oAt c T 2 k.val = ofreeP c (Ring.sl 2 k.val) from if_pos h2]
  rw [show xAt c XA k.val = iprop(∃ f, xflightP c XA (Ring.sl 2 k.val) (Ring.bk 64 k.val) f) from if_pos (by omega),
    show xAt c XA (k.val + 1) = iprop(∃ f, xflightP c XA (Ring.sl 2 (k.val + 1)) (Ring.bk 64 (k.val + 1)) f) from if_pos h1]
  unfold xfreeP ofreeP freshP
  iintro ⟨HR, HS, ⟨%fx, HF⟩, ⟨⟨%fy, Hy⟩, Hyc⟩, ⟨Hb, Hbs⟩, ⟨⟨%gs, Hs⟩, Hsc⟩, Ho1, ⟨⟨%fo, Hob⟩, Has⟩, Hbe⟩
  iapply (wp_wand_r Idealize.ShloMosaic.frame (wpE (defs₀ (F := F)) 𝒱₀ (c : Thread nD τ) none) Set.univ)
  isplitl [HR HS HF Hy Hyc Hb Hs Hsc Hob]
  · iapply (tripFull c XA arg1 harg1 arg2 harg2 arg3 harg3 arg4 harg4 arg6 harg6 g1 g2 g3 g4 g6 fwi fwo fdm fqd fkd fcr fsr v381 v500 v502 v511 k _ _ _ _ fx fo gs s
      (part1_start c XA arg1 harg1 arg2 harg2 arg3 harg3 arg4 harg4 arg6 harg6 k h1 fy) (part2_skip c XA arg1 harg1 arg2 harg2 arg3 harg3 arg4 harg4 arg6 harg6 k h2 fx gs))
    isplitl [HR]; iexact HR
    isplitl [HS]; iexact HS
    isplitl [Hy Hyc Hb]
    · isplitl [Hy]; iexact Hy
      isplitl [Hyc]; iexact Hyc
      iexact Hb
    isplitl [HF Hs Hsc]
    · isplitl [HF]; iexact HF
      isplitl [Hs]; iexact Hs
      iexact Hsc
    iexact Hob
  · iintro %_ ⟨HR, HS, HF, ⟨Hb, Hyc⟩, Hy, Hs⟩
    isplitl [HR]; iexact HR
    isplitl [HS]; iexact HS
    isplitl [HF]; iexact HF
    isplitl [Hy Hyc]
    · isplitl [Hy]; iexact Hy
      iexact Hyc
    isplitl [Hb Hbs]
    · isplitl [Hb]; iexact Hb
      iexact Hbs
    isplitl [Ho1]; iexact Ho1
    isplitl [Hs]; iexact Hs
    isplitl [Has]; iexact Has
    iexact Hbe

theorem stepMid (k : Fin k0_t1_loop.trips) (h1 : k.val + 1 < 64) (h2 : 2 ≤ k.val) :
    invAt c XA arg1 arg2 arg3 arg4 arg6 g1 g2 g3 g4 g6 fwi fwo fdm fqd fkd fcr fsr s0 k.val
      ⊢ wp frame (wpE (defs₀ (F := F)) 𝒱₀ (c : Thread nD τ) none) Set.univ (tripG arg1 harg1 arg2 harg2 arg3 harg3 arg4 harg4 arg6 harg6 v381 v500 v502 v511 k)
        (fun _ => invAt c XA arg1 arg2 arg3 arg4 arg6 g1 g2 g3 g4 g6 fwi fwo fdm fqd fkd fcr fsr s0 (k.val + 1)) := by
  unfold invAt ringAt
  have eT := tileB_bk c XA arg1 arg2 arg3 arg4 arg6 g1 g2 g3 g4 g6 fwi fwo fdm fqd fkd fcr fsr s0 k
  rw [stAt_succ]
  generalize tileB c XA arg1 arg2 arg3 arg4 arg6 g1 g2 g3 g4 g6 fwi fwo fdm fqd fkd fcr fsr s0 = T at eT ⊢
  generalize stAt c XA arg1 arg2 arg3 g1 g2 g3 fwi fkd fcr fsr s0 k.val = s at eT ⊢
  rw [homes_here c XA k.val h1, homes_next c XA k.val h1, fresh_here c k.val (by omega), oAt_shift c T k.val,
    ← oAt_sent c T k.val, eT, sl2_next, landed_next c T k.val h2 (by omega)]
  rw [show oAt c T 2 k.val = sentP c (Ring.sl 2 k.val) (Ring.bk 64 (k.val - 2)) (T (Ring.bk 64 (k.val - 2))) from if_neg (by omega)]
  rw [show xAt c XA k.val = iprop(∃ f, xflightP c XA (Ring.sl 2 k.val) (Ring.bk 64 k.val) f) from if_pos (by omega),
    show xAt c XA (k.val + 1) = iprop(∃ f, xflightP c XA (Ring.sl 2 (k.val + 1)) (Ring.bk 64 (k.val + 1)) f) from if_pos h1]
  unfold xfreeP freshP
  iintro ⟨HR, HS, ⟨%fx, HF⟩, ⟨⟨%fy, Hy⟩, Hyc⟩, ⟨Hb, Hbs⟩, Hs, Ho1, ⟨⟨%fo, Hob⟩, Has⟩, Hbe⟩
  ihave Hs' := sent_open c _ _ _ $$ Hs
  icases Hs' with ⟨%gb, %gs, %hgb, Hs⟩
  iapply (wp_wand_r Idealize.ShloMosaic.frame (wpE (defs₀ (F := F)) 𝒱₀ (c : Thread nD τ) none) Set.univ)
  isplitl [HR HS HF Hy Hyc Hb Hs Hob]
  · iapply (tripFull c XA arg1 harg1 arg2 harg2 arg3 harg3 arg4 harg4 arg6 harg6 g1 g2 g3 g4 g6 fwi fwo fdm fqd fkd fcr fsr v381 v500 v502 v511 k _ _ _ _ fx fo gs s
      (part1_start c XA arg1 harg1 arg2 harg2 arg3 harg3 arg4 harg4 arg6 harg6 k h1 fy) (part2_wait c XA arg1 harg1 arg2 harg2 arg3 harg3 arg4 harg4 arg6 harg6 k h2 fx gb gs))
    isplitl [HR]; iexact HR
    isplitl [HS]; iexact HS
    isplitl [Hy Hyc Hb]
    · isplitl [Hy]; iexact Hy
      isplitl [Hyc]; iexact Hyc
      iexact Hb
    isplitl [HF Hs]
    · isplitl [HF]; iexact HF
      iexact Hs
    iexact Hob
  · iintro %_ ⟨HR, HS, HF, ⟨Hb, Hyc, Hl⟩, Hy, Hs⟩
    isplitl [HR]; iexact HR
    isplitl [HS]; iexact HS
    isplitl [HF]; iexact HF
    isplitl [Hy Hyc]
    · isplitl [Hy]; iexact Hy
      iexact Hyc
    isplitl [Hb Hbs]
    · isplitl [Hb]; iexact Hb
      iexact Hbs
    isplitl [Ho1]; iexact Ho1
    isplitl [Hs]; iexact Hs
    isplitl [Has]; iexact Has
    isplitl [Hl]
    · iapply (landed_intro c T _ gb hgb); iexact Hl
    iexact Hbe

theorem stepLast (k : Fin k0_t1_loop.trips) (h1 : k.val = 63) :
    invAt c XA arg1 arg2 arg3 arg4 arg6 g1 g2 g3 g4 g6 fwi fwo fdm fqd fkd fcr fsr s0 k.val
      ⊢ wp frame (wpE (defs₀ (F := F)) 𝒱₀ (c : Thread nD τ) none) Set.univ (tripG arg1 harg1 arg2 harg2 arg3 harg3 arg4 harg4 arg6 harg6 v381 v500 v502 v511 k)
        (fun _ => invAt c XA arg1 arg2 arg3 arg4 arg6 g1 g2 g3 g4 g6 fwi fwo fdm fqd fkd fcr fsr s0 (k.val + 1)) := by
  unfold invAt ringAt
  have eT := tileB_bk c XA arg1 arg2 arg3 arg4 arg6 g1 g2 g3 g4 g6 fwi fwo fdm fqd fkd fcr fsr s0 k
  rw [stAt_succ]
  generalize tileB c XA arg1 arg2 arg3 arg4 arg6 g1 g2 g3 g4 g6 fwi fwo fdm fqd fkd fcr fsr s0 = T at eT ⊢
  generalize stAt c XA arg1 arg2 arg3 g1 g2 g3 fwi fkd fcr fsr s0 k.val = s at eT ⊢
  rw [homes_last c XA k.val h1, fresh_here c k.val (by omega), oAt_shift c T k.val,
    ← oAt_sent c T k.val, eT, sl2_next, landed_next c T k.val (by omega) (by omega)]
  rw [show oAt c T 2 k.val = sentP c (Ring.sl 2 k.val) (Ring.bk 64 (k.val - 2)) (T (Ring.bk 64 (k.val - 2))) from if_neg (by omega)]
  rw [show xAt c XA k.val = iprop(∃ f, xflightP c XA (Ring.sl 2 k.val) (Ring.bk 64 k.val) f) from if_pos (by omega),
    show xAt c XA (k.val + 1) = xfreeP c (Ring.sl 2 (k.val + 1)) from if_neg (by omega)]
  unfold freshP
  iintro ⟨HR, HS, ⟨%fx, HF⟩, Hfree, Hbs, Hs, Ho1, ⟨⟨%fo, Hob⟩, Has⟩, Hbe⟩
  ihave Hs' := sent_open c _ _ _ $$ Hs
  icases Hs' with ⟨%gb, %gs, %hgb, Hs⟩
  iapply (wp_wand_r Idealize.ShloMosaic.frame (wpE (defs₀ (F := F)) 𝒱₀ (c : Thread nD τ) none) Set.univ)
  isplitl [HR HS HF Hs Hob]
  · iapply (tripFull c XA arg1 harg1 arg2 harg2 arg3 harg3 arg4 harg4 arg6 harg6 g1 g2 g3 g4 g6 fwi fwo fdm fqd fkd fcr fsr v381 v500 v502 v511 k _ _ _ _ fx fo gs s
      (part1_skip c arg1 harg1 arg2 harg2 arg3 harg3 arg4 harg4 arg6 harg6 k h1) (part2_wait c XA arg1 harg1 arg2 harg2 arg3 harg3 arg4 harg4 arg6 harg6 k (by omega) fx gb gs))
    isplitl [HR]; iexact HR
    isplitl [HS]; iexact HS
    isplitr [HF Hs Hob]
    · iempintro
    isplitl [HF Hs]
    · isplitl [HF]; iexact HF
      iexact Hs
    iexact Hob
  · iintro %_ ⟨HR, HS, -, ⟨Hb, Hyc, Hl⟩, Hy, Hs⟩
    isplitl [HR]; iexact HR
    isplitl [HS]; iexact HS
    isplitl [Hfree]; iexact Hfree
    isplitl [Hy Hyc]
    · unfold xfreeP
      isplitl [Hy]; iexact Hy
      iexact Hyc
    isplitl [Hb Hbs]
    · isplitl [Hb]; iexact Hb
      iexact Hbs
    isplitl [Ho1]; iexact Ho1
    isplitl [Hs]; iexact Hs
    isplitl [Has]; iexact Has
    isplitl [Hl]
    · iapply (landed_intro c T _ gb hgb); iexact Hl
    iexact Hbe

set_option maxHeartbeats 1000000 in
/-- One trip takes the invariant on. -/
theorem step (k : Fin k0_t1_loop.trips) :
    invAt c XA arg1 arg2 arg3 arg4 arg6 g1 g2 g3 g4 g6 fwi fwo fdm fqd fkd fcr fsr s0 k.val
      ⊢ wp frame (wpE (defs₀ (F := F)) 𝒱₀ (c : Thread nD τ) none) Set.univ (tripG arg1 harg1 arg2 harg2 arg3 harg3 arg4 harg4 arg6 harg6 v381 v500 v502 v511 k)
        (fun _ => invAt c XA arg1 arg2 arg3 arg4 arg6 g1 g2 g3 g4 g6 fwi fwo fdm fqd fkd fcr fsr s0 (k.val + 1)) := by
  by_cases h2 : k.val < 2
  · exact stepLow c XA arg1 harg1 arg2 harg2 arg3 harg3 arg4 harg4 arg6 harg6 g1 g2 g3 g4 g6 fwi fwo fdm fqd fkd fcr fsr v381 v500 v502 v511 s0 k h2
  · by_cases h1 : k.val + 1 < 64
    · exact stepMid c XA arg1 harg1 arg2 harg2 arg3 harg3 arg4 harg4 arg6 harg6 g1 g2 g3 g4 g6 fwi fwo fdm fqd fkd fcr fsr v381 v500 v502 v511 s0 k h1 (by omega)
    · exact stepLast c XA arg1 harg1 arg2 harg2 arg3 harg3 arg4 harg4 arg6 harg6 g1 g2 g3 g4 g6 fwi fwo fdm fqd fkd fcr fsr v381 v500 v502 v511 s0 k (by have := trip_lt k; omega)

end Cert.Proof.Mixer

end
-- ==== Proof.MixerBody.lean ====
/- The mixer kernel's body: its set-up, the loop, the last two copies waited for. -/
module

public import proofs.«01_k».proof.Proof.MixerSetup
public import proofs.«01_k».proof.Proof.MixerLoop

@[expose] public section

set_option maxRecDepth 65536

noncomputable section

namespace Cert.Proof.Mixer

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UC sig nD τ) ℕ

variable (c : Dev nD) (XA : Buf (Elt F) (xM.view.loc (c : Thread nD τ)))
  (arg1 : Memref sig .tc .vmem S6x32x1024 .f32) (harg1 : arg1.IsWhole)
  (arg2 : Memref sig .tc .vmem S32x16x128 .i32) (harg2 : arg2.IsWhole)
  (arg3 : Memref sig .tc .vmem S1x1024 .f32) (harg3 : arg3.IsWhole)
  (arg4 : Memref sig .tc .vmem S1x1024 .f32) (harg4 : arg4.IsWhole)
  (arg6 : Memref sig .tc .vmem S3x512 .f32) (harg6 : arg6.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (g6 : Buf (Elt F) (arg6.view.loc (c : Thread nD τ)))

/-! ## What the set-up leaves in the buffers that the trips read -/

abbrev win0 (A5 : Buf (Elt F) (a5M.view.loc (c : Thread nD τ))) : Buf (Elt F) (winM.view.loc (c : Thread nD τ)) := winM.view.writes (Elt F) winM.view.junk (setUp.sl.Hwi_16 c A5)
abbrev wout0 (A7 : Buf (Elt F) (a7M.view.loc (c : Thread nD τ))) : Buf (Elt F) (woutM.view.loc (c : Thread nD τ)) := woutM.view.writes (Elt F) woutM.view.junk (setUp.sl.Hwo_4 c A7)
abbrev dmat0 : Buf (Elt F) (dmatM.view.loc (c : Thread nD τ)) := dmatM.view.writes (Elt F) dmatM.view.junk (setUp.sl.Hdm_4)
abbrev qdec0 : Buf (Elt F) (qdecM.view.loc (c : Thread nD τ)) := qdecM.view.writes (Elt F) qdecM.view.junk (setUp.sl.Hqd_4)
abbrev kdec0 : Buf (Elt F) (kdecM.view.loc (c : Thread nD τ)) := kdecM.view.writes (Elt F) kdecM.view.junk (setUp.sl.Hkd_4)
abbrev cosr0 : Buf (Elt F) (cosrM.view.loc (c : Thread nD τ)) := cosrM.view.writes (Elt F) cosrM.view.junk (setUp.sl.Hcr_1)
abbrev sinr0 : Buf (Elt F) (sinrM.view.loc (c : Thread nD τ)) := sinrM.view.writes (Elt F) sinrM.view.junk (setUp.sl.Hsr_1)
abbrev state0 : Buf (Elt F) (stateM.view.loc (c : Thread nD τ)) := stateM.view.writes (Elt F) stateM.view.junk (setUp.sl.Hst_1)
abbrev ucarry0 : Buf (Elt F) (ucarryM.view.loc (c : Thread nD τ)) := ucarryM.view.writes (Elt F) ucarryM.view.junk (setUp.sl.Huc_1)

/-- Block `b`'s tile, of the contents of the arguments. -/
def tileC (A5 : Buf (Elt F) (a5M.view.loc (c : Thread nD τ))) (A7 : Buf (Elt F) (a7M.view.loc (c : Thread nD τ))) : Fin 64 → Vec F S1x1024x1024 .f32 :=
  tileB c XA arg1 arg2 arg3 arg4 arg6 g1 g2 g3 g4 g6 (win0 c A5) (wout0 c A7) (dmat0 c) (qdec0 c) (kdec0 c) (cosr0 c) (sinr0 c) (state0 c, ucarry0 c)

/-- What the body hands back. -/
def POST (A5 : Buf (Elt F) (a5M.view.loc (c : Thread nD τ))) (A7 : Buf (Elt F) (a7M.view.loc (c : Thread nD τ))) : sProp 𝕄 :=
  iprop(heldP c arg1 g1 ∗ heldP c arg2 g2 ∗ heldP c arg3 g3 ∗ heldP c arg4 g4 ∗ heldP c arg6 g6
    ∗ (∃ W, owes (c : Thread nD τ) 0 W)
    ∗ (∃ f, heldP c winM f) ∗ (∃ f, heldP c woutM f) ∗ (∃ f, heldP c stateM f) ∗ (∃ f, heldP c ucarryM f)
    ∗ (∃ f, heldP c dmatM f) ∗ (∃ f, heldP c qdecM f) ∗ (∃ f, heldP c kdecM f) ∗ (∃ f, heldP c cosrM f) ∗ (∃ f, heldP c sinrM f)
    ∗ (∃ f, heldP c hM f) ∗ (∃ f, heldP c projM f) ∗ (∃ f, heldP c ymixM f) ∗ (∃ f, heldP c mixM f) ∗ (∃ f, heldP c cos2M f) ∗ (∃ f, heldP c sin2M f)
    ∗ heldP c a5M A5 ∗ heldP c a7M A7
    ∗ (∃ f, heldP c w1slot0 f) ∗ (∃ f, heldP c w1slot1 f) ∗ (∃ f, heldP c w1slot2 f) ∗ (∃ f, heldP c w1slot3 f)
    ∗ (∃ f, heldP c w2slot0 f) ∗ (∃ f, heldP c w2slot1 f) ∗ (∃ f, heldP c w2slot2 f) ∗ (∃ f, heldP c w2slot3 f)
    ∗ scellP c w1sem0 ∗ scellP c w1sem1 ∗ scellP c w1sem2 ∗ scellP c w1sem3
    ∗ scellP c w2sem0 ∗ scellP c w2sem1 ∗ scellP c w2sem2 ∗ scellP c w2sem3
    ∗ xfreeP c 0 ∗ xfreeP c 1 ∗ bigSep Finset.univ (xblkP c XA) ∗ ofreeP c 0 ∗ ofreeP c 1
    ∗ bigSep Finset.univ (landedP c (tileC c XA arg1 arg2 arg3 arg4 arg6 g1 g2 g3 g4 g6 A5 A7)))

theorem sl64 : Ring.sl 2 64 = 0 := rfl
theorem sl65 : Ring.sl 2 65 = 1 := rfl

theorem ring_start (T : Fin 64 → Vec F S1x1024x1024 .f32) (f) :
    iprop(xflightP c XA 0 0 f ∗ xfreeP c 1 ∗ bigSep (Ring.homeSet 1 0) (xblkP c XA) ∗ ofreeP c 0 ∗ ofreeP c 1 ∗ bigSep Finset.univ (freshP c))
      ⊢ ringAt c XA T 0 := by
  unfold ringAt
  rw [show xAt c XA 0 = iprop(∃ f, xflightP c XA 0 0 f) from if_pos (by omega), show oAt c T 2 0 = ofreeP c 0 from if_pos (by omega),
    show oAt c T 1 0 = ofreeP c 1 from if_pos (by omega), Ring.aheadSet_zero, Ring.behindSet_boot 2 0 (by omega), bigSep_empty]
  iintro ⟨Hf, Hx, Hb, Ho0, Ho1, Hr⟩
  isplitl [Hf]; · iexists f; iexact Hf
  isplitl [Hx]; · iexact Hx
  isplitl [Hb]; · iexact Hb
  isplitl [Ho0]; · iexact Ho0
  isplitl [Ho1]; · iexact Ho1
  isplitl [Hr]; · iexact Hr
  iempintro

theorem ring_end (T : Fin 64 → Vec F S1x1024x1024 .f32) :
    ringAt c XA T 64
      ⊢ iprop(xfreeP c 0 ∗ xfreeP c 1 ∗ bigSep Finset.univ (xblkP c XA) ∗ sentP c 0 62 (T 62) ∗ sentP c 1 63 (T 63)
        ∗ bigSep (Ring.behindSet 2 64) (landedP c T)) := by
  unfold ringAt
  rw [show xAt c XA 64 = xfreeP c 0 from if_neg (by omega), show oAt c T 2 64 = sentP c 0 62 (T 62) from if_neg (by omega),
    show oAt c T 1 64 = sentP c 1 63 (T 63) from if_neg (by omega), Ring.homeSet_last 1 64 (by omega)]
  iintro ⟨Hx0, Hx1, Hb, Ho0, Ho1, -, Hl⟩
  isplitl [Hx0]; · iexact Hx0
  isplitl [Hx1]; · iexact Hx1
  isplitl [Hb]; · iexact Hb
  isplitl [Ho0]; · iexact Ho0
  isplitl [Ho1]; · iexact Ho1
  iexact Hl

theorem landed_all (T : Fin 64 → Vec F S1x1024x1024 .f32) :
    iprop(landedP c T 62 ∗ landedP c T 63 ∗ bigSep (Ring.behindSet 2 64) (landedP c T)) ⊢ bigSep Finset.univ (landedP c T) := by
  have e : (Finset.univ : Finset (Fin 64)) = insert 62 (insert 63 (Ring.behindSet 2 64)) := by
    ext b
    simp only [Finset.mem_univ, Finset.mem_insert, Ring.mem_behindSet, true_iff, Fin.ext_iff]
    have := b.isLt
    show b.val = 62 ∨ b.val = 63 ∨ b.val + 2 < 64
    omega
  have h1 : (62 : Fin 64) ∉ insert 63 (Ring.behindSet (NB := 64) 2 64) := by
    rw [Finset.mem_insert, Ring.mem_behindSet, Fin.ext_iff]; show ¬(62 = 63 ∨ 62 + 2 < 64); omega
  have h2 : (63 : Fin 64) ∉ Ring.behindSet (NB := 64) 2 64 := by
    rw [Ring.mem_behindSet]; show ¬(63 + 2 < 64); omega
  rw [e, bigSep_insert h1, bigSep_insert h2]; exact .rfl

set_option maxHeartbeats 8000000 in
/-- The body: from the arguments' contents to the 64 blocks of the result. -/
theorem bodyRun (A5 : Buf (Elt F) (a5M.view.loc (c : Thread nD τ))) (A7 : Buf (Elt F) (a7M.view.loc (c : Thread nD τ)))
    (fx0 : Buf (Elt F) ((xslot 0).view.loc (c : Thread nD τ))) (W) (f10 f11 f12 f13 : Buf (Elt F) (s1M.view.loc (c : Thread nD τ))) (f20 f21 f22 f23 : Buf (Elt F) (s2M.view.loc (c : Thread nD τ)))
    (fwi : Buf (Elt F) (winM.view.loc (c : Thread nD τ))) (fwo : Buf (Elt F) (woutM.view.loc (c : Thread nD τ)))
    (fst : Buf (Elt F) (stateM.view.loc (c : Thread nD τ))) (fuc : Buf (Elt F) (ucarryM.view.loc (c : Thread nD τ)))
    (fdm : Buf (Elt F) (dmatM.view.loc (c : Thread nD τ))) (fqd : Buf (Elt F) (qdecM.view.loc (c : Thread nD τ)))
    (fkd : Buf (Elt F) (kdecM.view.loc (c : Thread nD τ))) (fcr : Buf (Elt F) (cosrM.view.loc (c : Thread nD τ)))
    (fsr : Buf (Elt F) (sinrM.view.loc (c : Thread nD τ))) :
    iprop(heldP c arg1 g1 ∗ heldP c arg2 g2 ∗ heldP c arg3 g3 ∗ heldP c arg4 g4 ∗ heldP c arg6 g6
        ∗ heldP c winM fwi ∗ heldP c woutM fwo ∗ heldP c stateM fst ∗ heldP c ucarryM fuc ∗ heldP c dmatM fdm ∗ heldP c qdecM fqd
        ∗ heldP c kdecM fkd ∗ heldP c cosrM fcr ∗ heldP c sinrM fsr ∗ owes (c : Thread nD τ) 0 W
        ∗ heldP c a5M A5 ∗ heldP c a7M A7
        ∗ heldP c w1slot0 f10 ∗ heldP c w1slot1 f11 ∗ heldP c w1slot2 f12 ∗ heldP c w1slot3 f13
        ∗ heldP c w2slot0 f20 ∗ heldP c w2slot1 f21 ∗ heldP c w2slot2 f22 ∗ heldP c w2slot3 f23
        ∗ scellP c w1sem0 ∗ scellP c w1sem1 ∗ scellP c w1sem2 ∗ scellP c w1sem3
        ∗ scellP c w2sem0 ∗ scellP c w2sem1 ∗ scellP c w2sem2 ∗ scellP c w2sem3
        ∗ xblkP c XA 0 ∗ xslotP c 0 fx0 ∗ xcellP c 0
        ∗ (∃ f, heldP c hM f) ∗ (∃ f, heldP c projM f) ∗ (∃ f, heldP c ymixM f) ∗ (∃ f, heldP c mixM f) ∗ (∃ f, heldP c cos2M f) ∗ (∃ f, heldP c sin2M f)
        ∗ bigSep (Ring.homeSet 1 0) (xblkP c XA) ∗ xfreeP c 1 ∗ ofreeP c 0 ∗ ofreeP c 1 ∗ bigSep Finset.univ (freshP c))
      ⊢ wp frame (wpE (defs₀ (F := F)) 𝒱₀ (c : Thread nD τ) none) Set.univ (bodyG arg1 harg1 arg2 harg2 arg3 harg3 arg4 harg4 arg6 harg6)
        (fun _ => POST c XA arg1 arg2 arg3 arg4 arg6 g1 g2 g3 g4 g6 A5 A7) := by
  refine (setUp c XA arg1 harg1 arg2 harg2 arg3 harg3 arg4 harg4 arg6 harg6 g1 g2 g3 g4 g6 _ A5 A7 fx0 W f10 f11 f12 f13 f20 f21 f22 f23 fwi fwo fst fuc fdm fqd fkd fcr fsr _).2 ?G
  sl_resume
  icases HR with ⟨Hh, Hp, Hym, Hm, Hc2, Hs2, Hbs, Hxf, Hof0, Hof1, Hfr⟩
  unfold POST tileC
  sl_for (fun k _ => invAt c XA arg1 arg2 arg3 arg4 arg6 g1 g2 g3 g4 g6 (win0 c A5) (wout0 c A7) (dmat0 c) (qdec0 c) (kdec0 c) (cosr0 c) (sinr0 c) (state0 c, ucarry0 c) k) $$ [H1 H2 H3 H4 H6 Hwi Hwo Hst Huc Hdm Hqd Hkd Hcr Hsr HW Hh Hp Hym Hm Hc2 Hs2 Hxc Hxf Hbs Hof0 Hof1 Hfr]
  · intro k _
    exact step c XA arg1 harg1 arg2 harg2 arg3 harg3 arg4 harg4 arg6 harg6 g1 g2 g3 g4 g6 (win0 c A5) (wout0 c A7) (dmat0 c) (qdec0 c) (kdec0 c) (cosr0 c) (sinr0 c) k0_pay455 (64#32) k0_pay472 k0_pay473 (state0 c, ucarry0 c) k
  · unfold invAt readsP stateP
    isplitl [H1 H2 H3 H4 H6 Hwi Hwo Hdm Hqd Hkd Hcr Hsr HW Hh Hp Hym Hm Hc2 Hs2]
    · isplitl [H1]; iexact H1
      isplitl [H2]; iexact H2
      isplitl [H3]; iexact H3
      isplitl [H4]; iexact H4
      isplitl [H6]; iexact H6
      isplitl [Hwi]; iexact Hwi
      isplitl [Hwo]; iexact Hwo
      isplitl [Hdm]; iexact Hdm
      isplitl [Hqd]; iexact Hqd
      isplitl [Hkd]; iexact Hkd
      isplitl [Hcr]; iexact Hcr
      isplitl [Hsr]; iexact Hsr
      isplitl [Hh]; iexact Hh
      isplitl [Hp]; iexact Hp
      isplitl [Hym]; iexact Hym
      isplitl [Hm]; iexact Hm
      isplitl [Hc2]; iexact Hc2
      isplitl [Hs2]; iexact Hs2
      iexists _; iexact HW
    isplitl [Hst Huc]
    · isplitl [Hst]; iexact Hst
      iexact Huc
    iapply (ring_start c XA _ fx0)
    isplitl [Hxc]; iexact Hxc
    isplitl [Hxf]; iexact Hxf
    isplitl [Hbs]; iexact Hbs
    isplitl [Hof0]; iexact Hof0
    isplitl [Hof1]; iexact Hof1
    iexact Hfr
  iintro %acc HI
  rw [show Scf.trips k0_t1_loop.lb k0_t1_loop.ub k0_t1_loop.st = 64 from trips_eq]
  unfold invAt readsP stateP
  generalize tileB c XA arg1 arg2 arg3 arg4 arg6 g1 g2 g3 g4 g6 (win0 c A5) (wout0 c A7) (dmat0 c) (qdec0 c) (kdec0 c) (cosr0 c) (sinr0 c) (state0 c, ucarry0 c) = T
  icases HI with ⟨⟨H1, H2, H3, H4, H6, Hwi, Hwo, Hdm, Hqd, Hkd, Hcr, Hsr, Hh, Hp, Hym, Hm, Hc2, Hs2, ⟨%W', HW⟩⟩, ⟨Hst, Huc⟩, HR⟩
  ihave HR' := (ring_end c XA _) $$ HR
  icases HR' with ⟨Hx0, Hx1, Hbs, HS62, HS63, Hl⟩
  ihave HS62' := (sent_open c 0 62 _) $$ HS62
  icases HS62' with ⟨%q0, %r0, %e0, HF62⟩
  ihave HS63' := (sent_open c 1 63 _) $$ HS63
  icases HS63' with ⟨%q1, %r1, %e1, HF63⟩
  sl_exec_parts
  sl_step
  isplitl [H1]; · iexact H1
  isplitl [H2]; · iexact H2
  isplitl [H3]; · iexact H3
  isplitl [H4]; · iexact H4
  isplitl [H6]; · iexact H6
  isplitl [HW]; · iexists _; iexact HW
  isplitl [Hwi]; · iexists _; iexact Hwi
  isplitl [Hwo]; · iexists _; iexact Hwo
  isplitl [Hst]; · iexists _; iexact Hst
  isplitl [Huc]; · iexists _; iexact Huc
  isplitl [Hdm]; · iexists _; iexact Hdm
  isplitl [Hqd]; · iexists _; iexact Hqd
  isplitl [Hkd]; · iexists _; iexact Hkd
  isplitl [Hcr]; · iexists _; iexact Hcr
  isplitl [Hsr]; · iexists _; iexact Hsr
  isplitl [Hh]; · iexact Hh
  isplitl [Hp]; · iexact Hp
  isplitl [Hym]; · iexact Hym
  isplitl [Hm]; · iexact Hm
  isplitl [Hc2]; · iexact Hc2
  isplitl [Hs2]; · iexact Hs2
  isplitl [Ha5]; · iexact Ha5
  isplitl [Ha7]; · iexact Ha7
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  isplitl [HS6]; · iexists _; iexact HS6
  isplitl [HS7]; · iexists _; iexact HS7
  isplitl [Hc10]; · iexact Hc10
  isplitl [Hc11]; · iexact Hc11
  isplitl [Hc12]; · iexact Hc12
  isplitl [Hc13]; · iexact Hc13
  isplitl [Hc20]; · iexact Hc20
  isplitl [Hc21]; · iexact Hc21
  isplitl [Hc22]; · iexact Hc22
  isplitl [Hc23]; · iexact Hc23
  isplitl [Hx0]; · iexact Hx0
  isplitl [Hx1]; · iexact Hx1
  isplitl [Hbs]; · iexact Hbs
  isplitl [HF62_src HF62]
  · unfold ofreeP
    isplitl [HF62_src]; · iexists _; iexact HF62_src
    iexact HF62
  isplitl [HF63_src HF63]
  · unfold ofreeP
    isplitl [HF63_src]; · iexists _; iexact HF63_src
    iexact HF63
  iapply (landed_all c _)
  isplitl [HF62_dst]
  · iapply (landed_intro c _ 62 q0 e0); iexact HF62_dst
  isplitl [HF63_dst]
  · iapply (landed_intro c _ 63 q1 e1); iexact HF63_dst
  iexact Hl

end Cert.Proof.Mixer

end
-- ==== Proof.MixerParts.lean ====
/- The mixer kernel's buffers, cut into the pieces its copies move and joined again. -/
module

public import proofs.«01_k».proof.Proof.MixerSetup
public import proofs.«01_k».proof.Proof.MixerLoop
public import Idealize.ShloMosaic.Lib.Pipeline.Routed

@[expose] public section

set_option maxRecDepth 16384

noncomputable section

namespace Cert.Proof.Mixer

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UC sig nD τ) ℕ

variable (c : Dev nD)

/-! ## The element sets -/

abbrev X64 (b : Fin 64) : Finset S32x2048x1024.Idx := (Rect.unit (s := S32x2048x1024) (blkOff b) S1x1024x1024.size (blkOff_inb b)).set
abbrev B2 (s : Fin 2) : Finset S2x1024x1024.Idx := (Rect.unit (s := S2x1024x1024) (slotOff s) S1x1024x1024.size (slotOff_inb s)).set

theorem mem_X64 (b : Fin 64) (y : S32x2048x1024.Idx) : y ∈ X64 b ↔ (y 0).val = b.val / 2 ∧ (y 1).val / 1024 = b.val % 2 := by
  rw [Rect.mem_set_unit]
  have h0 : (y 0).val < 32 := (y 0).isLt
  have h1 : (y 1).val < 2048 := (y 1).isLt
  have h2 : (y 2).val < 1024 := (y 2).isLt
  constructor
  · intro H
    have a0 : b.val / 2 ≤ (y 0).val ∧ (y 0).val < b.val / 2 + 1 := H 0
    have a1 : b.val % 2 * 1024 ≤ (y 1).val ∧ (y 1).val < b.val % 2 * 1024 + 1024 := H 1
    omega
  · intro H i; fin_cases i
    · show b.val / 2 ≤ (y 0).val ∧ (y 0).val < b.val / 2 + 1; omega
    · show b.val % 2 * 1024 ≤ (y 1).val ∧ (y 1).val < b.val % 2 * 1024 + 1024; omega
    · show 0 ≤ (y 2).val ∧ (y 2).val < 0 + 1024; omega

theorem mem_B2 (s : Fin 2) (y : S2x1024x1024.Idx) : y ∈ B2 s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega

/-- The block an element lies in, and its place there. -/
def blkOfIdx (y : S32x2048x1024.Idx) : Fin 64 := ⟨2 * (y 0).val + (y 1).val / 1024, by
  have h0 : (y 0).val < 32 := (y 0).isLt
  have h1 : (y 1).val < 2048 := (y 1).isLt
  omega⟩
def inBlk (y : S32x2048x1024.Idx) : S1x1024x1024.Idx := fun a => match a with
  | ⟨0, _⟩ => ⟨0, Nat.zero_lt_one⟩
  | ⟨1, _⟩ => ⟨(y 1).val % 1024, Nat.mod_lt _ (by decide)⟩
  | ⟨2, _⟩ => y 2

theorem blkOfIdx_eq (b : Fin 64) (y : S32x2048x1024.Idx) (h : y ∈ X64 b) : blkOfIdx y = b := by
  rw [mem_X64] at h
  refine Fin.ext ?_
  show 2 * (y 0).val + (y 1).val / 1024 = b.val
  omega

theorem emb_inBlk (b : Fin 64) (y : S32x2048x1024.Idx) (h : y ∈ X64 b) :
    (Rect.unit (s := S32x2048x1024) (blkOff b) S1x1024x1024.size (blkOff_inb b)).emb (inBlk y) = y := by
  rw [mem_X64] at h
  have h1 : (y 1).val < 2048 := (y 1).isLt
  funext a
  fin_cases a
  · refine Fin.ext ?_; show b.val / 2 + 0 * 1 = (y 0).val; omega
  · refine Fin.ext ?_; show b.val % 2 * 1024 + 1 * ((y 1).val % 1024) = (y 1).val; omega
  · refine Fin.ext ?_; show 0 + 1 * (y 2).val = (y 2).val; omega

theorem X64_disjoint : ∀ b b' : Fin 64, b ≠ b' → Disjoint (X64 b) (X64 b') := by
  intro b b' hne; rw [Finset.disjoint_left]; intro y hy hy'
  exact hne ((blkOfIdx_eq b y hy).symm.trans (blkOfIdx_eq b' y hy'))
theorem X64_cover : (Finset.univ : Finset (Fin 64)).biUnion X64 = Finset.univ := by
  ext y; simp only [Finset.mem_biUnion, Finset.mem_univ, true_and, iff_true]
  refine ⟨blkOfIdx y, ?_⟩
  rw [mem_X64]
  have h0 : (y 0).val < 32 := (y 0).isLt
  have h1 : (y 1).val < 2048 := (y 1).isLt
  show (y 0).val = (2 * (y 0).val + (y 1).val / 1024) / 2 ∧ (y 1).val / 1024 = (2 * (y 0).val + (y 1).val / 1024) % 2
  omega
theorem B2_disjoint : ∀ s s' : Fin 2, s ≠ s' → Disjoint (B2 s) (B2 s') := by
  intro s s' hne; rw [Finset.disjoint_left]; intro y hy hy'; rw [mem_B2] at hy hy'; exact hne (Fin.ext (hy.symm.trans hy'))
theorem B2_cover : (Finset.univ : Finset (Fin 2)).biUnion B2 = Finset.univ := by
  ext y; simp only [Finset.mem_biUnion, Finset.mem_univ, true_and, iff_true]; exact ⟨(y 0).cast (by decide), by rw [mem_B2]; rfl⟩

theorem xblk_set (b : Fin 64) : (xblk b).view.set = X64 b := View.set_slice_whole _ _
theorem oblk_set (b : Fin 64) : (oblk b).view.set = X64 b := View.set_slice_whole _ _
theorem xslot_set (s : Fin 2) : (xslot s).view.set = B2 s := View.set_slice_whole _ _
theorem oslot_set (s : Fin 2) : (oslot s).view.set = B2 s := View.set_slice_whole _ _

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-! ## The argument and the result -/

theorem x_eq (XA : Buf (Elt F) (xM.view.loc (c : Thread nD τ))) :
    (((c : Thread nD τ).loc main_arg0) ↦{fullShare} XA : sProp 𝕄) = iprop(xblkP c XA 0 ∗ bigSep (Ring.homeSet 1 0) (xblkP c XA)) := by
  have e : (Finset.univ : Finset (Fin 64)) = insert 0 (Ring.homeSet (NB := 64) 1 0) := by
    ext b; simp only [Finset.mem_univ, Finset.mem_insert, Ring.mem_homeSet, true_iff, Fin.ext_iff]; have := b.isLt; show b.val = 0 ∨ _; omega
  have h0 : (0 : Fin 64) ∉ Ring.homeSet (NB := 64) 1 0 := by rw [Ring.mem_homeSet]; show ¬_; simp
  refine Eq.trans ?_ (bigSep_insert h0)
  rw [← e, Ring.pointsTo_blocks (ℓ := (c : Thread nD τ).loc main_arg0) X64 X64_disjoint X64_cover]
  exact bigSep_congr fun b _ => by rw [← xblk_set]; rfl
theorem x_eq_all (XA : Buf (Elt F) (xM.view.loc (c : Thread nD τ))) :
    (((c : Thread nD τ).loc main_arg0) ↦{fullShare} XA : sProp 𝕄) = bigSep Finset.univ (xblkP c XA) := by
  rw [Ring.pointsTo_blocks (ℓ := (c : Thread nD τ).loc main_arg0) X64 X64_disjoint X64_cover]
  exact bigSep_congr fun b _ => by rw [← xblk_set]; rfl

theorem o_fresh_at (b : Fin 64) (f : Buf (Elt F) (oM.view.loc (c : Thread nD τ))) :
    (((c : Thread nD τ).loc main_v4) ↦[X64 b]{fullShare} f : sProp 𝕄) ⊢ freshP c b := by
  rw [← oblk_set]
  unfold freshP
  iintro H
  iexists f
  iexact H
theorem o_fresh (f : Buf (Elt F) (oM.view.loc (c : Thread nD τ))) :
    (((c : Thread nD τ).loc main_v4) ↦{fullShare} f : sProp 𝕄) ⊢ bigSep Finset.univ (freshP c) := by
  rw [Ring.pointsTo_blocks (ℓ := (c : Thread nD τ).loc main_v4) X64 X64_disjoint X64_cover]
  exact bigSep_mono fun b _ => o_fresh_at c b f

/-- The result whose block `b` is `T b`. -/
def ofBlocks (T : Fin 64 → Vec F S1x1024x1024 .f32) : Buf (Elt F) (oM.view.loc (c : Thread nD τ)) := fun y => T (blkOfIdx y) (inBlk y)

theorem o_landed_at (T : Fin 64 → Vec F S1x1024x1024 .f32) (b : Fin 64) :
    landedP c T b ⊢ (((c : Thread nD τ).loc main_v4) ↦[X64 b]{fullShare} ofBlocks c T : sProp 𝕄) := by
  unfold landedP
  iintro ⟨%f, %h, H⟩
  have e : (oblkP c b f : sProp 𝕄) = (((c : Thread nD τ).loc main_v4) ↦[X64 b]{fullShare} ofBlocks c T : sProp 𝕄) := by
    rw [← oblk_set]
    refine pointsTo_congr fun y hy => ?_
    rw [oblk_set] at hy
    have e : f y = (oblk b).view.read (Elt F) f (inBlk y) := congrArg f (emb_inBlk b y hy).symm
    rw [e, h]
    show _ = T (blkOfIdx y) (inBlk y)
    rw [blkOfIdx_eq b y hy]
  iapply (Entails.of_eq e)
  iexact H
theorem o_landed (T : Fin 64 → Vec F S1x1024x1024 .f32) :
    bigSep Finset.univ (landedP c T) ⊢ (((c : Thread nD τ).loc main_v4) ↦{fullShare} ofBlocks c T : sProp 𝕄) := by
  rw [Ring.pointsTo_blocks (ℓ := (c : Thread nD τ).loc main_v4) X64 X64_disjoint X64_cover]
  exact bigSep_mono fun b _ => o_landed_at c T b

/-! ## The two-slot buffers -/

theorem xslotP_eq (s : Fin 2) (f) : xslotP c s f = (((c : Thread nD τ).loc cc0_scratch0) ↦[B2 s]{fullShare} f : sProp 𝕄) :=
  congrArg (fun S => (_ ↦[S]{fullShare} f : sProp 𝕄)) (xslot_set s)
theorem xbuf_split :
    iprop(∃ f : Buf (Elt F) ((c : Thread nD τ).loc cc0_scratch0), ((c : Thread nD τ).loc cc0_scratch0) ↦{fullShare} f)
      ⊢ (iprop((∃ f, xslotP c 0 f) ∗ ∃ f, xslotP c 1 f) : sProp 𝕄) := by
  iintro ⟨%f, H⟩
  ihave H2 := (Entails.of_eq ((Ring.pointsTo_blocks (Ix := Unit) (Name := ℕ) (U := Pipeline.UC sig nD τ) (Lvl := ℕ) (q := fullShare) (ℓ := (c : Thread nD τ).loc cc0_scratch0) B2 B2_disjoint B2_cover f).trans (bigSep_fin2 _))) $$ H
  icases H2 with ⟨H0, H1⟩
  isplitl [H0]
  · iexists f; iapply (Entails.of_eq (xslotP_eq c 0 f).symm); iexact H0
  · iexists f; iapply (Entails.of_eq (xslotP_eq c 1 f).symm); iexact H1
theorem xbuf_join :
    iprop((∃ f, xslotP c 0 f) ∗ ∃ f, xslotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) B2 B2_disjoint B2_cover f0)
  irw [bigSep_fin2]
  isplitl [H0]
  · iexists f0; iapply (Entails.of_eq (xslotP_eq c 0 f0)); iexact H0
  · iexists f1; iapply (Entails.of_eq (xslotP_eq c 1 f1)); iexact H1

theorem oslotP_eq (s : Fin 2) (f) : oslotP c s f = (((c : Thread nD τ).loc cc0_scratch1) ↦[B2 s]{fullShare} f : sProp 𝕄) :=
  congrArg (fun S => (_ ↦[S]{fullShare} f : sProp 𝕄)) (oslot_set s)
theorem obuf_split :
    iprop(∃ f : Buf (Elt F) ((c : Thread nD τ).loc cc0_scratch1), ((c : Thread nD τ).loc cc0_scratch1) ↦{fullShare} f)
      ⊢ (iprop((∃ f, oslotP c 0 f) ∗ ∃ f, oslotP c 1 f) : sProp 𝕄) := by
  iintro ⟨%f, H⟩
  ihave H2 := (Entails.of_eq ((Ring.pointsTo_blocks (Ix := Unit) (Name := ℕ) (U := Pipeline.UC sig nD τ) (Lvl := ℕ) (q := fullShare) (ℓ := (c : Thread nD τ).loc cc0_scratch1) B2 B2_disjoint B2_cover f).trans (bigSep_fin2 _))) $$ H
  icases H2 with ⟨H0, H1⟩
  isplitl [H0]
  · iexists f; iapply (Entails.of_eq (oslotP_eq c 0 f).symm); iexact H0
  · iexists f; iapply (Entails.of_eq (oslotP_eq c 1 f).symm); iexact H1
theorem obuf_join :
    iprop((∃ f, oslotP c 0 f) ∗ ∃ f, oslotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) B2 B2_disjoint B2_cover f0)
  irw [bigSep_fin2]
  isplitl [H0]
  · iexists f0; iapply (Entails.of_eq (oslotP_eq c 0 f0)); iexact H0
  · iexists f1; iapply (Entails.of_eq (oslotP_eq c 1 f1)); iexact H1

/-! ## The four-slot staging buffers -/

theorem w1off_inb (s : Fin 4) : ∀ a, (![s.val, 0, 0] : Fin 3 → Nat) a + S1x64x3584.size a ≤ S4x64x3584.size a := by
  have := s.isLt; intro a; fin_cases a
  · show s.val + 1 ≤ 4; omega
  · show 0 + 64 ≤ 64; omega
  · show 0 + 3584 ≤ 3584; omega
abbrev D1 (s : Fin 4) : Finset S4x64x3584.Idx := (Rect.unit (s := S4x64x3584) ![s.val, 0, 0] S1x64x3584.size (w1off_inb s)).set
theorem mem_D1 (s : Fin 4) (y : S4x64x3584.Idx) : y ∈ D1 s ↔ (y 0).val = s.val := by
  rw [Rect.mem_set_unit]
  have h1 : (y 1).val < 64 := (y 1).isLt
  have h2 : (y 2).val < 3584 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 64; omega
    · show 0 ≤ (y 2).val ∧ (y 2).val < 0 + 3584; omega
theorem D1_disjoint : ∀ s s' : Fin 4, s ≠ s' → Disjoint (D1 s) (D1 s') := by
  intro s s' hne; rw [Finset.disjoint_left]; intro y hy hy'; rw [mem_D1] at hy hy'; exact hne (Fin.ext (hy.symm.trans hy'))
theorem D1_cover : (Finset.univ : Finset (Fin 4)).biUnion D1 = Finset.univ := by
  ext y; simp only [Finset.mem_biUnion, Finset.mem_univ, true_and, iff_true]; exact ⟨(y 0).cast (by decide), by rw [mem_D1]; rfl⟩
theorem w1slot0_eq (f) : (w1slot0.view.loc (c : Thread nD τ) ↦[w1slot0.view.set]{fullShare} f : sProp 𝕄) = (((c : Thread nD τ).loc cc0_scratch6) ↦[D1 0]{fullShare} f : sProp 𝕄) :=
  congrArg (fun S => (_ ↦[S]{fullShare} f : sProp 𝕄)) ((View.set_reshape _ _).trans (View.set_slice_whole _ _))
theorem w1slot1_eq (f) : (w1slot1.view.loc (c : Thread nD τ) ↦[w1slot1.view.set]{fullShare} f : sProp 𝕄) = (((c : Thread nD τ).loc cc0_scratch6) ↦[D1 1]{fullShare} f : sProp 𝕄) :=
  congrArg (fun S => (_ ↦[S]{fullShare} f : sProp 𝕄)) ((View.set_reshape _ _).trans (View.set_slice_whole _ _))
theorem w1slot2_eq (f) : (w1slot2.view.loc (c : Thread nD τ) ↦[w1slot2.view.set]{fullShare} f : sProp 𝕄) = (((c : Thread nD τ).loc cc0_scratch6) ↦[D1 2]{fullShare} f : sProp 𝕄) :=
  congrArg (fun S => (_ ↦[S]{fullShare} f : sProp 𝕄)) ((View.set_reshape _ _).trans (View.set_slice_whole _ _))
theorem w1slot3_eq (f) : (w1slot3.view.loc (c : Thread nD τ) ↦[w1slot3.view.set]{fullShare} f : sProp 𝕄) = (((c : Thread nD τ).loc cc0_scratch6) ↦[D1 3]{fullShare} f : sProp 𝕄) :=
  congrArg (fun S => (_ ↦[S]{fullShare} f : sProp 𝕄)) ((View.set_reshape _ _).trans (View.set_slice_whole _ _))
theorem w1buf_split :
    iprop(∃ f : Buf (Elt F) ((c : Thread nD τ).loc cc0_scratch6), ((c : Thread nD τ).loc cc0_scratch6) ↦{fullShare} f)
      ⊢ (iprop((∃ f, w1slot0.view.loc (c : Thread nD τ) ↦[w1slot0.view.set]{fullShare} f) ∗ (∃ f, w1slot1.view.loc (c : Thread nD τ) ↦[w1slot1.view.set]{fullShare} f) ∗ (∃ f, w1slot2.view.loc (c : Thread nD τ) ↦[w1slot2.view.set]{fullShare} f) ∗ (∃ f, w1slot3.view.loc (c : Thread nD τ) ↦[w1slot3.view.set]{fullShare} f)) : sProp 𝕄) := by
  iintro ⟨%f, H⟩
  ihave H2 := (Entails.of_eq ((Ring.pointsTo_blocks (Ix := Unit) (Name := ℕ) (U := Pipeline.UC sig nD τ) (Lvl := ℕ) (q := fullShare) (ℓ := (c : Thread nD τ).loc cc0_scratch6) D1 D1_disjoint D1_cover f).trans (bigSep_fin4 _))) $$ H
  icases H2 with ⟨H0, H1, H2, H3⟩
  isplitl [H0]
  · iexists f; iapply (Entails.of_eq (w1slot0_eq c f).symm); iexact H0
  isplitl [H1]
  · iexists f; iapply (Entails.of_eq (w1slot1_eq c f).symm); iexact H1
  isplitl [H2]
  · iexists f; iapply (Entails.of_eq (w1slot2_eq c f).symm); iexact H2
  · iexists f; iapply (Entails.of_eq (w1slot3_eq c f).symm); iexact H3
theorem w1buf_join :
    iprop((∃ f, w1slot0.view.loc (c : Thread nD τ) ↦[w1slot0.view.set]{fullShare} f) ∗ (∃ f, w1slot1.view.loc (c : Thread nD τ) ↦[w1slot1.view.set]{fullShare} f) ∗ (∃ f, w1slot2.view.loc (c : Thread nD τ) ↦[w1slot2.view.set]{fullShare} f) ∗ (∃ f, w1slot3.view.loc (c : Thread nD τ) ↦[w1slot3.view.set]{fullShare} f))
      ⊢ (iprop(∃ f : Buf (Elt F) ((c : Thread nD τ).loc cc0_scratch6), ((c : Thread nD τ).loc cc0_scratch6) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch6) D1 D1_disjoint D1_cover f0)
  irw [bigSep_fin4]
  isplitl [H0]
  · iexists f0; iapply (Entails.of_eq (w1slot0_eq c f0)); iexact H0
  isplitl [H1]
  · iexists f1; iapply (Entails.of_eq (w1slot1_eq c f1)); iexact H1
  isplitl [H2]
  · iexists f2; iapply (Entails.of_eq (w1slot2_eq c f2)); iexact H2
  · iexists f3; iapply (Entails.of_eq (w1slot3_eq c f3)); iexact H3

theorem w2off_inb (s : Fin 4) : ∀ a, (![s.val, 0, 0] : Fin 3 → Nat) a + S1x256x1024.size a ≤ S4x256x1024.size a := by
  have := s.isLt; intro a; fin_cases a
  · show s.val + 1 ≤ 4; omega
  · show 0 + 256 ≤ 256; omega
  · show 0 + 1024 ≤ 1024; omega
abbrev D2 (s : Fin 4) : Finset S4x256x1024.Idx := (Rect.unit (s := S4x256x1024) ![s.val, 0, 0] S1x256x1024.size (w2off_inb s)).set
theorem mem_D2 (s : Fin 4) (y : S4x256x1024.Idx) : y ∈ D2 s ↔ (y 0).val = s.val := by
  rw [Rect.mem_set_unit]
  have h1 : (y 1).val < 256 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 1024; omega
theorem D2_disjoint : ∀ s s' : Fin 4, s ≠ s' → Disjoint (D2 s) (D2 s') := by
  intro s s' hne; rw [Finset.disjoint_left]; intro y hy hy'; rw [mem_D2] at hy hy'; exact hne (Fin.ext (hy.symm.trans hy'))
theorem D2_cover : (Finset.univ : Finset (Fin 4)).biUnion D2 = Finset.univ := by
  ext y; simp only [Finset.mem_biUnion, Finset.mem_univ, true_and, iff_true]; exact ⟨(y 0).cast (by decide), by rw [mem_D2]; rfl⟩
theorem w2slot0_eq (f) : (w2slot0.view.loc (c : Thread nD τ) ↦[w2slot0.view.set]{fullShare} f : sProp 𝕄) = (((c : Thread nD τ).loc cc0_scratch7) ↦[D2 0]{fullShare} f : sProp 𝕄) :=
  congrArg (fun S => (_ ↦[S]{fullShare} f : sProp 𝕄)) ((View.set_reshape _ _).trans (View.set_slice_whole _ _))
theorem w2slot1_eq (f) : (w2slot1.view.loc (c : Thread nD τ) ↦[w2slot1.view.set]{fullShare} f : sProp 𝕄) = (((c : Thread nD τ).loc cc0_scratch7) ↦[D2 1]{fullShare} f : sProp 𝕄) :=
  congrArg (fun S => (_ ↦[S]{fullShare} f : sProp 𝕄)) ((View.set_reshape _ _).trans (View.set_slice_whole _ _))
theorem w2slot2_eq (f) : (w2slot2.view.loc (c : Thread nD τ) ↦[w2slot2.view.set]{fullShare} f : sProp 𝕄) = (((c : Thread nD τ).loc cc0_scratch7) ↦[D2 2]{fullShare} f : sProp 𝕄) :=
  congrArg (fun S => (_ ↦[S]{fullShare} f : sProp 𝕄)) ((View.set_reshape _ _).trans (View.set_slice_whole _ _))
theorem w2slot3_eq (f) : (w2slot3.view.loc (c : Thread nD τ) ↦[w2slot3.view.set]{fullShare} f : sProp 𝕄) = (((c : Thread nD τ).loc cc0_scratch7) ↦[D2 3]{fullShare} f : sProp 𝕄) :=
  congrArg (fun S => (_ ↦[S]{fullShare} f : sProp 𝕄)) ((View.set_reshape _ _).trans (View.set_slice_whole _ _))
theorem w2buf_split :
    iprop(∃ f : Buf (Elt F) ((c : Thread nD τ).loc cc0_scratch7), ((c : Thread nD τ).loc cc0_scratch7) ↦{fullShare} f)
      ⊢ (iprop((∃ f, w2slot0.view.loc (c : Thread nD τ) ↦[w2slot0.view.set]{fullShare} f) ∗ (∃ f, w2slot1.view.loc (c : Thread nD τ) ↦[w2slot1.view.set]{fullShare} f) ∗ (∃ f, w2slot2.view.loc (c : Thread nD τ) ↦[w2slot2.view.set]{fullShare} f) ∗ (∃ f, w2slot3.view.loc (c : Thread nD τ) ↦[w2slot3.view.set]{fullShare} f)) : sProp 𝕄) := by
  iintro ⟨%f, H⟩
  ihave H2 := (Entails.of_eq ((Ring.pointsTo_blocks (Ix := Unit) (Name := ℕ) (U := Pipeline.UC sig nD τ) (Lvl := ℕ) (q := fullShare) (ℓ := (c : Thread nD τ).loc cc0_scratch7) D2 D2_disjoint D2_cover f).trans (bigSep_fin4 _))) $$ H
  icases H2 with ⟨H0, H1, H2, H3⟩
  isplitl [H0]
  · iexists f; iapply (Entails.of_eq (w2slot0_eq c f).symm); iexact H0
  isplitl [H1]
  · iexists f; iapply (Entails.of_eq (w2slot1_eq c f).symm); iexact H1
  isplitl [H2]
  · iexists f; iapply (Entails.of_eq (w2slot2_eq c f).symm); iexact H2
  · iexists f; iapply (Entails.of_eq (w2slot3_eq c f).symm); iexact H3
theorem w2buf_join :
    iprop((∃ f, w2slot0.view.loc (c : Thread nD τ) ↦[w2slot0.view.set]{fullShare} f) ∗ (∃ f, w2slot1.view.loc (c : Thread nD τ) ↦[w2slot1.view.set]{fullShare} f) ∗ (∃ f, w2slot2.view.loc (c : Thread nD τ) ↦[w2slot2.view.set]{fullShare} f) ∗ (∃ f, w2slot3.view.loc (c : Thread nD τ) ↦[w2slot3.view.set]{fullShare} f))
      ⊢ (iprop(∃ f : Buf (Elt F) ((c : Thread nD τ).loc cc0_scratch7), ((c : Thread nD τ).loc cc0_scratch7) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch7) D2 D2_disjoint D2_cover f0)
  irw [bigSep_fin4]
  isplitl [H0]
  · iexists f0; iapply (Entails.of_eq (w2slot0_eq c f0)); iexact H0
  isplitl [H1]
  · iexists f1; iapply (Entails.of_eq (w2slot1_eq c f1)); iexact H1
  isplitl [H2]
  · iexists f2; iapply (Entails.of_eq (w2slot2_eq c f2)); iexact H2
  · iexists f3; iapply (Entails.of_eq (w2slot3_eq c f3)); iexact H3

/-! ## Whole buffers -/

theorem whole_eq (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f : sProp 𝕄) :=
  congrArg (fun S => (_ ↦[S]{fullShare} f : sProp 𝕄)) (View.set_whole b)

/-! ## The kernel's own semaphores -/

def ownSem : Fin 12 → SemLoc sig
  | 0 => .dma (xsem 0).sem | 1 => .dma (xsem 1).sem | 2 => .dma (Mixer.osem 0).sem | 3 => .dma (Mixer.osem 1).sem
  | 4 => .dma w1sem0.sem | 5 => .dma w1sem1.sem | 6 => .dma w1sem2.sem | 7 => .dma w1sem3.sem
  | 8 => .dma w2sem0.sem | 9 => .dma w2sem1.sem | 10 => .dma w2sem2.sem | 11 => .dma w2sem3.sem

theorem ownSemFacts : Pipeline.OwnSemFacts spec0 ownSem := by decide

theorem ownSems0_eq : (Pipeline.ownSems0 (Ix := Unit) (Name := ℕ) (U := Pipeline.UC sig nD τ) (Lvl := ℕ) (Val := Elt F) (τ := τ) ownSem c : sProp 𝕄)
    = iprop(xcellP c 0 ∗ xcellP c 1 ∗ ocellP c 0 ∗ ocellP c 1 ∗ scellP c w1sem0 ∗ scellP c w1sem1 ∗ scellP c w1sem2 ∗ scellP c w1sem3
      ∗ scellP c w2sem0 ∗ scellP c w2sem1 ∗ scellP c w2sem2 ∗ scellP c w2sem3) :=
  Pipeline.ownSems0_eq_of_list c ownSem [0, 1, 2, 3, 4, 5, 6, 7, 8, 9, 10, 11] (by decide) (by decide)

/-! ## The buffers routed through the body -/

abbrev RR : Finset (Ref sig .tc) := {main_arg0, main_v1, main_v3, main_v4}
theorem routed_eq (W : (b : Ref sig .tc) → Buf (Elt F) ((c : Thread nD τ).loc b)) :
    (Pipeline.routed RR c W : sProp 𝕄)
      = iprop((((c : Thread nD τ).loc main_arg0) ↦{fullShare} W main_arg0) ∗ (((c : Thread nD τ).loc main_v1) ↦{fullShare} W main_v1)
        ∗ (((c : Thread nD τ).loc main_v3) ↦{fullShare} W main_v3) ∗ (((c : Thread nD τ).loc main_v4) ↦{fullShare} W main_v4)) :=
  bigSep_eq_bigSepL_of_eq [main_arg0, main_v1, main_v3, main_v4] (by decide) (by decide) _

end Cert.Proof.Mixer

end
-- ==== Proof.MixerRun.lean ====
/- The mixer kernel's launch: the run of its program, and the frame. -/
module

public import proofs.«01_k».proof.Proof.MixerBody
public import proofs.«01_k».proof.Proof.MixerParts

@[expose] public section

set_option maxRecDepth 65536

noncomputable section

namespace Cert.Proof.Mixer

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UC sig nD τ) ℕ

open Idealize.ShloMosaic.Pipeline (Dat Cfg Window BodyObligation cellOf)

variable (m : (ℓ : Loc nD τ sig) → Buf (Elt F) ℓ) (ρ : Dev nD → PrngReg)

abbrev st0 (t : Fin cfg0.N) : Memref sig .tc .vmem S6x32x1024 .f32 := win0_0.stage (cfg0.slots t 0)
abbrev st1 (t : Fin cfg0.N) : Memref sig .tc .vmem S32x16x128 .i32 := win0_1.stage (cfg0.slots t 1)
abbrev st2 (t : Fin cfg0.N) : Memref sig .tc .vmem S1x1024 .f32 := win0_2.stage (cfg0.slots t 2)
abbrev st3 (t : Fin cfg0.N) : Memref sig .tc .vmem S1x1024 .f32 := win0_3.stage (cfg0.slots t 3)
abbrev st4 (t : Fin cfg0.N) : Memref sig .tc .vmem S3x512 .f32 := win0_4.stage (cfg0.slots t 4)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0
abbrev hst3 (t : Fin cfg0.N) : (st3 t).IsWhole := hstage0_3 0
abbrev hst4 (t : Fin cfg0.N) : (st4 t).IsWhole := hstage0_4 0

/-- Block `b` of the result, of the buffers the region finds. -/
def tileV (c : Dev nD) (t : Fin cfg0.N) : Fin 64 → Vec F S1x1024x1024 .f32 :=
  tileC c (V m c main_arg0) (st0 t) (st1 t) (st2 t) (st3 t) (st4 t) ((st0 t).view.rep (iblk m c 0 t)) ((st1 t).view.rep (iblk m c 1 t)) ((st2 t).view.rep (iblk m c 2 t)) ((st3 t).view.rep (iblk m c 3 t)) ((st4 t).view.rep (iblk m c 4 t))
    (V m c main_v1) (V m c main_v3)

/-- The buffers when the region ends: the result's is written. -/
def Yend (c : Dev nD) : (b : Ref sig .tc) → Buf (Elt F) ((c : Thread nD τ).loc b) :=
  Function.update (V m c) main_v4 (ofBlocks c (tileV m c t0_0))

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ i := Pipeline.Ends spec0 ownSem RR c (if i.val = 0 then V m c else Yend m c)
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans (by unfold Dat.fetched Dat.blockOf iblk; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans (by unfold Dat.fetched Dat.blockOf iblk; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans (by unfold Dat.fetched Dat.blockOf iblk; rfl)
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; rfl) t d).trans (by unfold Dat.fetched Dat.blockOf iblk; rfl)
theorem before_w4 (c : Dev nD) (t : Fin cfg0.N) (d) : (dats m 0 c).before 4 t d = iblk m c 4 t :=
  ((dats m 0 c).before_in_eq_fetched 4 rfl (fun _ => rfl) (fun _ _ _ => rfl) (fun t => by rw [after_w4]; unfold Dat.blockOf iblk; rfl) t d).trans (by unfold Dat.fetched Dat.blockOf iblk; rfl)
theorem defs_tc : (defs₀ (F := F)) .tc cfg0.body = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) := rfl
theorem prog_eq (t : Fin cfg0.N) : (defs₀ (F := F)) .tc cfg0.body (cfg0.bodyArgs t (cfg0.slots t)) = bodyG (st0 t) (hst0 t) (st1 t) (hst1 t) (st2 t) (hst2 t) (st3 t) (hst3 t) (st4 t) (hst4 t) :=
  (congrFun defs_tc _).trans rfl

theorem Φ_first (c : Dev nD) (t : Fin cfg0.N) : (dats m 0 c).Φ t.castSucc = Pipeline.Ends spec0 ownSem RR c (V m c) := by
  have h : (t.castSucc).val = 0 := by rw [fin_N0 t]; rfl
  show Pipeline.Ends spec0 ownSem RR c (if (t.castSucc).val = 0 then V m c else Yend m c) = _
  rw [if_pos h]
theorem Φ_last (c : Dev nD) (t : Fin cfg0.N) : (dats m 0 c).Φ t.succ = Pipeline.Ends spec0 ownSem RR c (Yend m c) := by
  have h : ¬(t.succ).val = 0 := by rw [Fin.val_succ]; omega
  show Pipeline.Ends spec0 ownSem RR c (if (t.succ).val = 0 then V m c else Yend m c) = _
  rw [if_neg h]

theorem Yend_v4 (c : Dev nD) : Yend m c main_v4 = ofBlocks c (tileV m c t0_0) := Function.update_self ..
theorem Yend_of (c : Dev nD) (b : Ref sig .tc) (h : b ≠ main_v4) : Yend m c b = V m c b := Function.update_of_ne h ..

theorem o_landed_at_end (c : Dev nD) (t : Fin cfg0.N) :
    bigSep Finset.univ (landedP c (tileC c (V m c main_arg0) (st0 t) (st1 t) (st2 t) (st3 t) (st4 t) ((st0 t).view.rep (iblk m c 0 t)) ((st1 t).view.rep (iblk m c 1 t)) ((st2 t).view.rep (iblk m c 2 t)) ((st3 t).view.rep (iblk m c 3 t)) ((st4 t).view.rep (iblk m c 4 t)) (V m c main_v1) (V m c main_v3)))
      ⊢ (((c : Thread nD τ).loc main_v4) ↦{fullShare} ofBlocks c (tileV m c t) : sProp 𝕄) := o_landed c (tileV m c t)

set_option maxHeartbeats 4000000 in
set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, before_w2, before_w3, before_w4, after_w0, after_w1, after_w2, after_w3, after_w4]
  rw [Φ_first, Φ_last]
  unfold Dat.owesAt Pipeline.owesWithin
  rw [show (dats m 0 c).owed t0_0.castSucc = 0 from rfl, show (dats m 0 c).owed t0_0.succ = 0 from rfl]
  unfold owns Pipeline.Ends
  rw [routed_eq, routed_eq, ownSems0_eq, scopedRest0_eq, Yend_v4, Yend_of m c main_arg0 (by decide), Yend_of m c main_v1 (by decide), Yend_of m c main_v3 (by decide)]
  iintro ⟨⟨⟨Hx, H5, H7, Ho⟩, ⟨Hxc0, Hxc1, Hoc0, Hoc1, Hc10, Hc11, Hc12, Hc13, Hc20, Hc21, Hc22, Hc23⟩, ⟨Hxb, Hob, ⟨%fwi, Hwi⟩, ⟨%fwo, Hwo⟩, Hs1, Hs2', ⟨%fh, Hh⟩, ⟨%fp, Hp⟩, ⟨%fym, Hym⟩, ⟨%fm, Hm⟩, ⟨%fst, Hst⟩, ⟨%fuc, Huc⟩, ⟨%fdm, Hdm⟩, ⟨%fqd, Hqd⟩, ⟨%fkd, Hkd⟩, ⟨%fcr, Hcr⟩, ⟨%fsr, Hsr⟩, ⟨%fc2, Hc2⟩, ⟨%fs2, Hs2⟩⟩, HP⟩,
    ⟨%W, -, HW⟩, ⟨%d0, %g0, %hg0, Hg0⟩, ⟨%d1, %g1, %hg1, Hg1⟩, ⟨%d2, %g2, %hg2, Hg2⟩, ⟨%d3, %g3, %hg3, Hg3⟩, ⟨%d4, %g4, %hg4, Hg4⟩⟩
  ihave Hg0' := (pointsTo_rep_entails (c : Thread nD τ) (st0 t0_0) g0 fullShare) $$ Hg0
  ihave Hg1' := (pointsTo_rep_entails (c : Thread nD τ) (st1 t0_0) g1 fullShare) $$ Hg1
  ihave Hg2' := (pointsTo_rep_entails (c : Thread nD τ) (st2 t0_0) g2 fullShare) $$ Hg2
  ihave Hg3' := (pointsTo_rep_entails (c : Thread nD τ) (st3 t0_0) g3 fullShare) $$ Hg3
  ihave Hg4' := (pointsTo_rep_entails (c : Thread nD τ) (st4 t0_0) g4 fullShare) $$ Hg4
  rw [hg0, hg1, hg2, hg3, hg4]
  ihave Hx' := (Entails.of_eq (x_eq c (V m c main_arg0))) $$ Hx
  icases Hx' with ⟨Hx0, Hxs⟩
  ihave Hfr := (o_fresh c _) $$ Ho
  ihave Hxb' := (xbuf_split c) $$ Hxb
  icases Hxb' with ⟨⟨%fx0, Hxs0⟩, Hxs1⟩
  ihave Hob' := (obuf_split c) $$ Hob
  icases Hob' with ⟨Hos0, Hos1⟩
  ihave Hs1' := (w1buf_split c) $$ Hs1
  icases Hs1' with ⟨⟨%f10, Hs10⟩, ⟨%f11, Hs11⟩, ⟨%f12, Hs12⟩, ⟨%f13, Hs13⟩⟩
  ihave Hs2'' := (w2buf_split c) $$ Hs2'
  icases Hs2'' with ⟨⟨%f20, Hs20⟩, ⟨%f21, Hs21⟩, ⟨%f22, Hs22⟩, ⟨%f23, Hs23⟩⟩
  sl_rw [prog_eq t0_0]
  iapply (wp_wand_r Idealize.ShloMosaic.frame (wpE (defs₀ (F := F)) 𝒱₀ (c : Thread nD τ) none) Set.univ)
  isplitr [HP]
  · iapply (bodyRun c (V m c main_arg0) (st0 t0_0) (hst0 t0_0) (st1 t0_0) (hst1 t0_0) (st2 t0_0) (hst2 t0_0) (st3 t0_0) (hst3 t0_0) (st4 t0_0) (hst4 t0_0) ((st0 t0_0).view.rep (iblk m c 0 t0_0)) ((st1 t0_0).view.rep (iblk m c 1 t0_0)) ((st2 t0_0).view.rep (iblk m c 2 t0_0)) ((st3 t0_0).view.rep (iblk m c 3 t0_0)) ((st4 t0_0).view.rep (iblk m c 4 t0_0))
      (V m c main_v1) (V m c main_v3) fx0 W f10 f11 f12 f13 f20 f21 f22 f23 fwi fwo fst fuc fdm fqd fkd fcr fsr)
    isplitl [Hg0']; · iexact Hg0'
    isplitl [Hg1']; · iexact Hg1'
    isplitl [Hg2']; · iexact Hg2'
    isplitl [Hg3']; · iexact Hg3'
    isplitl [Hg4']; · iexact Hg4'
    isplitl [Hwi]; · iapply (Entails.of_eq (whole_eq c _ _).symm); iexact Hwi
    isplitl [Hwo]; · iapply (Entails.of_eq (whole_eq c _ _).symm); iexact Hwo
    isplitl [Hst]; · iapply (Entails.of_eq (whole_eq c _ _).symm); iexact Hst
    isplitl [Huc]; · iapply (Entails.of_eq (whole_eq c _ _).symm); iexact Huc
    isplitl [Hdm]; · iapply (Entails.of_eq (whole_eq c _ _).symm); iexact Hdm
    isplitl [Hqd]; · iapply (Entails.of_eq (whole_eq c _ _).symm); iexact Hqd
    isplitl [Hkd]; · iapply (Entails.of_eq (whole_eq c _ _).symm); iexact Hkd
    isplitl [Hcr]; · iapply (Entails.of_eq (whole_eq c _ _).symm); iexact Hcr
    isplitl [Hsr]; · iapply (Entails.of_eq (whole_eq c _ _).symm); iexact Hsr
    isplitl [HW]; · iexact HW
    isplitl [H5]; · iapply (Entails.of_eq (whole_eq c _ _).symm); iexact H5
    isplitl [H7]; · iapply (Entails.of_eq (whole_eq c _ _).symm); iexact H7
    isplitl [Hs10]; · iexact Hs10
    isplitl [Hs11]; · iexact Hs11
    isplitl [Hs12]; · iexact Hs12
    isplitl [Hs13]; · iexact Hs13
    isplitl [Hs20]; · iexact Hs20
    isplitl [Hs21]; · iexact Hs21
    isplitl [Hs22]; · iexact Hs22
    isplitl [Hs23]; · iexact Hs23
    isplitl [Hc10]; · iexact Hc10
    isplitl [Hc11]; · iexact Hc11
    isplitl [Hc12]; · iexact Hc12
    isplitl [Hc13]; · iexact Hc13
    isplitl [Hc20]; · iexact Hc20
    isplitl [Hc21]; · iexact Hc21
    isplitl [Hc22]; · iexact Hc22
    isplitl [Hc23]; · iexact Hc23
    isplitl [Hx0]; · iexact Hx0
    isplitl [Hxs0]; · iexact Hxs0
    isplitl [Hxc0]; · iexact Hxc0
    isplitl [Hh]; · iexists fh; iapply (Entails.of_eq (whole_eq c _ _).symm); iexact Hh
    isplitl [Hp]; · iexists fp; iapply (Entails.of_eq (whole_eq c _ _).symm); iexact Hp
    isplitl [Hym]; · iexists fym; iapply (Entails.of_eq (whole_eq c _ _).symm); iexact Hym
    isplitl [Hm]; · iexists fm; iapply (Entails.of_eq (whole_eq c _ _).symm); iexact Hm
    isplitl [Hc2]; · iexists fc2; iapply (Entails.of_eq (whole_eq c _ _).symm); iexact Hc2
    isplitl [Hs2]; · iexists fs2; iapply (Entails.of_eq (whole_eq c _ _).symm); iexact Hs2
    isplitl [Hxs]; · iexact Hxs
    isplitl [Hxs1 Hxc1]
    · unfold xfreeP; isplitl [Hxs1]; · iexact Hxs1
      iexact Hxc1
    isplitl [Hos0 Hoc0]
    · unfold ofreeP; isplitl [Hos0]; · iexact Hos0
      iexact Hoc0
    isplitl [Hos1 Hoc1]
    · unfold ofreeP; isplitl [Hos1]; · iexact Hos1
      iexact Hoc1
    iexact Hfr
  · unfold POST xfreeP ofreeP
    iintro %_ ⟨Hg0, Hg1, Hg2, Hg3, Hg4, ⟨%W', HW⟩, ⟨%fwi', Hwi⟩, ⟨%fwo', Hwo⟩, ⟨%fst', Hst⟩, ⟨%fuc', Huc⟩, ⟨%fdm', Hdm⟩, ⟨%fqd', Hqd⟩, ⟨%fkd', Hkd⟩, ⟨%fcr', Hcr⟩, ⟨%fsr', Hsr⟩, ⟨%fh', Hh⟩, ⟨%fp', Hp⟩, ⟨%fym', Hym⟩, ⟨%fm', Hm⟩, ⟨%fc2', Hc2⟩, ⟨%fs2', Hs2⟩, H5, H7, Hs10, Hs11, Hs12, Hs13, Hs20, Hs21, Hs22, Hs23, Hc10, Hc11, Hc12, Hc13, Hc20, Hc21, Hc22, Hc23,
      ⟨Hxs0, Hxc0⟩, ⟨Hxs1, Hxc1⟩, Hxs, ⟨Hos0, Hoc0⟩, ⟨Hos1, Hoc1⟩, Ho⟩
    isplitr [HW Hg0 Hg1 Hg2 Hg3 Hg4]
    · isplitl [Hxs H5 H7 Ho]
      · isplitl [Hxs]; · iapply (Entails.of_eq (x_eq_all c (V m c main_arg0)).symm); iexact Hxs
        isplitl [H5]; · iapply (Entails.of_eq (whole_eq c _ _)); iexact H5
        isplitl [H7]; · iapply (Entails.of_eq (whole_eq c _ _)); iexact H7
        iapply (o_landed_at_end m c t0_0)
        iexact Ho
      isplitl [Hxc0 Hxc1 Hoc0 Hoc1 Hc10 Hc11 Hc12 Hc13 Hc20 Hc21 Hc22 Hc23]
      · isplitl [Hxc0]; · iexact Hxc0
        isplitl [Hxc1]; · iexact Hxc1
        isplitl [Hoc0]; · iexact Hoc0
        isplitl [Hoc1]; · iexact Hoc1
        isplitl [Hc10]; · iexact Hc10
        isplitl [Hc11]; · iexact Hc11
        isplitl [Hc12]; · iexact Hc12
        isplitl [Hc13]; · iexact Hc13
        isplitl [Hc20]; · iexact Hc20
        isplitl [Hc21]; · iexact Hc21
        isplitl [Hc22]; · iexact Hc22
        iexact Hc23
      isplitr [HP]
      · isplitl [Hxs0 Hxs1]
        · iapply (xbuf_join c)
          isplitl [Hxs0]; · iexact Hxs0
          iexact Hxs1
        isplitl [Hos0 Hos1]
        · iapply (obuf_join c)
          isplitl [Hos0]; · iexact Hos0
          iexact Hos1
        isplitl [Hwi]; · iexists fwi'; iapply (Entails.of_eq (whole_eq c _ _)); iexact Hwi
        isplitl [Hwo]; · iexists fwo'; iapply (Entails.of_eq (whole_eq c _ _)); iexact Hwo
        isplitl [Hs10 Hs11 Hs12 Hs13]
        · iapply (w1buf_join c)
          isplitl [Hs10]; · iexact Hs10
          isplitl [Hs11]; · iexact Hs11
          isplitl [Hs12]; · iexact Hs12
          iexact Hs13
        isplitl [Hs20 Hs21 Hs22 Hs23]
        · iapply (w2buf_join c)
          isplitl [Hs20]; · iexact Hs20
          isplitl [Hs21]; · iexact Hs21
          isplitl [Hs22]; · iexact Hs22
          iexact Hs23
        isplitl [Hh]; · iexists fh'; iapply (Entails.of_eq (whole_eq c _ _)); iexact Hh
        isplitl [Hp]; · iexists fp'; iapply (Entails.of_eq (whole_eq c _ _)); iexact Hp
        isplitl [Hym]; · iexists fym'; iapply (Entails.of_eq (whole_eq c _ _)); iexact Hym
        isplitl [Hm]; · iexists fm'; iapply (Entails.of_eq (whole_eq c _ _)); iexact Hm
        isplitl [Hst]; · iexists fst'; iapply (Entails.of_eq (whole_eq c _ _)); iexact Hst
        isplitl [Huc]; · iexists fuc'; iapply (Entails.of_eq (whole_eq c _ _)); iexact Huc
        isplitl [Hdm]; · iexists fdm'; iapply (Entails.of_eq (whole_eq c _ _)); iexact Hdm
        isplitl [Hqd]; · iexists fqd'; iapply (Entails.of_eq (whole_eq c _ _)); iexact Hqd
        isplitl [Hkd]; · iexists fkd'; iapply (Entails.of_eq (whole_eq c _ _)); iexact Hkd
        isplitl [Hcr]; · iexists fcr'; iapply (Entails.of_eq (whole_eq c _ _)); iexact Hcr
        isplitl [Hsr]; · iexists fsr'; iapply (Entails.of_eq (whole_eq c _ _)); iexact Hsr
        isplitl [Hc2]; · iexists fc2'; iapply (Entails.of_eq (whole_eq c _ _)); iexact Hc2
        iexists fs2'; iapply (Entails.of_eq (whole_eq c _ _)); iexact Hs2
      iexact HP
    isplitl [HW]
    · iexists W'; isplitr; · ipureintro; exact fun _ _ => Or.inl trivial
      iexact HW
    isplitl [Hg0]
    · iexists ((st0 t0_0).view.rep (iblk m c 0 t0_0)); isplitr; · ipureintro; exact View.read_rep _ _
      iexact Hg0
    isplitl [Hg1]
    · iexists ((st1 t0_0).view.rep (iblk m c 1 t0_0)); isplitr; · ipureintro; exact View.read_rep _ _
      iexact Hg1
    isplitl [Hg2]
    · iexists ((st2 t0_0).view.rep (iblk m c 2 t0_0)); isplitr; · ipureintro; exact View.read_rep _ _
      iexact Hg2
    isplitl [Hg3]
    · iexists ((st3 t0_0).view.rep (iblk m c 3 t0_0)); isplitr; · ipureintro; exact View.read_rep _ _
      iexact Hg3
    iexists ((st4 t0_0).view.rep (iblk m c 4 t0_0)); isplitr; · ipureintro; exact View.read_rep _ _
    iexact Hg4

/-! ## The run -/

/-- What the run leaves: the arguments as they were, the result's 64 blocks each at its tile, every semaphore at zero. -/
def QQ (r : PUnit × MemSt nD τ sig (Elt F)) : Prop :=
  (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v4) = ofBlocks c (tileV m c t0_0)) ∧ r.2.sem = fun _ => 0

set_option backward.isDefEq.respectTransparency.types false in
theorem run_main : θ_run defs (onTc (τ := τ) (main (F := F))) ⟨m, fun _ => 0, ρ⟩ (QQ m) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (R := RR) (hR := by decide) (Y := Yend m)
    (hin := fun c => Entails.of_eq (Φ_first m c t0_0).symm)
    (hout := fun c => Entails.of_eq (Φ_last m c t0_0))
    (Q' := QQ m)
    (hQ' := fun r h => ⟨fun c => ⟨⟨
      ((h.1 c).2.1 main_arg0 (by decide)).trans ((Yend_of m c main_arg0 (by decide)).trans (V_main_arg0 m c)),
      ((h.1 c).1 0).trans (((dats m 0 c).arrAt_in 0 rfl _).trans (V_main_arg1 m c)),
      ((h.1 c).2.2 main_arg2 (by decide)).trans (V_main_arg2 m c),
      ((h.1 c).1 2).trans (((dats m 0 c).arrAt_in 2 rfl _).trans (V_main_arg3 m c)),
      ((h.1 c).1 3).trans (((dats m 0 c).arrAt_in 3 rfl _).trans (V_main_arg4 m c)),
      ((h.1 c).2.2 main_arg5 (by decide)).trans (V_main_arg5 m c),
      ((h.1 c).2.2 main_arg6 (by decide)).trans (V_main_arg6 m c),
      ((h.1 c).2.2 main_arg7 (by decide)).trans (V_main_arg7 m c)⟩,
      ((h.1 c).2.1 main_v4 (by decide)).trans (Yend_v4 m c)⟩, h.2⟩)

end Cert.Proof.Mixer

end
-- ==== Proof.MixerFrame.lean ====
/- The frames of the mixer kernel, of its idealization and of the reference. -/
module

public import proofs.«01_k».proof.Defs
public import proofs.«01_k».proof.Proof.Gen.Mixer
public import proofs.«01_k».proof.Proof.MixerRef
public import proofs.«01_k».proof.Proof.MixerRun

@[expose] public section

noncomputable section

namespace Cert.Proof.Mixer

open Idealize.ShloMosaic Idealize.ShloMosaic.TcCoe Idealize.SL.Sem

/-- At the machine's floats a named constant is its word. -/
local instance : Named Bits := ⟨fun _ _ b => FloatOps.ofBits b⟩

/-- The two programs have the same table of bodies: the one body is the same text twice. -/
theorem defs₀_eq : Cert.Mixer.defs₀ (F := Bits) = Cert.MixerIdeal.defs₀ (F := Bits) := by
  refine congrArg Defs.onTc ?_
  funext l x
  match l, x with
  | 0, (t, s) => rfl

/-- …and so the same definitions. -/
theorem defs_eq : Cert.Mixer.defs (F := Bits) = Cert.MixerIdeal.defs (F := Bits) :=
  congrArg (Pipeline.defs (Cert.MixerIdeal.pcfgs (F := Bits))) defs₀_eq

/-- The kernel as printed: the run at the machine's floats. -/
theorem frame_kernel : Cert.quiescent_Mixer := by
  intro m ρ _
  have h := (θ_run (Cert.MixerIdeal.defs (F := Bits)) (onTc (τ := Cert.MixerIdeal.τ) (Cert.MixerIdeal.main (F := Bits)))
    ⟨m, fun _ => 0, ρ⟩).mono (fun r (h : QQ (F := Bits) m r) => And.intro (fun c => (h.1 c).1) h.2) (run_main (F := Bits) m ρ)
  rw [← defs_eq] at h
  exact h

/-- Its idealization: the run at the extended reals. -/
theorem frame_ideal : Cert.quiescent_MixerIdeal := fun m ρ _ =>
  (θ_run Cert.MixerIdeal.defs _ _).mono (fun _ h => ⟨fun c => (h.1 c).1, h.2⟩) (run_main (F := Ideal) m ρ)

/-- The reference. -/
theorem frame_reference : Cert.quiescent_MixerRefIdeal := fun m ρ _ =>
  (θ_run Cert.MixerRefIdeal.defs _ _).mono (fun r h =>
    ⟨fun c => ⟨h c Cert.MixerRefIdeal.main_arg0 (by decide), h c Cert.MixerRefIdeal.main_arg1 (by decide), h c Cert.MixerRefIdeal.main_arg2 (by decide), h c Cert.MixerRefIdeal.main_arg3 (by decide), h c Cert.MixerRefIdeal.main_arg4 (by decide), h c Cert.MixerRefIdeal.main_arg5 (by decide), h c Cert.MixerRefIdeal.main_arg6 (by decide), h c Cert.MixerRefIdeal.main_arg7 (by decide)⟩, sem_eq_zero_of_no_sems (by decide) r.2⟩)
    (MixerRef.run (F := Ideal) m ρ)

/-- At the extended reals each named constant is the number that the table gives it. -/
theorem preserves : Cert.preserves_Mixer_MixerIdeal :=
  ⟨IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl⟩

end Cert.Proof.Mixer

end
-- ==== Proof.MlpNames.lean ====
/- The names of the pieces of memory the MLP kernel's ring of copies moves: block `b` of the argument and of the result,
   slot `s` of the two double buffers, slot `s`'s semaphores; and the equations that rewrite the slices the kernel
   computes at trip `k` to those names. Here `b = 0 … 63` numbers the 1024-row blocks of the 32 × 2048 rows. -/
module

public import proofs.«01_k».proof.Proof.Gen.MlpIdeal.Frame
public import proofs.«01_k».proof.Proof.Gen.MlpIdeal.Skeleton
public import proofs.«01_k».proof.Proof.Gen.MlpIdeal.Loops
public import Idealize.ShloMosaic.Lib.Ring
public import Idealize.ShloMosaic.Lib.Ring.Trips
public import Idealize.ShloMosaic.Lib.Ring.WriteBehind
public import Idealize.ShloMosaic.Lib.Pipeline.Routed
public import Idealize.ShloMosaic.Lib.Affine
public import Idealize.ShloMosaic.Lib.Tactic

@[expose] public section

set_option maxRecDepth 16384

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The whole buffers -/

/-- The argument `x`, in HBM. -/
abbrev xM : Memref sig .tc .hbm S32x2048x1024 .f32 := Memref.whole main_arg0
/-- The result, in HBM. -/
abbrev oM : Memref sig .tc .hbm S32x2048x1024 .f32 := Memref.whole main_v2
/-- The two-slot buffer the blocks of `x` land in. -/
abbrev xbM : Memref sig .tc .vmem S2x1024x1024 .f32 := Memref.whole cc0_scratch0
/-- The two-slot buffer the blocks of the result leave from. -/
abbrev obM : Memref sig .tc .vmem S2x1024x1024 .f32 := Memref.whole cc0_scratch1

/-! ## Offsets -/

/-- Block `b` of 1024 rows: half `b % 2` of batch `b / 2`. -/
abbrev blkOff (b : Fin 64) : Fin 3 → Nat := ![b.val / 2, b.val % 2 * 1024, 0]
theorem blkOff_inb (b : Fin 64) : ∀ a, blkOff b a + S1x1024x1024.size a ≤ S32x2048x1024.size a := by
  have := b.isLt; intro a; fin_cases a
  · show b.val / 2 + 1 ≤ 32; omega
  · show b.val % 2 * 1024 + 1024 ≤ 2048; omega
  · show 0 + 1024 ≤ 1024; omega
abbrev slotOff (s : Fin 2) : Fin 3 → Nat := ![s.val, 0, 0]
theorem slotOff_inb (s : Fin 2) : ∀ a, slotOff s a + S1x1024x1024.size a ≤ S2x1024x1024.size a := by
  have := s.isLt; intro a; fin_cases a
  · show s.val + 1 ≤ 2; omega
  · show 0 + 1024 ≤ 1024; omega
  · show 0 + 1024 ≤ 1024; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-! ## Names -/

/-- Block `b` of the argument. -/
def xblk (b : Fin 64) : Memref sig .tc .hbm S1x1024x1024 .f32 :=
  xM.slice (Rect.unit (s := S32x2048x1024) (blkOff b) S1x1024x1024.size (blkOff_inb b)) (fun _ => rfl)
/-- Block `b` of the result. -/
def oblk (b : Fin 64) : Memref sig .tc .hbm S1x1024x1024 .f32 :=
  oM.slice (Rect.unit (s := S32x2048x1024) (blkOff b) S1x1024x1024.size (blkOff_inb b)) (fun _ => rfl)
/-- Slot `s` of the buffer the argument's blocks land in. -/
def xslot (s : Fin 2) : Memref sig .tc .vmem S1x1024x1024 .f32 :=
  xbM.slice (Rect.unit (s := S2x1024x1024) (slotOff s) S1x1024x1024.size (slotOff_inb s)) (fun _ => rfl)
/-- Slot `s` of the buffer the result's blocks leave from. -/
def oslot (s : Fin 2) : Memref sig .tc .vmem S1x1024x1024 .f32 :=
  obM.slice (Rect.unit (s := S2x1024x1024) (slotOff s) S1x1024x1024.size (slotOff_inb s)) (fun _ => rfl)
/-- The semaphore of the copies into slot `s`. -/
def xsem (s : Fin 2) : DmaSems sig S_ := (cc0_scratch2.slice (Rect.unit (s := S2) (semOff s) S1.size (semOff_inb s))).squeeze S_ squeezes_S1_S_
/-- The semaphore of the copies out of slot `s`. -/
def osem (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 64) : ClosedOff (blkOff b) := ⟨blkOff b, rfl⟩

/-! ## What the kernel computes at trip `k`, in closed form: decided trip by trip -/

theorem trips_eq : k0_t1_loop.trips = 64 := by decide
theorem trip_lt (k : Fin k0_t1_loop.trips) : k.val < 64 := Nat.lt_of_lt_of_eq k.isLt trips_eq

theorem cond1_iff : ∀ k : Fin k0_t1_loop.trips, k0_cond1 k = 1#1 ↔ k.val + 1 < 64 := by decide +kernel
theorem cond2_iff : ∀ k : Fin k0_t1_loop.trips, k0_cond2 k = 1#1 ↔ 2 ≤ k.val := by decide +kernel
theorem off1_eq : ∀ k : Fin k0_t1_loop.trips, k.val + 1 < 64 → k0_off1 k = semOff (Ring.sl 2 (k.val + 1)) := by decide +kernel
theorem off2_eq : ∀ k : Fin k0_t1_loop.trips, k.val + 1 < 64 → k0_off2 k = slotOff (Ring.sl 2 (k.val + 1)) := by decide +kernel
theorem off3_eq : ∀ k : Fin k0_t1_loop.trips, k.val + 1 < 64 → k0_off3 k = blkOff (Ring.bk 64 (k.val + 1)) := by decide +kernel
theorem off4_eq : ∀ k : Fin k0_t1_loop.trips, k0_off4 k = semOff (Ring.sl 2 k.val) := by decide +kernel
theorem off5_eq : ∀ k : Fin k0_t1_loop.trips, k0_off5 k = slotOff (Ring.sl 2 k.val) := by decide +kernel
theorem off6_eq : ∀ k : Fin k0_t1_loop.trips, k0_off6 k = blkOff (Ring.bk 64 k.val) := by decide +kernel
theorem off7_eq : ∀ k : Fin k0_t1_loop.trips, k0_off7 k = semOff (Ring.sl 2 k.val) := by decide +kernel
theorem off8_eq : ∀ k : Fin k0_t1_loop.trips, 2 ≤ k.val → k0_off8 k = blkOff (Ring.bk 64 (k.val - 2)) := by decide +kernel
theorem off9_eq : ∀ k : Fin k0_t1_loop.trips, k0_off9 k = slotOff (Ring.sl 2 k.val) := by decide +kernel

/-! ## The equations to the names -/

section Canon

private theorem xsem_congr {off : Fin 1 → Nat} {s : Fin 2} (e : off = semOff s) (hh) :
    (cc0_scratch2.slice (Rect.unit (s := S2) off S1.size hh)).squeeze S_ squeezes_S1_S_ = xsem s :=
  congrArg (fun A : DmaSems sig S1 => A.squeeze S_ squeezes_S1_S_) (SemArray.slice_unit_congr _ e _ _)
private theorem osem_congr {off : Fin 1 → Nat} {s : Fin 2} (e : off = semOff s) (hh) :
    (cc0_scratch3.slice (Rect.unit (s := S2) off S1.size hh)).squeeze S_ squeezes_S1_S_ = osem s :=
  congrArg (fun A : DmaSems sig S1 => A.squeeze S_ squeezes_S1_S_) (SemArray.slice_unit_congr _ e _ _)
private theorem xslot_congr {off : Fin 3 → Nat} {s : Fin 2} (e : off = slotOff s) (hh hs) :
    xbM.slice (Rect.unit (s := S2x1024x1024) off S1x1024x1024.size hh) hs = xslot s := Memref.slice_unit_congr _ e _ _ _ (fun _ => rfl)
private theorem oslot_congr {off : Fin 3 → Nat} {s : Fin 2} (e : off = slotOff s) (hh hs) :
    obM.slice (Rect.unit (s := S2x1024x1024) off S1x1024x1024.size hh) hs = oslot s := Memref.slice_unit_congr _ e _ _ _ (fun _ => rfl)
private theorem xblk_congr {off : Fin 3 → Nat} {b : Fin 64} (e : off = blkOff b) (hh hs) :
    xM.slice (Rect.unit (s := S32x2048x1024) off S1x1024x1024.size hh) hs = xblk b := Memref.slice_unit_congr _ e _ _ _ (fun _ => rfl)
private theorem oblk_congr {off : Fin 3 → Nat} {b : Fin 64} (e : off = blkOff b) (hh hs) :
    oM.slice (Rect.unit (s := S32x2048x1024) off S1x1024x1024.size hh) hs = oblk b := Memref.slice_unit_congr _ e _ _ _ (fun _ => rfl)

variable (k : Fin k0_t1_loop.trips)

/-- Trip `k` starts the copy of block `k + 1` into slot `k + 1`; -/
@[sl_canon] theorem semI (hk : k.val + 1 < 64) (hh) :
    (cc0_scratch2.slice (Rect.unit (s := S2) (k0_off1 k) S1.size hh)).squeeze S_ squeezes_S1_S_ = xsem (Ring.sl 2 (k.val + 1)) := xsem_congr (off1_eq k hk) _
@[sl_canon] theorem slotI (hk : k.val + 1 < 64) (hh hs) :
    xbM.slice (Rect.unit (s := S2x1024x1024) (k0_off2 k) S1x1024x1024.size hh) hs = xslot (Ring.sl 2 (k.val + 1)) := xslot_congr (off2_eq k hk) _ _
@[sl_canon] theorem blkI (hk : k.val + 1 < 64) (hh hs) :
    xM.slice (Rect.unit (s := S32x2048x1024) (k0_off3 k) S1x1024x1024.size hh) hs = xblk (Ring.bk 64 (k.val + 1)) := xblk_congr (off3_eq k hk) _ _
/-- waits for block `k` in slot `k`; -/
@[sl_canon] theorem semW (hh) :
    (cc0_scratch2.slice (Rect.unit (s := S2) (k0_off4 k) S1.size hh)).squeeze S_ squeezes_S1_S_ = xsem (Ring.sl 2 k.val) := xsem_congr (off4_eq k) _
@[sl_canon] theorem slotW (hh hs) :
    xbM.slice (Rect.unit (s := S2x1024x1024) (k0_off5 k) S1x1024x1024.size hh) hs = xslot (Ring.sl 2 k.val) := xslot_congr (off5_eq k) _ _
@[sl_canon] theorem blkW (hh hs) :
    xM.slice (Rect.unit (s := S32x2048x1024) (k0_off6 k) S1x1024x1024.size hh) hs = xblk (Ring.bk 64 k.val) := xblk_congr (off6_eq k) _ _
/-- from its third on waits for the copy of the result's block `k - 2` out of slot `k`; -/
@[sl_canon] theorem osemW (hh) :
    (cc0_scratch3.slice (Rect.unit (s := S2) (k0_off7 k) S1.size hh)).squeeze S_ squeezes_S1_S_ = osem (Ring.sl 2 k.val) := osem_congr (off7_eq k) _
@[sl_canon] theorem oslotW (hh hs) :
    obM.slice (Rect.unit (s := S2x1024x1024) (k0_off9 k) S1x1024x1024.size hh) hs = oslot (Ring.sl 2 k.val) := oslot_congr (off9_eq k) _ _
@[sl_canon] theorem oblkW (hk : 2 ≤ k.val) (hh hs) :
    oM.slice (Rect.unit (s := S32x2048x1024) (k0_off8 k) S1x1024x1024.size hh) hs = oblk (Ring.bk 64 (k.val - 2)) := oblk_congr (off8_eq k hk) _ _
/-- and starts the copy of the result's block `k` out of it. -/
@[sl_canon] theorem osemI (hh) :
    (cc0_scratch3.slice (Rect.unit (s := S2) (k0_off4 k) S1.size hh)).squeeze S_ squeezes_S1_S_ = osem (Ring.sl 2 k.val) := osem_congr (off4_eq k) _
@[sl_canon] theorem oslotI (hh hs) :
    obM.slice (Rect.unit (s := S2x1024x1024) (k0_off5 k) S1x1024x1024.size hh) hs = oslot (Ring.sl 2 k.val) := oslot_congr (off5_eq k) _ _
@[sl_canon] theorem oblkI (hh hs) :
    oM.slice (Rect.unit (s := S32x2048x1024) (k0_off6 k) S1x1024x1024.size hh) hs = oblk (Ring.bk 64 k.val) := oblk_congr (off6_eq k) _ _

/-- The set-up's copy of block 0 into slot 0, and the last two waits. -/
@[sl_canon] theorem semL (hh) : (cc0_scratch2.slice (Rect.unit (s := S2) ![0] S1.size hh)).squeeze S_ squeezes_S1_S_ = xsem 0 := xsem_congr (by decide) _
@[sl_canon] theorem slotL (hh hs) : xbM.slice (Rect.unit (s := S2x1024x1024) ![0, 0, 0] S1x1024x1024.size hh) hs = xslot 0 := xslot_congr (by decide) _ _
@[sl_canon] theorem blkL (hh hs) : xM.slice (Rect.unit (s := S32x2048x1024) ![0, 0, 0] S1x1024x1024.size hh) hs = xblk 0 := xblk_congr (by decide) _ _
@[sl_canon] theorem osemL0 (hh) : (cc0_scratch3.slice (Rect.unit (s := S2) ![0] S1.size hh)).squeeze S_ squeezes_S1_S_ = osem 0 := osem_congr (by decide) _
@[sl_canon] theorem osemL1 (hh) : (cc0_scratch3.slice (Rect.unit (s := S2) ![1] S1.size hh)).squeeze S_ squeezes_S1_S_ = osem 1 := osem_congr (by decide) _
@[sl_canon] theorem oslotL0 (hh hs) : obM.slice (Rect.unit (s := S2x1024x1024) ![0, 0, 0] S1x1024x1024.size hh) hs = oslot 0 := oslot_congr (by decide) _ _
@[sl_canon] theorem oslotL1 (hh hs) : obM.slice (Rect.unit (s := S2x1024x1024) ![1, 0, 0] S1x1024x1024.size hh) hs = oslot 1 := oslot_congr (by decide) _ _
@[sl_canon] theorem oblkL0 (hh hs) : oM.slice (Rect.unit (s := S32x2048x1024) ![31, 0, 0] S1x1024x1024.size hh) hs = oblk 62 := oblk_congr (by decide) _ _
@[sl_canon] theorem oblkL1 (hh hs) : oM.slice (Rect.unit (s := S32x2048x1024) ![31, 1024, 0] S1x1024x1024.size hh) hs = oblk 63 := oblk_congr (by decide) _ _

end Canon

end Cert.Proof.Mlp

end
-- ==== Proof.MlpTile.lean ====
/- What one trip of the MLP kernel's loop computes: the 1024 × 1024 tile of the result, as a function of the tile of the
   argument, of three rows of the modulation array, of the two norms' gains and of the two weight matrices. -/
module

public import proofs.«01_k».proof.Proof.Gen.MlpIdeal.Skeleton
public import Idealize.ShloMosaic.Lib.Pipeline.ValueKit.Basic
public import Idealize.ShloMosaic.Lib.Pipeline.FrameBody
public import Idealize.ShloMosaic.Lib.VecWindow

@[expose] public section

set_option maxRecDepth 16384

noncomputable section

namespace Cert.Proof.Mlp

open Cert.MlpIdeal Cert.MlpIdeal.Gen
open Idealize.ShloMosaic

variable {F : FTy → Type} [FloatOps F]

/-- Trip `k`'s row of each kind (shift, scale, gate) of the modulation array. -/
def shiftRow (M : Vec F S6x32x1024 .f32) (k : Fin k0_t1_loop.trips) : Vec F S1x1024 .f32 :=
  k0_pay1 (View.ld M (Rect.unit (k0_off10 k) S1x1x1024.size (k0_off10_inb k)))
def scaleRow (M : Vec F S6x32x1024 .f32) (k : Fin k0_t1_loop.trips) : Vec F S1x1024 .f32 :=
  k0_pay2 (View.ld M (Rect.unit (k0_off11 k) S1x1x1024.size (k0_off11_inb k)))
def gateRow (M : Vec F S6x32x1024 .f32) (k : Fin k0_t1_loop.trips) : Vec F S1x1024 .f32 :=
  k0_pay3 (View.ld M (Rect.unit (k0_off12 k) S1x1x1024.size (k0_off12_inb k)))

/-- One of the eight blocks of 512 columns of the activations: the normalised tile `h` times the block of the first
    matrix, its positive part squared. -/
def actCol (h : FVec F S1024x1024 .bf16) (w1 : Vec F S1024x4096 .bf16) (o : ℕ)
    (inb : ∀ a, (![0, o] : Fin 2 → ℕ) a + S1024x512.size a ≤ S1024x4096.size a) : View.Piece (Elt F) S1024x4096 .bf16 :=
  ⟨Rect.unit ![0, o] S1024x512.size inb, k0_pay8 h (View.ld w1 (Rect.unit ![0, o] S1024x512.size inb))⟩

/-- The activations, stored block by block. -/
def actL (h : FVec F S1024x1024 .bf16) (w1 : Vec F S1024x4096 .bf16) : List (View.Piece (Elt F) S1024x4096 .bf16) :=
  [actCol h w1 3584 inb_S1024x4096_S1024x512_0_3584, actCol h w1 3072 inb_S1024x4096_S1024x512_0_3072,
    actCol h w1 2560 inb_S1024x4096_S1024x512_0_2560, actCol h w1 2048 inb_S1024x4096_S1024x512_0_2048,
    actCol h w1 1536 inb_S1024x4096_S1024x512_0_1536, actCol h w1 1024 inb_S1024x4096_S1024x512_0_1024,
    actCol h w1 512 inb_S1024x4096_S1024x512_0_512, actCol h w1 0 inb_S1024x4096_S1024x512_0_0]

/-- The tile of the result. -/
def tileOf (M : Vec F S6x32x1024 .f32) (gp gq : Vec F S1x1024 .f32) (w1 : Vec F S1024x4096 .bf16) (w2 : Vec F S4096x1024 .bf16)
    (k : Fin k0_t1_loop.trips) (xb : Vec F S1x1024x1024 .f32) : Vec F S1x1024x1024 .f32 :=
  k0_pay19 (gateRow M k)
    (k0_pay16 (View.canon (actL (k0_pay4 (shiftRow M k) (scaleRow M k) xb gp) w1)) w2) (k0_pay17 xb)
    (k0_pay18 (View.canon (actL (k0_pay4 (shiftRow M k) (scaleRow M k) xb gp) w1)) w2) gq

/-! ## What a trip's loads and its store read and leave, with no buffer in it -/

section Reads

variable {sig' : RefSig} {κ : Kind} {sp : Space}

theorem read_stored (v : View sig' κ sp S1x1024x1024 .f32) (f) (inb) (w : Vec F S1x1024x1024 .f32) :
    v.read (Elt F) (v.writes (Elt F) f [⟨Rect.unit ![0, 0, 0] (no_index S1x1024x1024.size) inb, w⟩]) = w :=
  View.read_writes_full v f inb w []

theorem read_landed (v : View sig' κ sp S1x1024x1024 .f32) (inb) (w : Vec F S1x1024x1024 .f32) :
    v.readCov [⟨Rect.whole S1x1024x1024, w⟩] (Rect.unit ![0, 0, 0] (no_index S1x1024x1024.size) inb).toLoadRect = w := by
  rw [View.readCov_eq_canon', ← View.read_writes_junk_eq_canon v, View.read_writes_whole]
  exact View.ld_unit_lit inb w (by decide)

theorem read_row (v : View sig' κ sp S1x1024 .f32) (f) (inb) :
    v.readAt (Elt F) (Rect.unit ![0, 0] (no_index S1x1024.size) inb).toLoadRect f = v.read (Elt F) f := by
  rw [View.readAt_eq_ld]; exact View.ld_unit_lit inb _ (by decide)

theorem read_w2 (v : View sig' κ sp S4096x1024 .bf16) (f) (inb) :
    v.readAt (Elt F) (Rect.unit ![0, 0] (no_index S4096x1024.size) inb).toLoadRect f = v.read (Elt F) f := by
  rw [View.readAt_eq_ld]; exact View.ld_unit_lit inb _ (by decide)

theorem read_act (v : View sig' κ sp S1024x4096 .bf16) (L : List (View.Piece (Elt F) S1024x4096 .bf16)) (inb) :
    v.readCov L (Rect.unit ![0, 0] (no_index S1024x4096.size) inb).toLoadRect = View.canon L := by
  rw [View.readCov_eq_canon']; exact View.ld_unit_lit inb _ (by decide)

end Reads

/-! The eight blocks of columns are computed alike. -/

theorem col0 (s1 s2 : Vec F S1x1024 .f32) (xb : Vec F S1x1024x1024 .f32) (gp : Vec F S1x1024 .f32) (w : Vec F S1024x512 .bf16) :
    k0_pay5 s1 s2 xb gp w = k0_pay8 (k0_pay4 s1 s2 xb gp) w := rfl
theorem col1 (s1 s2 : Vec F S1x1024 .f32) (xb : Vec F S1x1024x1024 .f32) (gp : Vec F S1x1024 .f32) (w : Vec F S1024x512 .bf16) :
    k0_pay7 (k0_pay6 s1 s2 xb gp w) = k0_pay8 (k0_pay4 s1 s2 xb gp) w := rfl
theorem col3 (h : FVec F S1024x1024 .bf16) (w : Vec F S1024x512 .bf16) : k0_pay9 h w = k0_pay8 h w := rfl
theorem col4 (h : FVec F S1024x1024 .bf16) (w : Vec F S1024x512 .bf16) : k0_pay10 h w = k0_pay8 h w := rfl
theorem col5 (h : FVec F S1024x1024 .bf16) (w : Vec F S1024x512 .bf16) : k0_pay13 (k0_pay11 h w) k0_pay12 = k0_pay8 h w := rfl
theorem col6 (h : FVec F S1024x1024 .bf16) (w : Vec F S1024x512 .bf16) : k0_pay14 h w = k0_pay8 h w := rfl
theorem col7 (h : FVec F S1024x1024 .bf16) (w : Vec F S1024x512 .bf16) : k0_pay15 h w = k0_pay8 h w := rfl

end Cert.Proof.Mlp

end
-- ==== Proof.MlpTrip.lean ====
/- One trip of the MLP kernel's loop. -/
module

public import proofs.«01_k».proof.Proof.MlpNames
public import proofs.«01_k».proof.Proof.MlpTile

@[expose] public section

set_option maxRecDepth 16384

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ
abbrev 𝒱₀ : Variants := Variants.none

variable (c : Dev nD) (XA : Buf (Elt F) (xM.view.loc (c : Thread nD τ)))

/-! ## The pieces -/

/-- The cell of the copies into slot `s`, at zero; of the copies out of it. -/
abbrev xcellP (s : Fin 2) : sProp 𝕄 := semVal ((c : Thread nD τ), SemLoc.dma (xsem s).sem) 0
abbrev ocellP (s : Fin 2) : sProp 𝕄 := semVal ((c : Thread nD τ), SemLoc.dma (osem s).sem) 0
/-- Slot `s`, held at `f`. -/
abbrev xslotP (s : Fin 2) (f : Buf (Elt F) ((xslot s).view.loc (c : Thread nD τ))) : sProp 𝕄 :=
  (xslot s).view.loc (c : Thread nD τ) ↦[(xslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
/-- Block `b` of the argument, held at the argument's contents; of the result, at `f`. -/
abbrev xblkP (b : Fin 64) : sProp 𝕄 := (xblk b).view.loc (c : Thread nD τ) ↦[(xblk b).view.set]{fullShare} XA
abbrev oblkP (b : Fin 64) (f : Buf (Elt F) ((oblk b).view.loc (c : Thread nD τ))) : sProp 𝕄 :=
  (oblk b).view.loc (c : Thread nD τ) ↦[(oblk b).view.set]{fullShare} f
/-- A slot in flight with its contents to come from block `b`. -/
abbrev NN : ℕ := 131072
abbrev xflightP (s : Fin 2) (b : Fin 64) (f : Buf (Elt F) ((xslot s).view.loc (c : Thread nD τ))) : sProp 𝕄 :=
  Transfers.Flight countersEmb (c : Thread nD τ) (SemLoc.dma (xsem s).sem) () NN
    iprop(xslotP c s ((xslot s).view.writes (Elt F) f [⟨Rect.whole S1x1024x1024, ReadAs.same.apply ((xblk b).view.read (Elt F) XA)⟩]) ∗ xblkP c XA b)
abbrev oflightP (s : Fin 2) (b : Fin 64) (f : Buf (Elt F) ((oblk b).view.loc (c : Thread nD τ))) (g : Buf (Elt F) ((oslot s).view.loc (c : Thread nD τ))) : sProp 𝕄 :=
  Transfers.Flight countersEmb (c : Thread nD τ) (SemLoc.dma (osem s).sem) () NN iprop(oblkP c b f ∗ oslotP c s g)

section Trip

variable
  (arg1 : Memref sig .tc .vmem S6x32x1024 .f32) (harg1 : arg1.IsWhole)
  (arg2 : Memref sig .tc .vmem S1x1024 .f32) (harg2 : arg2.IsWhole)
  (arg3 : Memref sig .tc .vmem S1x1024 .f32) (harg3 : arg3.IsWhole)
  (g1 : Buf (Elt F) (arg1.view.loc (c : Thread nD τ))) (g2 : Buf (Elt F) (arg2.view.loc (c : Thread nD τ))) (g3 : Buf (Elt F) (arg3.view.loc (c : Thread nD τ)))

abbrev w1M : Memref sig .tc .vmem S1024x4096 .bf16 := Memref.whole cc0_scratch4
abbrev w2M : Memref sig .tc .vmem S4096x1024 .bf16 := Memref.whole cc0_scratch5
abbrev actM : Memref sig .tc .vmem S1024x4096 .bf16 := Memref.whole cc0_scratch10
variable (W1 : Buf (Elt F) (w1M.view.loc (c : Thread nD τ))) (W2 : Buf (Elt F) (w2M.view.loc (c : Thread nD τ)))

abbrev tripG (k : Fin k0_t1_loop.trips) : Prog (TpuEff nD τ sig (Elt F) Λ₀ .tc) Unit :=
  k0_t1_body (F := F) xM (Memref.isWhole_whole _) arg1 harg1 arg2 harg2 arg3 harg3 (Memref.whole main_v0) (Memref.isWhole_whole _) (Memref.whole main_v1) (Memref.isWhole_whole _) oM (Memref.isWhole_whole _) xbM (Memref.isWhole_whole _) obM (Memref.isWhole_whole _) cc0_scratch2 cc0_scratch3 w1M (Memref.isWhole_whole _) w2M (Memref.isWhole_whole _) (Memref.whole cc0_scratch6) (Memref.isWhole_whole _) (Memref.whole cc0_scratch7) (Memref.isWhole_whole _) cc0_scratch8 cc0_scratch9 actM (Memref.isWhole_whole _) k ()

/-- What every trip reads and the buffer of the activations it writes over. -/
def readsP : sProp 𝕄 :=
  iprop((arg1.view.loc (c : Thread nD τ) ↦[arg1.view.set]{fullShare} g1)
    ∗ (arg2.view.loc (c : Thread nD τ) ↦[arg2.view.set]{fullShare} g2)
    ∗ (arg3.view.loc (c : Thread nD τ) ↦[arg3.view.set]{fullShare} g3)
    ∗ (w1M.view.loc (c : Thread nD τ) ↦[w1M.view.set]{fullShare} W1)
    ∗ (w2M.view.loc (c : Thread nD τ) ↦[w2M.view.set]{fullShare} W2)
    ∗ (∃ f, actM.view.loc (c : Thread nD τ) ↦[actM.view.set]{fullShare} f)
    ∗ (∃ W, owes (c : Thread nD τ) 0 W))

/-- Trip `k`'s tile, of the contents the trip finds. -/
abbrev tileAt (k : Fin k0_t1_loop.trips) : Vec F S1x1024x1024 .f32 :=
  tileOf (arg1.view.read (Elt F) g1) (arg2.view.read (Elt F) g2) (arg3.view.read (Elt F) g3) (w1M.view.read (Elt F) W1)
    (w2M.view.read (Elt F) W2) k ((xblk (Ring.bk 64 k.val)).view.read (Elt F) XA)

/-- Block `b` of the result in flight out of slot `s`, its contents to be trip `k`'s tile. -/
def sentP (s : Fin 2) (b : Fin 64) (w : Vec F S1x1024x1024 .f32) : sProp 𝕄 :=
  iprop(∃ f g, ⌜(oblk b).view.read (Elt F) f = w⌝ ∗ oflightP c s b f g)

theorem sent_intro (s : Fin 2) (b : Fin 64) (w : Vec F S1x1024x1024 .f32) (fo) (v : Vec F S1x1024x1024 .f32) (g) (h : v = w) :
    oflightP c s b ((oblk b).view.writes (Elt F) fo [⟨Rect.whole S1x1024x1024, v⟩]) g ⊢ sentP c s b w := by
  unfold sentP
  iintro H
  iexists ((oblk b).view.writes (Elt F) fo [⟨Rect.whole S1x1024x1024, v⟩])
  iexists g
  isplitr [H]
  · ipureintro
    rw [View.read_writes_whole]
    exact h
  · iexact H

set_option maxHeartbeats 400000 in
/-- A trip that starts the next block's copy and waits for the copy out of its slot two trips before. -/
theorem tripMid (k : Fin k0_t1_loop.trips) (h1 : k.val + 1 < 64) (h2 : 2 ≤ k.val) (fx fy fo gb gs) :
    iprop(readsP c arg1 arg2 arg3 g1 g2 g3 W1 W2
        ∗ xflightP c XA (Ring.sl 2 k.val) (Ring.bk 64 k.val) fx
        ∗ xslotP c (Ring.sl 2 (k.val + 1)) fy ∗ xcellP c (Ring.sl 2 (k.val + 1)) ∗ xblkP c XA (Ring.bk 64 (k.val + 1))
        ∗ oflightP c (Ring.sl 2 k.val) (Ring.bk 64 (k.val - 2)) gb gs
        ∗ oblkP c (Ring.bk 64 k.val) fo)
      ⊢ wp frame (wpE (defs₀ (F := F)) 𝒱₀ (c : Thread nD τ) none) Set.univ (tripG arg1 harg1 arg2 harg2 arg3 harg3 k)
        (fun _ => iprop(readsP c arg1 arg2 arg3 g1 g2 g3 W1 W2
          ∗ (∃ f, xflightP c XA (Ring.sl 2 (k.val + 1)) (Ring.bk 64 (k.val + 1)) f)
          ∗ (∃ f, xslotP c (Ring.sl 2 k.val) f) ∗ xcellP c (Ring.sl 2 k.val) ∗ xblkP c XA (Ring.bk 64 k.val)
          ∗ oblkP c (Ring.bk 64 (k.val - 2)) gb
          ∗ sentP c (Ring.sl 2 k.val) (Ring.bk 64 k.val) (tileAt c XA arg1 arg2 arg3 g1 g2 g3 W1 W2 k))) := by
  unfold readsP
  have c1 := (cond1_iff k).mpr h1
  have c2 := (cond2_iff k).mpr h2
  iintro ⟨⟨H1, H2, H3, HW1, HW2, ⟨%fa, HA⟩, ⟨%W, HW⟩⟩, HFx, Hy, Hyc, Hyb, HFo, Hob⟩
  sl_unfold [tripG, k0_t1_body]
  sl_exec
  sl_step
  isplitl [H1 H2 H3 HW1 HW2 HA HW]
  · isplitl [H1]; iexact H1
    isplitl [H2]; iexact H2
    isplitl [H3]; iexact H3
    isplitl [HW1]; iexact HW1
    isplitl [HW2]; iexact HW2
    isplitl [HA]
    · iexists _; iexact HA
    · iexists _; iexact HW
  isplitl [Hyc]
  · iexists fy; iexact Hyc
  isplitl [HFx_dst]
  · iexists _; iexact HFx_dst
  isplitl [HFx]; iexact HFx
  isplitl [HFx_src]; iexact HFx_src
  isplitl [HFo_dst]; iexact HFo_dst
  iapply (sent_intro c (Ring.sl 2 k.val) (Ring.bk 64 k.val) _ fo _ _ ?heq)
  rotate_left
  · iexact HFo
  · sl_unfold_run_names
    simp only [read_stored, read_landed, read_row, read_w2, read_act, ReadAs.apply]
    simp only [View.readAt_eq_ld, col0, col1, col3, col4, col5, col6, col7]
    simp only [tileOf, actL, actCol, shiftRow, scaleRow, gateRow, k0_pay1, k0_pay2, k0_pay3]

set_option maxHeartbeats 400000 in
/-- The first two trips, that find their slot of the result's buffer free. -/
theorem tripLow (k : Fin k0_t1_loop.trips) (h1 : k.val + 1 < 64) (h2 : k.val < 2) (fx fy fo gs) :
    iprop(readsP c arg1 arg2 arg3 g1 g2 g3 W1 W2
        ∗ xflightP c XA (Ring.sl 2 k.val) (Ring.bk 64 k.val) fx
        ∗ xslotP c (Ring.sl 2 (k.val + 1)) fy ∗ xcellP c (Ring.sl 2 (k.val + 1)) ∗ xblkP c XA (Ring.bk 64 (k.val + 1))
        ∗ oslotP c (Ring.sl 2 k.val) gs ∗ ocellP c (Ring.sl 2 k.val)
        ∗ oblkP c (Ring.bk 64 k.val) fo)
      ⊢ wp frame (wpE (defs₀ (F := F)) 𝒱₀ (c : Thread nD τ) none) Set.univ (tripG arg1 harg1 arg2 harg2 arg3 harg3 k)
        (fun _ => iprop(readsP c arg1 arg2 arg3 g1 g2 g3 W1 W2
          ∗ (∃ f, xflightP c XA (Ring.sl 2 (k.val + 1)) (Ring.bk 64 (k.val + 1)) f)
          ∗ (∃ f, xslotP c (Ring.sl 2 k.val) f) ∗ xcellP c (Ring.sl 2 k.val) ∗ xblkP c XA (Ring.bk 64 k.val)
          ∗ sentP c (Ring.sl 2 k.val) (Ring.bk 64 k.val) (tileAt c XA arg1 arg2 arg3 g1 g2 g3 W1 W2 k))) := by
  unfold readsP
  have c1 := (cond1_iff k).mpr h1
  have c2 : ¬ k0_cond2 k = 1#1 := fun h => absurd ((cond2_iff k).mp h) (by omega)
  iintro ⟨⟨H1, H2, H3, HW1, HW2, ⟨%fa, HA⟩, ⟨%W, HW⟩⟩, HFx, Hy, Hyc, Hyb, Hs, HFo, Hob⟩
  sl_unfold [tripG, k0_t1_body]
  sl_exec
  sl_step
  isplitl [H1 H2 H3 HW1 HW2 HA HW]
  · isplitl [H1]; iexact H1
    isplitl [H2]; iexact H2
    isplitl [H3]; iexact H3
    isplitl [HW1]; iexact HW1
    isplitl [HW2]; iexact HW2
    isplitl [HA]
    · iexists _; iexact HA
    · iexists _; iexact HW
  isplitl [Hyc]
  · iexists fy; iexact Hyc
  isplitl [HFx_dst]
  · iexists _; iexact HFx_dst
  isplitl [HFx]; iexact HFx
  isplitl [HFx_src]; iexact HFx_src
  iapply (sent_intro c (Ring.sl 2 k.val) (Ring.bk 64 k.val) _ fo _ _ ?heq)
  rotate_left
  · iexact HFo
  · sl_unfold_run_names
    simp only [read_stored, read_landed, read_row, read_w2, read_act, ReadAs.apply]
    simp only [View.readAt_eq_ld, col0, col1, col3, col4, col5, col6, col7]
    simp only [tileOf, actL, actCol, shiftRow, scaleRow, gateRow, k0_pay1, k0_pay2, k0_pay3]

set_option maxHeartbeats 400000 in
/-- The last trip, that starts no copy. -/
theorem tripLast (k : Fin k0_t1_loop.trips) (h1 : k.val = 63) (fx fo gb gs) :
    iprop(readsP c arg1 arg2 arg3 g1 g2 g3 W1 W2
        ∗ xflightP c XA (Ring.sl 2 k.val) (Ring.bk 64 k.val) fx
        ∗ oflightP c (Ring.sl 2 k.val) (Ring.bk 64 (k.val - 2)) gb gs
        ∗ oblkP c (Ring.bk 64 k.val) fo)
      ⊢ wp frame (wpE (defs₀ (F := F)) 𝒱₀ (c : Thread nD τ) none) Set.univ (tripG arg1 harg1 arg2 harg2 arg3 harg3 k)
        (fun _ => iprop(readsP c arg1 arg2 arg3 g1 g2 g3 W1 W2
          ∗ (∃ f, xslotP c (Ring.sl 2 k.val) f) ∗ xcellP c (Ring.sl 2 k.val) ∗ xblkP c XA (Ring.bk 64 k.val)
          ∗ oblkP c (Ring.bk 64 (k.val - 2)) gb
          ∗ sentP c (Ring.sl 2 k.val) (Ring.bk 64 k.val) (tileAt c XA arg1 arg2 arg3 g1 g2 g3 W1 W2 k))) := by
  unfold readsP
  have c1 : ¬ k0_cond1 k = 1#1 := fun h => absurd ((cond1_iff k).mp h) (by omega)
  have c2 := (cond2_iff k).mpr (by omega)
  iintro ⟨⟨H1, H2, H3, HW1, HW2, ⟨%fa, HA⟩, ⟨%W, HW⟩⟩, HFx, HFo, Hob⟩
  sl_unfold [tripG, k0_t1_body]
  sl_exec
  sl_step
  isplitl [H1 H2 H3 HW1 HW2 HA HW]
  · isplitl [H1]; iexact H1
    isplitl [H2]; iexact H2
    isplitl [H3]; iexact H3
    isplitl [HW1]; iexact HW1
    isplitl [HW2]; iexact HW2
    isplitl [HA]
    · iexists _; iexact HA
    · iexists _; iexact HW
  isplitl [HFx_dst]
  · iexists _; iexact HFx_dst
  isplitl [HFx]; iexact HFx
  isplitl [HFx_src]; iexact HFx_src
  isplitl [HFo_dst]; iexact HFo_dst
  iapply (sent_intro c (Ring.sl 2 k.val) (Ring.bk 64 k.val) _ fo _ _ ?heq)
  rotate_left
  · iexact HFo
  · sl_unfold_run_names
    simp only [read_stored, read_landed, read_row, read_w2, read_act, ReadAs.apply]
    simp only [View.readAt_eq_ld, col0, col1, col3, col4, col5, col6, col7]
    simp only [tileOf, actL, actCol, shiftRow, scaleRow, gateRow, k0_pay1, k0_pay2, k0_pay3]

end Trip

end Cert.Proof.Mlp

end
-- ==== Proof.MlpLoop.lean ====
/- The invariant of the MLP kernel's loop over its 64 blocks. -/
module

public import proofs.«01_k».proof.Proof.MlpTrip

@[expose] public section

set_option maxRecDepth 16384

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

variable (c : Dev nD) (XA : Buf (Elt F) (xM.view.loc (c : Thread nD τ)))
  (arg1 : Memref sig .tc .vmem S6x32x1024 .f32) (harg1 : arg1.IsWhole)
  (arg2 : Memref sig .tc .vmem S1x1024 .f32) (harg2 : arg2.IsWhole)
  (arg3 : Memref sig .tc .vmem S1x1024 .f32) (harg3 : arg3.IsWhole)
  (g1 : Buf (Elt F) (arg1.view.loc (c : Thread nD τ))) (g2 : Buf (Elt F) (arg2.view.loc (c : Thread nD τ))) (g3 : Buf (Elt F) (arg3.view.loc (c : Thread nD τ)))
  (W1 : Buf (Elt F) (w1M.view.loc (c : Thread nD τ))) (W2 : Buf (Elt F) (w2M.view.loc (c : Thread nD τ)))

/-- Block `b`'s trip. -/
def tripOf (b : Fin 64) : Fin k0_t1_loop.trips := ⟨b.val, by rw [trips_eq]; exact b.isLt⟩

theorem tripOf_bk (k : Fin k0_t1_loop.trips) : tripOf (Ring.bk 64 k.val) = k :=
  Fin.ext (Ring.bk_val (NB := 64) (trip_lt k))

/-- Block `b`'s tile. -/
def tileB (b : Fin 64) : Vec F S1x1024x1024 .f32 := tileAt c XA arg1 arg2 arg3 g1 g2 g3 W1 W2 (tripOf b)

/-- A block of the result not yet written, and one that holds the block `T b`. -/
def freshP (b : Fin 64) : sProp 𝕄 := iprop(∃ f, oblkP c b f)
def landedP (T : Fin 64 → Vec F S1x1024x1024 .f32) (b : Fin 64) : sProp 𝕄 :=
  iprop(∃ f, ⌜(oblk b).view.read (Elt F) f = T b⌝ ∗ oblkP c b f)

/-- A free slot of the argument's buffer, of the result's. -/
def xfreeP (s : Fin 2) : sProp 𝕄 := iprop((∃ f, xslotP c s f) ∗ xcellP c s)
def ofreeP (s : Fin 2) : sProp 𝕄 := iprop((∃ g, oslotP c s g) ∗ ocellP c s)

/-- Before trip `k`: the slot that block `k` lands in; the slots that block `k - 2` and block `k - 1` left from. -/
def xAt (k : ℕ) : sProp 𝕄 :=
  if k < 64 then iprop(∃ f, xflightP c XA (Ring.sl 2 k) (Ring.bk 64 k) f) else xfreeP c (Ring.sl 2 k)
def oAt (T : Fin 64 → Vec F S1x1024x1024 .f32) (d k : ℕ) : sProp 𝕄 :=
  if k < d then ofreeP c (Ring.sl 2 (k + (2 - d)))
  else sentP c (Ring.sl 2 (k + (2 - d))) (Ring.bk 64 (k - d)) (T (Ring.bk 64 (k - d)))

/-- The resources before trip `k`, the blocks of the result being `T`'s. -/
def ringAt (T : Fin 64 → Vec F S1x1024x1024 .f32) (k : ℕ) : sProp 𝕄 :=
  iprop(xAt c XA k ∗ xfreeP c (Ring.sl 2 (k + 1)) ∗ bigSep (Ring.homeSet 1 k) (xblkP c XA)
    ∗ oAt c T 2 k ∗ oAt c T 1 k
    ∗ bigSep (Ring.aheadSet k) (freshP c) ∗ bigSep (Ring.behindSet 2 k) (landedP c T))
def invAt (k : ℕ) : sProp 𝕄 :=
  iprop(readsP c arg1 arg2 arg3 g1 g2 g3 W1 W2 ∗ ringAt c XA (tileB c XA arg1 arg2 arg3 g1 g2 g3 W1 W2) k)

/-- A block in flight, its contents named. -/
theorem sent_open (s : Fin 2) (b : Fin 64) (w : Vec F S1x1024x1024 .f32) :
    sentP c s b w ⊢ iprop(∃ (f : Buf (Elt F) ((oblk b).view.loc (c : Thread nD τ))) (g : Buf (Elt F) ((oslot s).view.loc (c : Thread nD τ))),
      ⌜(oblk b).view.read (Elt F) f = w⌝ ∗ oflightP c s b f g) := by
  unfold sentP; exact .rfl
/-- A block that has landed. -/
theorem landed_intro (T : Fin 64 → Vec F S1x1024x1024 .f32) (b : Fin 64) (f : Buf (Elt F) ((oblk b).view.loc (c : Thread nD τ)))
    (h : (oblk b).view.read (Elt F) f = T b) : oblkP c b f ⊢ landedP c T b := by
  unfold landedP
  iintro H
  iexists f
  isplitr [H]
  · ipureintro; exact h
  · iexact H

theorem sl2_next (k : ℕ) : Ring.sl 2 (k + 1 + 1) = Ring.sl 2 k := by rw [show k + 1 + 1 = k + 2 from rfl, Ring.sl_add]

theorem homes_here (k : ℕ) (hk : k + 1 < 64) :
    bigSep (Ring.homeSet 1 k) (xblkP c XA)
      = iprop(xblkP c XA (Ring.bk 64 (k + 1)) ∗ bigSep ((Ring.homeSet 1 k).erase (Ring.bk 64 (k + 1))) (xblkP c XA)) := by
  conv_lhs => rw [Ring.homeSet_out 1 k hk, bigSep_insert (Ring.bkL_not_mem_erase 1 k)]
  rfl
theorem homes_next (k : ℕ) (hk : k + 1 < 64) :
    bigSep (Ring.homeSet 1 (k + 1)) (xblkP c XA)
      = iprop(xblkP c XA (Ring.bk 64 k) ∗ bigSep ((Ring.homeSet 1 k).erase (Ring.bk 64 (k + 1))) (xblkP c XA)) := by
  conv_lhs => rw [Ring.homeSet_succ 1 k hk, bigSep_insert (Ring.bk_not_mem_erase 1 k (by omega) (by decide))]
  rfl
theorem homes_last (k : ℕ) (hk : k = 63) :
    bigSep (Ring.homeSet 1 (k + 1)) (xblkP c XA)
      = iprop(xblkP c XA (Ring.bk 64 k) ∗ bigSep (Ring.homeSet 1 k) (xblkP c XA)) := by
  conv_lhs => rw [Ring.homeSet_succ_tail 1 k (by omega) (by omega), bigSep_insert (Ring.bk_not_mem_homeSet 1 k (by omega) (by decide))]
  rfl
theorem fresh_here (k : ℕ) (hk : k < 64) :
    bigSep (Ring.aheadSet k) (freshP c)
      = iprop(freshP c (Ring.bk 64 k) ∗ bigSep (Ring.aheadSet (k + 1)) (freshP (F := F) c)) := by
  conv_lhs => rw [Ring.aheadSet_open k hk, bigSep_insert (Ring.bk_not_mem_aheadSet_succ k hk)]
  rfl
theorem landed_next (T : Fin 64 → Vec F S1x1024x1024 .f32) (k : ℕ) (h2 : 2 ≤ k) (hk : k < 64) :
    bigSep (Ring.behindSet 2 (k + 1)) (landedP c T)
      = iprop(landedP c T (Ring.bk 64 (k - 2)) ∗ bigSep (Ring.behindSet 2 k) (landedP c T)) := by
  conv_lhs => rw [Ring.behindSet_close 2 k h2 (by omega), bigSep_insert (Ring.bk_not_mem_behindSet 2 k h2 (by omega))]
  rfl

theorem oAt_sent (T : Fin 64 → Vec F S1x1024x1024 .f32) (k : ℕ) :
    sentP c (Ring.sl 2 k) (Ring.bk 64 k) (T (Ring.bk 64 k)) = oAt c T 1 (k + 1) := by
  unfold oAt
  rw [if_neg (by omega), Nat.add_sub_cancel, show k + 1 + (2 - 1) = k + 1 + 1 from rfl, sl2_next]
theorem oAt_shift (T : Fin 64 → Vec F S1x1024x1024 .f32) (k : ℕ) : oAt c T 1 k = oAt c T 2 (k + 1) := by
  unfold oAt
  by_cases h : k < 1
  · rw [if_pos h, if_pos (by omega)]
  · rw [if_neg h, if_neg (by omega), show k + 1 - 2 = k - 1 from by omega]

theorem stepLow (k : Fin k0_t1_loop.trips) (h2 : k.val < 2) :
    invAt c XA arg1 arg2 arg3 g1 g2 g3 W1 W2 k.val
      ⊢ wp frame (wpE (defs₀ (F := F)) 𝒱₀ (c : Thread nD τ) none) Set.univ (tripG arg1 harg1 arg2 harg2 arg3 harg3 k)
        (fun _ => invAt c XA arg1 arg2 arg3 g1 g2 g3 W1 W2 (k.val + 1)) := by
  have h1 : k.val + 1 < 64 := by omega
  unfold invAt ringAt
  generalize hT : tileB c XA arg1 arg2 arg3 g1 g2 g3 W1 W2 = T
  have eT : T (Ring.bk 64 k.val) = tileAt c XA arg1 arg2 arg3 g1 g2 g3 W1 W2 k := by
    rw [← hT]; unfold tileB; rw [tripOf_bk]
  rw [homes_here c XA k.val h1, homes_next c XA k.val h1, fresh_here c k.val (by omega), oAt_shift c T k.val,
    ← oAt_sent c T k.val, eT, sl2_next, Ring.behindSet_boot 2 k.val (by omega), Ring.behindSet_boot 2 (k.val + 1) (by omega)]
  rw [show oAt c T 2 k.val = ofreeP c (Ring.sl 2 k.val) from if_pos h2]
  rw [show xAt c XA k.val = iprop(∃ f, xflightP c XA (Ring.sl 2 k.val) (Ring.bk 64 k.val) f) from if_pos (by omega),
    show xAt c XA (k.val + 1) = iprop(∃ f, xflightP c XA (Ring.sl 2 (k.val + 1)) (Ring.bk 64 (k.val + 1)) f) from if_pos h1]
  unfold xfreeP ofreeP freshP
  iintro ⟨HR, ⟨%fx, HF⟩, ⟨⟨%fy, Hy⟩, Hyc⟩, ⟨Hb, Hbs⟩, ⟨⟨%gs, Hs⟩, Hsc⟩, Ho1, ⟨⟨%fo, Hob⟩, Has⟩, Hbe⟩
  iapply (wp_wand_r Idealize.ShloMosaic.frame (wpE (defs₀ (F := F)) 𝒱₀ (c : Thread nD τ) none) Set.univ)
  isplitl [HR HF Hy Hyc Hb Hs Hsc Hob]
  · iapply (tripLow c XA arg1 harg1 arg2 harg2 arg3 harg3 g1 g2 g3 W1 W2 k h1 h2 fx fy fo gs)
    isplitl [HR]; iexact HR
    isplitl [HF]; iexact HF
    isplitl [Hy]; iexact Hy
    isplitl [Hyc]; iexact Hyc
    isplitl [Hb]; iexact Hb
    isplitl [Hs]; iexact Hs
    isplitl [Hsc]; iexact Hsc
    iexact Hob
  · iintro %_ ⟨HR, HF, Hy, Hyc, Hb, Hs⟩
    isplitl [HR]; iexact HR
    isplitl [HF]; iexact HF
    isplitl [Hy Hyc]
    · isplitl [Hy]; iexact Hy
      iexact Hyc
    isplitl [Hb Hbs]
    · isplitl [Hb]; iexact Hb
      iexact Hbs
    isplitl [Ho1]; iexact Ho1
    isplitl [Hs]; iexact Hs
    isplitl [Has]; iexact Has
    iexact Hbe

theorem stepMid (k : Fin k0_t1_loop.trips) (h1 : k.val + 1 < 64) (h2 : 2 ≤ k.val) :
    invAt c XA arg1 arg2 arg3 g1 g2 g3 W1 W2 k.val
      ⊢ wp frame (wpE (defs₀ (F := F)) 𝒱₀ (c : Thread nD τ) none) Set.univ (tripG arg1 harg1 arg2 harg2 arg3 harg3 k)
        (fun _ => invAt c XA arg1 arg2 arg3 g1 g2 g3 W1 W2 (k.val + 1)) := by
  unfold invAt ringAt
  generalize hT : tileB c XA arg1 arg2 arg3 g1 g2 g3 W1 W2 = T
  have eT : T (Ring.bk 64 k.val) = tileAt c XA arg1 arg2 arg3 g1 g2 g3 W1 W2 k := by
    rw [← hT]; unfold tileB; rw [tripOf_bk]
  rw [homes_here c XA k.val h1, homes_next c XA k.val h1, fresh_here c k.val (by omega), oAt_shift c T k.val,
    ← oAt_sent c T k.val, eT, sl2_next, landed_next c T k.val h2 (by omega)]
  rw [show oAt c T 2 k.val = sentP c (Ring.sl 2 k.val) (Ring.bk 64 (k.val - 2)) (T (Ring.bk 64 (k.val - 2))) from if_neg (by omega)]
  rw [show xAt c XA k.val = iprop(∃ f, xflightP c XA (Ring.sl 2 k.val) (Ring.bk 64 k.val) f) from if_pos (by omega),
    show xAt c XA (k.val + 1) = iprop(∃ f, xflightP c XA (Ring.sl 2 (k.val + 1)) (Ring.bk 64 (k.val + 1)) f) from if_pos h1]
  unfold xfreeP freshP
  iintro ⟨HR, ⟨%fx, HF⟩, ⟨⟨%fy, Hy⟩, Hyc⟩, ⟨Hb, Hbs⟩, Hs, Ho1, ⟨⟨%fo, Hob⟩, Has⟩, Hbe⟩
  ihave Hs' := sent_open c _ _ _ $$ Hs
  icases Hs' with ⟨%gb, %gs, %hgb, Hs⟩
  iapply (wp_wand_r Idealize.ShloMosaic.frame (wpE (defs₀ (F := F)) 𝒱₀ (c : Thread nD τ) none) Set.univ)
  isplitl [HR HF Hy Hyc Hb Hs Hob]
  · iapply (tripMid c XA arg1 harg1 arg2 harg2 arg3 harg3 g1 g2 g3 W1 W2 k h1 h2 fx fy fo gb gs)
    isplitl [HR]; iexact HR
    isplitl [HF]; iexact HF
    isplitl [Hy]; iexact Hy
    isplitl [Hyc]; iexact Hyc
    isplitl [Hb]; iexact Hb
    isplitl [Hs]; iexact Hs
    iexact Hob
  · iintro %_ ⟨HR, HF, Hy, Hyc, Hb, Hl, Hs⟩
    isplitl [HR]; iexact HR
    isplitl [HF]; iexact HF
    isplitl [Hy Hyc]
    · isplitl [Hy]; iexact Hy
      iexact Hyc
    isplitl [Hb Hbs]
    · isplitl [Hb]; iexact Hb
      iexact Hbs
    isplitl [Ho1]; iexact Ho1
    isplitl [Hs]; iexact Hs
    isplitl [Has]; iexact Has
    isplitl [Hl]
    · iapply (landed_intro c T _ gb hgb); iexact Hl
    iexact Hbe

theorem stepLast (k : Fin k0_t1_loop.trips) (h1 : k.val = 63) :
    invAt c XA arg1 arg2 arg3 g1 g2 g3 W1 W2 k.val
      ⊢ wp frame (wpE (defs₀ (F := F)) 𝒱₀ (c : Thread nD τ) none) Set.univ (tripG arg1 harg1 arg2 harg2 arg3 harg3 k)
        (fun _ => invAt c XA arg1 arg2 arg3 g1 g2 g3 W1 W2 (k.val + 1)) := by
  unfold invAt ringAt
  generalize hT : tileB c XA arg1 arg2 arg3 g1 g2 g3 W1 W2 = T
  have eT : T (Ring.bk 64 k.val) = tileAt c XA arg1 arg2 arg3 g1 g2 g3 W1 W2 k := by
    rw [← hT]; unfold tileB; rw [tripOf_bk]
  rw [homes_last c XA k.val h1, fresh_here c k.val (by omega), oAt_shift c T k.val,
    ← oAt_sent c T k.val, eT, sl2_next, landed_next c T k.val (by omega) (by omega)]
  rw [show oAt c T 2 k.val = sentP c (Ring.sl 2 k.val) (Ring.bk 64 (k.val - 2)) (T (Ring.bk 64 (k.val - 2))) from if_neg (by omega)]
  rw [show xAt c XA k.val = iprop(∃ f, xflightP c XA (Ring.sl 2 k.val) (Ring.bk 64 k.val) f) from if_pos (by omega),
    show xAt c XA (k.val + 1) = xfreeP c (Ring.sl 2 (k.val + 1)) from if_neg (by omega)]
  unfold freshP
  iintro ⟨HR, ⟨%fx, HF⟩, Hfree, Hbs, Hs, Ho1, ⟨⟨%fo, Hob⟩, Has⟩, Hbe⟩
  ihave Hs' := sent_open c _ _ _ $$ Hs
  icases Hs' with ⟨%gb, %gs, %hgb, Hs⟩
  iapply (wp_wand_r Idealize.ShloMosaic.frame (wpE (defs₀ (F := F)) 𝒱₀ (c : Thread nD τ) none) Set.univ)
  isplitl [HR HF Hs Hob]
  · iapply (tripLast c XA arg1 harg1 arg2 harg2 arg3 harg3 g1 g2 g3 W1 W2 k h1 fx fo gb gs)
    isplitl [HR]; iexact HR
    isplitl [HF]; iexact HF
    isplitl [Hs]; iexact Hs
    iexact Hob
  · iintro %_ ⟨HR, Hy, Hyc, Hb, Hl, Hs⟩
    isplitl [HR]; iexact HR
    isplitl [Hfree]; iexact Hfree
    isplitl [Hy Hyc]
    · unfold xfreeP
      isplitl [Hy]; iexact Hy
      iexact Hyc
    isplitl [Hb Hbs]
    · isplitl [Hb]; iexact Hb
      iexact Hbs
    isplitl [Ho1]; iexact Ho1
    isplitl [Hs]; iexact Hs
    isplitl [Has]; iexact Has
    isplitl [Hl]
    · iapply (landed_intro c T _ gb hgb); iexact Hl
    iexact Hbe

/-- One trip takes the invariant on. -/
theorem step (k : Fin k0_t1_loop.trips) :
    invAt c XA arg1 arg2 arg3 g1 g2 g3 W1 W2 k.val
      ⊢ wp frame (wpE (defs₀ (F := F)) 𝒱₀ (c : Thread nD τ) none) Set.univ (tripG arg1 harg1 arg2 harg2 arg3 harg3 k)
        (fun _ => invAt c XA arg1 arg2 arg3 g1 g2 g3 W1 W2 (k.val + 1)) := by
  by_cases h2 : k.val < 2
  · exact stepLow c XA arg1 harg1 arg2 harg2 arg3 harg3 g1 g2 g3 W1 W2 k h2
  · by_cases h1 : k.val + 1 < 64
    · exact stepMid c XA arg1 harg1 arg2 harg2 arg3 harg3 g1 g2 g3 W1 W2 k h1 (by omega)
    · exact stepLast c XA arg1 harg1 arg2 harg2 arg3 harg3 g1 g2 g3 W1 W2 k (by have := trip_lt k; omega)

end Cert.Proof.Mlp
-- ==== Proof.MlpWeights.lean ====
/- What the MLP kernel's set-up leaves in its two weight buffers: the weights, rounded to bfloat16. -/
module

public import proofs.«01_k».proof.Proof.MlpLoop
public import Idealize.ShloMosaic.Lib.Pipeline.ReadBack
public import Idealize.ShloMosaic.Lib.Pipeline.ValueKit.Tiles

@[expose] public section

set_option maxRecDepth 16384

noncomputable section

namespace Cert.Proof.Mlp

open Cert.MlpIdeal Cert.MlpIdeal.Gen
open Idealize.ShloMosaic Idealize.ShloMosaic.TcCoe Idealize.ShloMosaic.Tactic

variable {F : FTy → Type} [FloatOps F]

/-- A weight rounded to bfloat16. -/
def low {s : Shape} (w : Vec F s .f32) : Vec F s .bf16 := truncf .bf16 w bitsLt_bf16_f32

section Stage

variable {sig' : RefSig} {κ : Kind} {sp : Space}

theorem read_last {s : Shape} {e : EltTy} (v : View sig' κ sp s e) (f) (w : Vec F s e) (L : List (View.Piece (Elt F) s e)) :
    v.read (Elt F) (v.writes (Elt F) f (⟨Rect.whole s, w⟩ :: L)) = w := by
  funext y
  have h := View.read_writes_cons_emb v f (Rect.whole s) w L y
  rwa [Rect.emb_whole_apply] at h

/-- A piece of the first weight, landed in a staging slot, read through the whole staging buffer and rounded. -/
theorem stage1 (v : View sig' κ sp S4x64x4096 .f32) {off : Fin 3 → ℕ} (inb : ∀ a, off a + S1x64x4096.size a ≤ S4x64x4096.size a) (h) (f)
    (w : Vec F S64x4096 .f32) (L) :
    k0_pay20 (v.readAt (Elt F) (Rect.unit (s := S4x64x4096) off S1x64x4096.size inb).toLoadRect
      (((v.slice (Rect.unit (s := S4x64x4096) off S1x64x4096.size inb)).reshape S64x4096 h).writes (Elt F) f (⟨Rect.whole S64x4096, w⟩ :: L))) = low w := by
  unfold k0_pay20 low
  refine (shapeCast_self _ _).trans ?_
  refine congrArg (fun w => truncf .bf16 w bitsLt_bf16_f32) ?_
  exact read_last ((v.slice (Rect.unit (s := S4x64x4096) off S1x64x4096.size inb)).reshape S64x4096 h) f w L

theorem stage2 (v : View sig' κ sp S4x256x1024 .f32) {off : Fin 3 → ℕ} (inb : ∀ a, off a + S1x256x1024.size a ≤ S4x256x1024.size a) (h) (f)
    (w : Vec F S256x1024 .f32) (L) :
    k0_pay36 (v.readAt (Elt F) (Rect.unit (s := S4x256x1024) off S1x256x1024.size inb).toLoadRect
      (((v.slice (Rect.unit (s := S4x256x1024) off S1x256x1024.size inb)).reshape S256x1024 h).writes (Elt F) f (⟨Rect.whole S256x1024, w⟩ :: L))) = low w := by
  unfold k0_pay36 low
  refine (shapeCast_self _ _).trans ?_
  refine congrArg (fun w => truncf .bf16 w bitsLt_bf16_f32) ?_
  exact read_last ((v.slice (Rect.unit (s := S4x256x1024) off S1x256x1024.size inb)).reshape S256x1024 h) f w L

end Stage

end Cert.Proof.Mlp

end
-- ==== Proof.MlpBody.lean ====
/- The MLP kernel's body: the weights staged, the loop, the last two copies waited for. -/
module

public import proofs.«01_k».proof.Proof.MlpWeights

@[expose] public section

set_option maxRecDepth 16384

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

variable (c : Dev nD) (XA : Buf (Elt F) (xM.view.loc (c : Thread nD τ)))
  (arg1 : Memref sig .tc .vmem S6x32x1024 .f32) (harg1 : arg1.IsWhole)
  (arg2 : Memref sig .tc .vmem S1x1024 .f32) (harg2 : arg2.IsWhole)
  (arg3 : Memref sig .tc .vmem S1x1024 .f32) (harg3 : arg3.IsWhole)
  (g1 : Buf (Elt F) (arg1.view.loc (c : Thread nD τ))) (g2 : Buf (Elt F) (arg2.view.loc (c : Thread nD τ))) (g3 : Buf (Elt F) (arg3.view.loc (c : Thread nD τ)))

/-- The two weights in HBM, and the buffers their pieces land in. -/
abbrev a4M : Memref sig .tc .hbm S1024x4096 .f32 := Memref.whole main_v0
abbrev a5M : Memref sig .tc .hbm S4096x1024 .f32 := Memref.whole main_v1
abbrev s1M : Memref sig .tc .vmem S4x64x4096 .f32 := Memref.whole cc0_scratch6
abbrev s2M : Memref sig .tc .vmem S4x256x1024 .f32 := Memref.whole cc0_scratch7

abbrev bodyG : Prog (TpuEff nD τ sig (Elt F) Λ₀ .tc) PUnit :=
  cc0_mlp (F := F) xM (Memref.isWhole_whole _) arg1 harg1 arg2 harg2 arg3 harg3 (Memref.whole main_v0) (Memref.isWhole_whole _) (Memref.whole main_v1) (Memref.isWhole_whole _) oM (Memref.isWhole_whole _) xbM (Memref.isWhole_whole _) obM (Memref.isWhole_whole _) cc0_scratch2 cc0_scratch3 w1M (Memref.isWhole_whole _) w2M (Memref.isWhole_whole _) (Memref.whole cc0_scratch6) (Memref.isWhole_whole _) (Memref.whole cc0_scratch7) (Memref.isWhole_whole _) cc0_scratch8 cc0_scratch9 actM (Memref.isWhole_whole _)

/-- The semaphores of the copies into the staging slots. -/
abbrev w1sem0 : DmaSems sig S_ := (cc0_scratch8.slice (Rect.unit (s := S4) ![0] S1.size inb_S4_S1_0)).squeeze S_ squeezes_S1_S_
abbrev w1sem1 : DmaSems sig S_ := (cc0_scratch8.slice (Rect.unit (s := S4) ![1] S1.size inb_S4_S1_1)).squeeze S_ squeezes_S1_S_
abbrev w1sem2 : DmaSems sig S_ := (cc0_scratch8.slice (Rect.unit (s := S4) ![2] S1.size inb_S4_S1_2)).squeeze S_ squeezes_S1_S_
abbrev w1sem3 : DmaSems sig S_ := (cc0_scratch8.slice (Rect.unit (s := S4) ![3] S1.size inb_S4_S1_3)).squeeze S_ squeezes_S1_S_
abbrev w2sem0 : DmaSems sig S_ := (cc0_scratch9.slice (Rect.unit (s := S4) ![0] S1.size inb_S4_S1_0)).squeeze S_ squeezes_S1_S_
abbrev w2sem1 : DmaSems sig S_ := (cc0_scratch9.slice (Rect.unit (s := S4) ![1] S1.size inb_S4_S1_1)).squeeze S_ squeezes_S1_S_
abbrev w2sem2 : DmaSems sig S_ := (cc0_scratch9.slice (Rect.unit (s := S4) ![2] S1.size inb_S4_S1_2)).squeeze S_ squeezes_S1_S_
abbrev w2sem3 : DmaSems sig S_ := (cc0_scratch9.slice (Rect.unit (s := S4) ![3] S1.size inb_S4_S1_3)).squeeze S_ squeezes_S1_S_
abbrev scellP (s : DmaSems sig S_) : sProp 𝕄 := semVal ((c : Thread nD τ), SemLoc.dma s.sem) 0

/-- The staging slots. -/
abbrev w1slot0 : Memref sig .tc .vmem S64x4096 .f32 := (s1M.slice (Rect.unit (s := S4x64x4096) ![0, 0, 0] S1x64x4096.size inb_S4x64x4096_S1x64x4096_0_0_0) (fun _ => rfl)).squeeze S64x4096 squeezes_S1x64x4096_S64x4096
abbrev w1slot1 : Memref sig .tc .vmem S64x4096 .f32 := (s1M.slice (Rect.unit (s := S4x64x4096) ![1, 0, 0] S1x64x4096.size inb_S4x64x4096_S1x64x4096_1_0_0) (fun _ => rfl)).squeeze S64x4096 squeezes_S1x64x4096_S64x4096
abbrev w1slot2 : Memref sig .tc .vmem S64x4096 .f32 := (s1M.slice (Rect.unit (s := S4x64x4096) ![2, 0, 0] S1x64x4096.size inb_S4x64x4096_S1x64x4096_2_0_0) (fun _ => rfl)).squeeze S64x4096 squeezes_S1x64x4096_S64x4096
abbrev w1slot3 : Memref sig .tc .vmem S64x4096 .f32 := (s1M.slice (Rect.unit (s := S4x64x4096) ![3, 0, 0] S1x64x4096.size inb_S4x64x4096_S1x64x4096_3_0_0) (fun _ => rfl)).squeeze S64x4096 squeezes_S1x64x4096_S64x4096
abbrev w2slot0 : Memref sig .tc .vmem S256x1024 .f32 := (s2M.slice (Rect.unit (s := S4x256x1024) ![0, 0, 0] S1x256x1024.size inb_S4x256x1024_S1x256x1024_0_0_0) (fun _ => rfl)).squeeze S256x1024 squeezes_S1x256x1024_S256x1024
abbrev w2slot1 : Memref sig .tc .vmem S256x1024 .f32 := (s2M.slice (Rect.unit (s := S4x256x1024) ![1, 0, 0] S1x256x1024.size inb_S4x256x1024_S1x256x1024_1_0_0) (fun _ => rfl)).squeeze S256x1024 squeezes_S1x256x1024_S256x1024
abbrev w2slot2 : Memref sig .tc .vmem S256x1024 .f32 := (s2M.slice (Rect.unit (s := S4x256x1024) ![2, 0, 0] S1x256x1024.size inb_S4x256x1024_S1x256x1024_2_0_0) (fun _ => rfl)).squeeze S256x1024 squeezes_S1x256x1024_S256x1024
abbrev w2slot3 : Memref sig .tc .vmem S256x1024 .f32 := (s2M.slice (Rect.unit (s := S4x256x1024) ![3, 0, 0] S1x256x1024.size inb_S4x256x1024_S1x256x1024_3_0_0) (fun _ => rfl)).squeeze S256x1024 squeezes_S1x256x1024_S256x1024

/-- Block `b`'s tile, of the contents of the arguments. -/
def tileC (A4 : Buf (Elt F) (a4M.view.loc (c : Thread nD τ))) (A5 : Buf (Elt F) (a5M.view.loc (c : Thread nD τ))) (b : Fin 64) : Vec F S1x1024x1024 .f32 :=
  tileOf (arg1.view.read (Elt F) g1) (arg2.view.read (Elt F) g2) (arg3.view.read (Elt F) g3) (low (a4M.view.read (Elt F) A4))
    (low (a5M.view.read (Elt F) A5)) (tripOf b) ((xblk b).view.read (Elt F) XA)

/-- What the body hands back. -/
def POST (A4 : Buf (Elt F) (a4M.view.loc (c : Thread nD τ))) (A5 : Buf (Elt F) (a5M.view.loc (c : Thread nD τ))) : sProp 𝕄 :=
  iprop((arg1.view.loc (c : Thread nD τ) ↦[arg1.view.set]{fullShare} g1)
    ∗ (arg2.view.loc (c : Thread nD τ) ↦[arg2.view.set]{fullShare} g2)
    ∗ (arg3.view.loc (c : Thread nD τ) ↦[arg3.view.set]{fullShare} g3)
    ∗ (∃ W, owes (c : Thread nD τ) 0 W)
    ∗ (∃ f, w1M.view.loc (c : Thread nD τ) ↦[w1M.view.set]{fullShare} f)
    ∗ (∃ f, w2M.view.loc (c : Thread nD τ) ↦[w2M.view.set]{fullShare} f)
    ∗ (∃ f, actM.view.loc (c : Thread nD τ) ↦[actM.view.set]{fullShare} f)
    ∗ (a4M.view.loc (c : Thread nD τ) ↦[a4M.view.set]{fullShare} A4)
    ∗ (a5M.view.loc (c : Thread nD τ) ↦[a5M.view.set]{fullShare} A5)
    ∗ (∃ f, w1slot0.view.loc (c : Thread nD τ) ↦[w1slot0.view.set]{fullShare} f)
    ∗ (∃ f, w1slot1.view.loc (c : Thread nD τ) ↦[w1slot1.view.set]{fullShare} f)
    ∗ (∃ f, w1slot2.view.loc (c : Thread nD τ) ↦[w1slot2.view.set]{fullShare} f)
    ∗ (∃ f, w1slot3.view.loc (c : Thread nD τ) ↦[w1slot3.view.set]{fullShare} f)
    ∗ (∃ f, w2slot0.view.loc (c : Thread nD τ) ↦[w2slot0.view.set]{fullShare} f)
    ∗ (∃ f, w2slot1.view.loc (c : Thread nD τ) ↦[w2slot1.view.set]{fullShare} f)
    ∗ (∃ f, w2slot2.view.loc (c : Thread nD τ) ↦[w2slot2.view.set]{fullShare} f)
    ∗ (∃ f, w2slot3.view.loc (c : Thread nD τ) ↦[w2slot3.view.set]{fullShare} f)
    ∗ scellP c w1sem0 ∗ scellP c w1sem1 ∗ scellP c w1sem2 ∗ scellP c w1sem3
    ∗ scellP c w2sem0 ∗ scellP c w2sem1 ∗ scellP c w2sem2 ∗ scellP c w2sem3
    ∗ xfreeP c 0 ∗ xfreeP c 1 ∗ bigSep Finset.univ (xblkP c XA) ∗ ofreeP c 0 ∗ ofreeP c 1
    ∗ bigSep Finset.univ (landedP c (tileC c XA arg1 arg2 arg3 g1 g2 g3 A4 A5)))

theorem tileB_eq (A4 : Buf (Elt F) (a4M.view.loc (c : Thread nD τ))) (A5 : Buf (Elt F) (a5M.view.loc (c : Thread nD τ))) (W1 W2)
    (h1 : w1M.view.read (Elt F) W1 = low (a4M.view.read (Elt F) A4)) (h2 : w2M.view.read (Elt F) W2 = low (a5M.view.read (Elt F) A5)) :
    tileB c XA arg1 arg2 arg3 g1 g2 g3 W1 W2 = tileC c XA arg1 arg2 arg3 g1 g2 g3 A4 A5 := by
  funext b
  unfold tileB tileC
  dsimp only [tileAt]
  rw [h1, h2, show Ring.bk 64 (tripOf b).val = b from Fin.ext (Ring.bk_val (NB := 64) b.isLt)]

theorem sl64 : Ring.sl 2 64 = 0 := rfl
theorem sl65 : Ring.sl 2 65 = 1 := rfl

theorem ring_start (T : Fin 64 → Vec F S1x1024x1024 .f32) (f) :
    iprop(xflightP c XA 0 0 f ∗ xfreeP c 1 ∗ bigSep (Ring.homeSet 1 0) (xblkP c XA) ∗ ofreeP c 0 ∗ ofreeP c 1 ∗ bigSep Finset.univ (freshP c))
      ⊢ ringAt c XA T 0 := by
  unfold ringAt
  rw [show xAt c XA 0 = iprop(∃ f, xflightP c XA 0 0 f) from if_pos (by omega), show oAt c T 2 0 = ofreeP c 0 from if_pos (by omega),
    show oAt c T 1 0 = ofreeP c 1 from if_pos (by omega), Ring.aheadSet_zero, Ring.behindSet_boot 2 0 (by omega), bigSep_empty]
  iintro ⟨Hf, Hx, Hb, Ho0, Ho1, Hr⟩
  isplitl [Hf]; · iexists f; iexact Hf
  isplitl [Hx]; · iexact Hx
  isplitl [Hb]; · iexact Hb
  isplitl [Ho0]; · iexact Ho0
  isplitl [Ho1]; · iexact Ho1
  isplitl [Hr]; · iexact Hr
  iempintro

theorem ring_end (T : Fin 64 → Vec F S1x1024x1024 .f32) :
    ringAt c XA T 64
      ⊢ iprop(xfreeP c 0 ∗ xfreeP c 1 ∗ bigSep Finset.univ (xblkP c XA) ∗ sentP c 0 62 (T 62) ∗ sentP c 1 63 (T 63)
        ∗ bigSep (Ring.behindSet 2 64) (landedP c T)) := by
  unfold ringAt
  rw [show xAt c XA 64 = xfreeP c 0 from if_neg (by omega), show oAt c T 2 64 = sentP c 0 62 (T 62) from if_neg (by omega),
    show oAt c T 1 64 = sentP c 1 63 (T 63) from if_neg (by omega), Ring.homeSet_last 1 64 (by omega)]
  iintro ⟨Hx0, Hx1, Hb, Ho0, Ho1, -, Hl⟩
  isplitl [Hx0]; · iexact Hx0
  isplitl [Hx1]; · iexact Hx1
  isplitl [Hb]; · iexact Hb
  isplitl [Ho0]; · iexact Ho0
  isplitl [Ho1]; · iexact Ho1
  iexact Hl

theorem landed_all (T : Fin 64 → Vec F S1x1024x1024 .f32) :
    iprop(landedP c T 62 ∗ landedP c T 63 ∗ bigSep (Ring.behindSet 2 64) (landedP c T)) ⊢ bigSep Finset.univ (landedP c T) := by
  have e : (Finset.univ : Finset (Fin 64)) = insert 62 (insert 63 (Ring.behindSet 2 64)) := by
    ext b
    simp only [Finset.mem_univ, Finset.mem_insert, Ring.mem_behindSet, true_iff, Fin.ext_iff]
    have := b.isLt
    show b.val = 62 ∨ b.val = 63 ∨ b.val + 2 < 64
    omega
  have h1 : (62 : Fin 64) ∉ insert 63 (Ring.behindSet (NB := 64) 2 64) := by
    rw [Finset.mem_insert, Ring.mem_behindSet, Fin.ext_iff]; show ¬(62 = 63 ∨ 62 + 2 < 64); omega
  have h2 : (63 : Fin 64) ∉ Ring.behindSet (NB := 64) 2 64 := by
    rw [Ring.mem_behindSet]; show ¬(63 + 2 < 64); omega
  rw [e, bigSep_insert h1, bigSep_insert h2]; exact .rfl

set_option maxHeartbeats 2000000 in
/-- The body: from the arguments' contents to the 64 blocks of the result. -/
theorem bodyRun (A4 : Buf (Elt F) (a4M.view.loc (c : Thread nD τ))) (A5 : Buf (Elt F) (a5M.view.loc (c : Thread nD τ))) (fx0 W f10 f11 f12 f13 f20 f21 f22 f23 W1 W2) :
    iprop((arg1.view.loc (c : Thread nD τ) ↦[arg1.view.set]{fullShare} g1)
    ∗ (arg2.view.loc (c : Thread nD τ) ↦[arg2.view.set]{fullShare} g2)
    ∗ (arg3.view.loc (c : Thread nD τ) ↦[arg3.view.set]{fullShare} g3)
    ∗ (w1M.view.loc (c : Thread nD τ) ↦[w1M.view.set]{fullShare} W1)
    ∗ (w2M.view.loc (c : Thread nD τ) ↦[w2M.view.set]{fullShare} W2)
    ∗ (∃ f, actM.view.loc (c : Thread nD τ) ↦[actM.view.set]{fullShare} f)
    ∗ owes (c : Thread nD τ) 0 W
    ∗ (a4M.view.loc (c : Thread nD τ) ↦[a4M.view.set]{fullShare} A4)
    ∗ (a5M.view.loc (c : Thread nD τ) ↦[a5M.view.set]{fullShare} A5)
    ∗ (w1slot0.view.loc (c : Thread nD τ) ↦[w1slot0.view.set]{fullShare} f10)
    ∗ (w1slot1.view.loc (c : Thread nD τ) ↦[w1slot1.view.set]{fullShare} f11)
    ∗ (w1slot2.view.loc (c : Thread nD τ) ↦[w1slot2.view.set]{fullShare} f12)
    ∗ (w1slot3.view.loc (c : Thread nD τ) ↦[w1slot3.view.set]{fullShare} f13)
    ∗ (w2slot0.view.loc (c : Thread nD τ) ↦[w2slot0.view.set]{fullShare} f20)
    ∗ (w2slot1.view.loc (c : Thread nD τ) ↦[w2slot1.view.set]{fullShare} f21)
    ∗ (w2slot2.view.loc (c : Thread nD τ) ↦[w2slot2.view.set]{fullShare} f22)
    ∗ (w2slot3.view.loc (c : Thread nD τ) ↦[w2slot3.view.set]{fullShare} f23)
    ∗ scellP c w1sem0 ∗ scellP c w1sem1 ∗ scellP c w1sem2 ∗ scellP c w1sem3
    ∗ scellP c w2sem0 ∗ scellP c w2sem1 ∗ scellP c w2sem2 ∗ scellP c w2sem3
    ∗ xblkP c XA 0 ∗ bigSep (Ring.homeSet 1 0) (xblkP c XA) ∗ xslotP c 0 fx0 ∗ xcellP c 0 ∗ xfreeP c 1 ∗ ofreeP c 0 ∗ ofreeP c 1
    ∗ bigSep Finset.univ (freshP c))
      ⊢ wp frame (wpE (defs₀ (F := F)) 𝒱₀ (c : Thread nD τ) none) Set.univ (bodyG arg1 harg1 arg2 harg2 arg3 harg3)
        (fun _ => POST c XA arg1 arg2 arg3 g1 g2 g3 A4 A5) := by
  iintro ⟨H1, H2, H3, HW1, HW2, ⟨%fa, HA⟩, HW, Ha4, Ha5, HS0, HS1, HS2, HS3, HS4, HS5, HS6, HS7, Hc10, Hc11, Hc12, Hc13, Hc20, Hc21, Hc22, Hc23, Hb, Hbs, Hx, Hxc, Hxf, Hof0, Hof1, Hfr⟩
  sl_exec
  have hR1 : w1M.view.read (Elt F) (w1M.view.writes (Elt F) w1M.view.junk (bodyRun.sl.HW1_16 c A4)) = low (a4M.view.read (Elt F) A4) := by
    rw [View.read_writes_junk_eq_canon]
    funext y
    sl_unfold_run_names
    refine View.canon_apply_of_pieces _ _ (View.PiecesOf.mem ?_) y (View.cover_of_tiled_head _ _ _ rfl y)
    repeat refine ⟨fun x => (congrFun (stage1 _ _ _ _ _ _) x).trans rfl, ?_⟩
    trivial
  have hR2 : w2M.view.read (Elt F) (w2M.view.writes (Elt F) w2M.view.junk (bodyRun.sl.HW2_16 c A5)) = low (a5M.view.read (Elt F) A5) := by
    rw [View.read_writes_junk_eq_canon]
    funext y
    sl_unfold_run_names
    refine View.canon_apply_of_pieces _ _ (View.PiecesOf.mem ?_) y (View.cover_of_tiled_head _ _ _ rfl y)
    repeat refine ⟨fun x => (congrFun (stage2 _ _ _ _ _ _) x).trans rfl, ?_⟩
    trivial
  generalize w1M.view.writes (Elt F) w1M.view.junk (bodyRun.sl.HW1_16 c A4) = V1 at hR1 ⊢
  generalize w2M.view.writes (Elt F) w2M.view.junk (bodyRun.sl.HW2_16 c A5) = V2 at hR2 ⊢
  sl_for (fun k _ => invAt c XA arg1 arg2 arg3 g1 g2 g3 V1 V2 k) $$ [H1 H2 H3 HW1 HW2 HA HW Hxc Hxf Hbs Hof0 Hof1 Hfr]
  · intro k _
    exact step c XA arg1 harg1 arg2 harg2 arg3 harg3 g1 g2 g3 V1 V2 k
  · unfold invAt readsP
    isplitl [H1 H2 H3 HW1 HW2 HA HW]
    · isplitl [H1]; iexact H1
      isplitl [H2]; iexact H2
      isplitl [H3]; iexact H3
      isplitl [HW1]; iexact HW1
      isplitl [HW2]; iexact HW2
      isplitl [HA]
      · iexists _; iexact HA
      · iexists _; iexact HW
    · iapply (ring_start c XA _ fx0)
      isplitl [Hxc]; iexact Hxc
      isplitl [Hxf]; iexact Hxf
      isplitl [Hbs]; iexact Hbs
      isplitl [Hof0]; iexact Hof0
      isplitl [Hof1]; iexact Hof1
      iexact Hfr
  iintro %acc HI
  rw [show Scf.trips k0_t1_loop.lb k0_t1_loop.ub k0_t1_loop.st = 64 from trips_eq]
  unfold invAt readsP
  icases HI with ⟨⟨H1, H2, H3, HW1, HW2, ⟨%fa', HA⟩, ⟨%W', HW⟩⟩, HR⟩
  ihave HR' := (ring_end c XA _) $$ HR
  icases HR' with ⟨Hx0, Hx1, Hbs, HS62, HS63, Hl⟩
  ihave HS62' := (sent_open c 0 62 _) $$ HS62
  icases HS62' with ⟨%q0, %r0, %e0, HF62⟩
  ihave HS63' := (sent_open c 1 63 _) $$ HS63
  icases HS63' with ⟨%q1, %r1, %e1, HF63⟩
  sl_exec
  sl_step
  unfold POST
  isplitl [H1]; · iexact H1
  isplitl [H2]; · iexact H2
  isplitl [H3]; · iexact H3
  isplitl [HW]; · iexists _; iexact HW
  isplitl [HW1]; · iexists _; iexact HW1
  isplitl [HW2]; · iexists _; iexact HW2
  isplitl [HA]; · iexists _; iexact HA
  isplitl [Ha4]; · iexact Ha4
  isplitl [Ha5]; · iexact Ha5
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  isplitl [HS6]; · iexists _; iexact HS6
  isplitl [HS7]; · iexists _; iexact HS7
  isplitl [Hc10]; · iexact Hc10
  isplitl [Hc11]; · iexact Hc11
  isplitl [Hc12]; · iexact Hc12
  isplitl [Hc13]; · iexact Hc13
  isplitl [Hc20]; · iexact Hc20
  isplitl [Hc21]; · iexact Hc21
  isplitl [Hc22]; · iexact Hc22
  isplitl [Hc23]; · iexact Hc23
  isplitl [Hx0]; · iexact Hx0
  isplitl [Hx1]; · iexact Hx1
  isplitl [Hbs]; · iexact Hbs
  isplitl [HF62_src HF62]
  · unfold ofreeP
    isplitl [HF62_src]; · iexists _; iexact HF62_src
    iexact HF62
  isplitl [HF63_src HF63]
  · unfold ofreeP
    isplitl [HF63_src]; · iexists _; iexact HF63_src
    iexact HF63
  rw [← tileB_eq c XA arg1 arg2 arg3 g1 g2 g3 A4 A5 V1 V2 hR1 hR2]
  iapply (landed_all c _)
  isplitl [HF62_dst]
  · iapply (landed_intro c _ 62 q0 e0); iexact HF62_dst
  isplitl [HF63_dst]
  · iapply (landed_intro c _ 63 q1 e1); iexact HF63_dst
  iexact Hl

end Cert.Proof.Mlp

end
-- ==== Proof.MlpParts.lean ====
/- The MLP kernel's buffers, cut into the pieces its copies move and joined again. -/
module

public import proofs.«01_k».proof.Proof.MlpBody
public import Idealize.ShloMosaic.Lib.Pipeline.Routed

@[expose] public section

set_option maxRecDepth 16384

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

variable (c : Dev nD)

/-! ## The element sets -/

abbrev X64 (b : Fin 64) : Finset S32x2048x1024.Idx := (Rect.unit (s := S32x2048x1024) (blkOff b) S1x1024x1024.size (blkOff_inb b)).set
abbrev B2 (s : Fin 2) : Finset S2x1024x1024.Idx := (Rect.unit (s := S2x1024x1024) (slotOff s) S1x1024x1024.size (slotOff_inb s)).set

theorem mem_X64 (b : Fin 64) (y : S32x2048x1024.Idx) : y ∈ X64 b ↔ (y 0).val = b.val / 2 ∧ (y 1).val / 1024 = b.val % 2 := by
  rw [Rect.mem_set_unit]
  have h0 : (y 0).val < 32 := (y 0).isLt
  have h1 : (y 1).val < 2048 := (y 1).isLt
  have h2 : (y 2).val < 1024 := (y 2).isLt
  constructor
  · intro H
    have a0 : b.val / 2 ≤ (y 0).val ∧ (y 0).val < b.val / 2 + 1 := H 0
    have a1 : b.val % 2 * 1024 ≤ (y 1).val ∧ (y 1).val < b.val % 2 * 1024 + 1024 := H 1
    omega
  · intro H i; fin_cases i
    · show b.val / 2 ≤ (y 0).val ∧ (y 0).val < b.val / 2 + 1; omega
    · show b.val % 2 * 1024 ≤ (y 1).val ∧ (y 1).val < b.val % 2 * 1024 + 1024; omega
    · show 0 ≤ (y 2).val ∧ (y 2).val < 0 + 1024; omega

theorem mem_B2 (s : Fin 2) (y : S2x1024x1024.Idx) : y ∈ B2 s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega

/-- The block an element lies in, and its place there. -/
def blkOfIdx (y : S32x2048x1024.Idx) : Fin 64 := ⟨2 * (y 0).val + (y 1).val / 1024, by
  have h0 : (y 0).val < 32 := (y 0).isLt
  have h1 : (y 1).val < 2048 := (y 1).isLt
  omega⟩
def inBlk (y : S32x2048x1024.Idx) : S1x1024x1024.Idx := fun a => match a with
  | ⟨0, _⟩ => ⟨0, Nat.zero_lt_one⟩
  | ⟨1, _⟩ => ⟨(y 1).val % 1024, Nat.mod_lt _ (by decide)⟩
  | ⟨2, _⟩ => y 2

theorem blkOfIdx_eq (b : Fin 64) (y : S32x2048x1024.Idx) (h : y ∈ X64 b) : blkOfIdx y = b := by
  rw [mem_X64] at h
  refine Fin.ext ?_
  show 2 * (y 0).val + (y 1).val / 1024 = b.val
  omega

theorem emb_inBlk (b : Fin 64) (y : S32x2048x1024.Idx) (h : y ∈ X64 b) :
    (Rect.unit (s := S32x2048x1024) (blkOff b) S1x1024x1024.size (blkOff_inb b)).emb (inBlk y) = y := by
  rw [mem_X64] at h
  have h1 : (y 1).val < 2048 := (y 1).isLt
  funext a
  fin_cases a
  · refine Fin.ext ?_; show b.val / 2 + 0 * 1 = (y 0).val; omega
  · refine Fin.ext ?_; show b.val % 2 * 1024 + 1 * ((y 1).val % 1024) = (y 1).val; omega
  · refine Fin.ext ?_; show 0 + 1 * (y 2).val = (y 2).val; omega

theorem X64_disjoint : ∀ b b' : Fin 64, b ≠ b' → Disjoint (X64 b) (X64 b') := by
  intro b b' hne; rw [Finset.disjoint_left]; intro y hy hy'
  exact hne ((blkOfIdx_eq b y hy).symm.trans (blkOfIdx_eq b' y hy'))
theorem X64_cover : (Finset.univ : Finset (Fin 64)).biUnion X64 = Finset.univ := by
  ext y; simp only [Finset.mem_biUnion, Finset.mem_univ, true_and, iff_true]
  refine ⟨blkOfIdx y, ?_⟩
  rw [mem_X64]
  have h0 : (y 0).val < 32 := (y 0).isLt
  have h1 : (y 1).val < 2048 := (y 1).isLt
  show (y 0).val = (2 * (y 0).val + (y 1).val / 1024) / 2 ∧ (y 1).val / 1024 = (2 * (y 0).val + (y 1).val / 1024) % 2
  omega
theorem B2_disjoint : ∀ s s' : Fin 2, s ≠ s' → Disjoint (B2 s) (B2 s') := by
  intro s s' hne; rw [Finset.disjoint_left]; intro y hy hy'; rw [mem_B2] at hy hy'; exact hne (Fin.ext (hy.symm.trans hy'))
theorem B2_cover : (Finset.univ : Finset (Fin 2)).biUnion B2 = Finset.univ := by
  ext y; simp only [Finset.mem_biUnion, Finset.mem_univ, true_and, iff_true]; exact ⟨(y 0).cast (by decide), by rw [mem_B2]; rfl⟩

theorem xblk_set (b : Fin 64) : (xblk b).view.set = X64 b := View.set_slice_whole _ _
theorem oblk_set (b : Fin 64) : (oblk b).view.set = X64 b := View.set_slice_whole _ _
theorem xslot_set (s : Fin 2) : (xslot s).view.set = B2 s := View.set_slice_whole _ _
theorem oslot_set (s : Fin 2) : (oslot s).view.set = B2 s := View.set_slice_whole _ _

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-! ## The argument and the result -/

theorem x_eq (XA : Buf (Elt F) (xM.view.loc (c : Thread nD τ))) :
    (((c : Thread nD τ).loc main_arg0) ↦{fullShare} XA : sProp 𝕄) = iprop(xblkP c XA 0 ∗ bigSep (Ring.homeSet 1 0) (xblkP c XA)) := by
  have e : (Finset.univ : Finset (Fin 64)) = insert 0 (Ring.homeSet (NB := 64) 1 0) := by
    ext b; simp only [Finset.mem_univ, Finset.mem_insert, Ring.mem_homeSet, true_iff, Fin.ext_iff]; have := b.isLt; show b.val = 0 ∨ _; omega
  have h0 : (0 : Fin 64) ∉ Ring.homeSet (NB := 64) 1 0 := by rw [Ring.mem_homeSet]; show ¬_; simp
  refine Eq.trans ?_ (bigSep_insert h0)
  rw [← e, Ring.pointsTo_blocks (ℓ := (c : Thread nD τ).loc main_arg0) X64 X64_disjoint X64_cover]
  exact bigSep_congr fun b _ => by rw [← xblk_set]; rfl
theorem x_eq_all (XA : Buf (Elt F) (xM.view.loc (c : Thread nD τ))) :
    (((c : Thread nD τ).loc main_arg0) ↦{fullShare} XA : sProp 𝕄) = bigSep Finset.univ (xblkP c XA) := by
  rw [Ring.pointsTo_blocks (ℓ := (c : Thread nD τ).loc main_arg0) X64 X64_disjoint X64_cover]
  exact bigSep_congr fun b _ => by rw [← xblk_set]; rfl

theorem o_fresh_at (b : Fin 64) (f : Buf (Elt F) (oM.view.loc (c : Thread nD τ))) :
    (((c : Thread nD τ).loc main_v2) ↦[X64 b]{fullShare} f : sProp 𝕄) ⊢ freshP c b := by
  rw [← oblk_set]
  unfold freshP
  iintro H
  iexists f
  iexact H
theorem o_fresh (f : Buf (Elt F) (oM.view.loc (c : Thread nD τ))) :
    (((c : Thread nD τ).loc main_v2) ↦{fullShare} f : sProp 𝕄) ⊢ bigSep Finset.univ (freshP c) := by
  rw [Ring.pointsTo_blocks (ℓ := (c : Thread nD τ).loc main_v2) X64 X64_disjoint X64_cover]
  exact bigSep_mono fun b _ => o_fresh_at c b f

/-- The result whose block `b` is `T b`. -/
def ofBlocks (T : Fin 64 → Vec F S1x1024x1024 .f32) : Buf (Elt F) (oM.view.loc (c : Thread nD τ)) := fun y => T (blkOfIdx y) (inBlk y)

theorem o_landed_at (T : Fin 64 → Vec F S1x1024x1024 .f32) (b : Fin 64) :
    landedP c T b ⊢ (((c : Thread nD τ).loc main_v2) ↦[X64 b]{fullShare} ofBlocks c T : sProp 𝕄) := by
  unfold landedP
  iintro ⟨%f, %h, H⟩
  have e : (oblkP c b f : sProp 𝕄) = (((c : Thread nD τ).loc main_v2) ↦[X64 b]{fullShare} ofBlocks c T : sProp 𝕄) := by
    rw [← oblk_set]
    refine pointsTo_congr fun y hy => ?_
    rw [oblk_set] at hy
    have e : f y = (oblk b).view.read (Elt F) f (inBlk y) := congrArg f (emb_inBlk b y hy).symm
    rw [e, h]
    show _ = T (blkOfIdx y) (inBlk y)
    rw [blkOfIdx_eq b y hy]
  iapply (Entails.of_eq e)
  iexact H
theorem o_landed (T : Fin 64 → Vec F S1x1024x1024 .f32) :
    bigSep Finset.univ (landedP c T) ⊢ (((c : Thread nD τ).loc main_v2) ↦{fullShare} ofBlocks c T : sProp 𝕄) := by
  rw [Ring.pointsTo_blocks (ℓ := (c : Thread nD τ).loc main_v2) X64 X64_disjoint X64_cover]
  exact bigSep_mono fun b _ => o_landed_at c T b

/-! ## The two-slot buffers -/

theorem xslotP_eq (s : Fin 2) (f) : xslotP c s f = (((c : Thread nD τ).loc cc0_scratch0) ↦[B2 s]{fullShare} f : sProp 𝕄) :=
  congrArg (fun S => (_ ↦[S]{fullShare} f : sProp 𝕄)) (xslot_set s)
theorem xbuf_split :
    iprop(∃ f : Buf (Elt F) ((c : Thread nD τ).loc cc0_scratch0), ((c : Thread nD τ).loc cc0_scratch0) ↦{fullShare} f)
      ⊢ (iprop((∃ f, xslotP c 0 f) ∗ ∃ f, xslotP c 1 f) : sProp 𝕄) := by
  iintro ⟨%f, H⟩
  ihave H2 := (Entails.of_eq ((Ring.pointsTo_blocks (Ix := Unit) (Name := ℕ) (U := Pipeline.UC sig nD τ) (Lvl := ℕ) (q := fullShare) (ℓ := (c : Thread nD τ).loc cc0_scratch0) B2 B2_disjoint B2_cover f).trans (bigSep_fin2 _))) $$ H
  icases H2 with ⟨H0, H1⟩
  isplitl [H0]
  · iexists f; iapply (Entails.of_eq (xslotP_eq c 0 f).symm); iexact H0
  · iexists f; iapply (Entails.of_eq (xslotP_eq c 1 f).symm); iexact H1
theorem xbuf_join :
    iprop((∃ f, xslotP c 0 f) ∗ ∃ f, xslotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) B2 B2_disjoint B2_cover f0)
  irw [bigSep_fin2]
  isplitl [H0]
  · iexists f0; iapply (Entails.of_eq (xslotP_eq c 0 f0)); iexact H0
  · iexists f1; iapply (Entails.of_eq (xslotP_eq c 1 f1)); iexact H1

theorem oslotP_eq (s : Fin 2) (f) : oslotP c s f = (((c : Thread nD τ).loc cc0_scratch1) ↦[B2 s]{fullShare} f : sProp 𝕄) :=
  congrArg (fun S => (_ ↦[S]{fullShare} f : sProp 𝕄)) (oslot_set s)
theorem obuf_split :
    iprop(∃ f : Buf (Elt F) ((c : Thread nD τ).loc cc0_scratch1), ((c : Thread nD τ).loc cc0_scratch1) ↦{fullShare} f)
      ⊢ (iprop((∃ f, oslotP c 0 f) ∗ ∃ f, oslotP c 1 f) : sProp 𝕄) := by
  iintro ⟨%f, H⟩
  ihave H2 := (Entails.of_eq ((Ring.pointsTo_blocks (Ix := Unit) (Name := ℕ) (U := Pipeline.UC sig nD τ) (Lvl := ℕ) (q := fullShare) (ℓ := (c : Thread nD τ).loc cc0_scratch1) B2 B2_disjoint B2_cover f).trans (bigSep_fin2 _))) $$ H
  icases H2 with ⟨H0, H1⟩
  isplitl [H0]
  · iexists f; iapply (Entails.of_eq (oslotP_eq c 0 f).symm); iexact H0
  · iexists f; iapply (Entails.of_eq (oslotP_eq c 1 f).symm); iexact H1
theorem obuf_join :
    iprop((∃ f, oslotP c 0 f) ∗ ∃ f, oslotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) B2 B2_disjoint B2_cover f0)
  irw [bigSep_fin2]
  isplitl [H0]
  · iexists f0; iapply (Entails.of_eq (oslotP_eq c 0 f0)); iexact H0
  · iexists f1; iapply (Entails.of_eq (oslotP_eq c 1 f1)); iexact H1

/-! ## The four-slot staging buffers -/

theorem w1off_inb (s : Fin 4) : ∀ a, (![s.val, 0, 0] : Fin 3 → Nat) a + S1x64x4096.size a ≤ S4x64x4096.size a := by
  have := s.isLt; intro a; fin_cases a
  · show s.val + 1 ≤ 4; omega
  · show 0 + 64 ≤ 64; omega
  · show 0 + 4096 ≤ 4096; omega
abbrev D1 (s : Fin 4) : Finset S4x64x4096.Idx := (Rect.unit (s := S4x64x4096) ![s.val, 0, 0] S1x64x4096.size (w1off_inb s)).set
theorem mem_D1 (s : Fin 4) (y : S4x64x4096.Idx) : y ∈ D1 s ↔ (y 0).val = s.val := by
  rw [Rect.mem_set_unit]
  have h1 : (y 1).val < 64 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 64; omega
    · show 0 ≤ (y 2).val ∧ (y 2).val < 0 + 4096; omega
theorem D1_disjoint : ∀ s s' : Fin 4, s ≠ s' → Disjoint (D1 s) (D1 s') := by
  intro s s' hne; rw [Finset.disjoint_left]; intro y hy hy'; rw [mem_D1] at hy hy'; exact hne (Fin.ext (hy.symm.trans hy'))
theorem D1_cover : (Finset.univ : Finset (Fin 4)).biUnion D1 = Finset.univ := by
  ext y; simp only [Finset.mem_biUnion, Finset.mem_univ, true_and, iff_true]; exact ⟨(y 0).cast (by decide), by rw [mem_D1]; rfl⟩
theorem w1slot0_eq (f) : (w1slot0.view.loc (c : Thread nD τ) ↦[w1slot0.view.set]{fullShare} f : sProp 𝕄) = (((c : Thread nD τ).loc cc0_scratch6) ↦[D1 0]{fullShare} f : sProp 𝕄) :=
  congrArg (fun S => (_ ↦[S]{fullShare} f : sProp 𝕄)) ((View.set_reshape _ _).trans (View.set_slice_whole _ _))
theorem w1slot1_eq (f) : (w1slot1.view.loc (c : Thread nD τ) ↦[w1slot1.view.set]{fullShare} f : sProp 𝕄) = (((c : Thread nD τ).loc cc0_scratch6) ↦[D1 1]{fullShare} f : sProp 𝕄) :=
  congrArg (fun S => (_ ↦[S]{fullShare} f : sProp 𝕄)) ((View.set_reshape _ _).trans (View.set_slice_whole _ _))
theorem w1slot2_eq (f) : (w1slot2.view.loc (c : Thread nD τ) ↦[w1slot2.view.set]{fullShare} f : sProp 𝕄) = (((c : Thread nD τ).loc cc0_scratch6) ↦[D1 2]{fullShare} f : sProp 𝕄) :=
  congrArg (fun S => (_ ↦[S]{fullShare} f : sProp 𝕄)) ((View.set_reshape _ _).trans (View.set_slice_whole _ _))
theorem w1slot3_eq (f) : (w1slot3.view.loc (c : Thread nD τ) ↦[w1slot3.view.set]{fullShare} f : sProp 𝕄) = (((c : Thread nD τ).loc cc0_scratch6) ↦[D1 3]{fullShare} f : sProp 𝕄) :=
  congrArg (fun S => (_ ↦[S]{fullShare} f : sProp 𝕄)) ((View.set_reshape _ _).trans (View.set_slice_whole _ _))
theorem w1buf_split :
    iprop(∃ f : Buf (Elt F) ((c : Thread nD τ).loc cc0_scratch6), ((c : Thread nD τ).loc cc0_scratch6) ↦{fullShare} f)
      ⊢ (iprop((∃ f, w1slot0.view.loc (c : Thread nD τ) ↦[w1slot0.view.set]{fullShare} f) ∗ (∃ f, w1slot1.view.loc (c : Thread nD τ) ↦[w1slot1.view.set]{fullShare} f) ∗ (∃ f, w1slot2.view.loc (c : Thread nD τ) ↦[w1slot2.view.set]{fullShare} f) ∗ (∃ f, w1slot3.view.loc (c : Thread nD τ) ↦[w1slot3.view.set]{fullShare} f)) : sProp 𝕄) := by
  iintro ⟨%f, H⟩
  ihave H2 := (Entails.of_eq ((Ring.pointsTo_blocks (Ix := Unit) (Name := ℕ) (U := Pipeline.UC sig nD τ) (Lvl := ℕ) (q := fullShare) (ℓ := (c : Thread nD τ).loc cc0_scratch6) D1 D1_disjoint D1_cover f).trans (bigSep_fin4 _))) $$ H
  icases H2 with ⟨H0, H1, H2, H3⟩
  isplitl [H0]
  · iexists f; iapply (Entails.of_eq (w1slot0_eq c f).symm); iexact H0
  isplitl [H1]
  · iexists f; iapply (Entails.of_eq (w1slot1_eq c f).symm); iexact H1
  isplitl [H2]
  · iexists f; iapply (Entails.of_eq (w1slot2_eq c f).symm); iexact H2
  · iexists f; iapply (Entails.of_eq (w1slot3_eq c f).symm); iexact H3
theorem w1buf_join :
    iprop((∃ f, w1slot0.view.loc (c : Thread nD τ) ↦[w1slot0.view.set]{fullShare} f) ∗ (∃ f, w1slot1.view.loc (c : Thread nD τ) ↦[w1slot1.view.set]{fullShare} f) ∗ (∃ f, w1slot2.view.loc (c : Thread nD τ) ↦[w1slot2.view.set]{fullShare} f) ∗ (∃ f, w1slot3.view.loc (c : Thread nD τ) ↦[w1slot3.view.set]{fullShare} f))
      ⊢ (iprop(∃ f : Buf (Elt F) ((c : Thread nD τ).loc cc0_scratch6), ((c : Thread nD τ).loc cc0_scratch6) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch6) D1 D1_disjoint D1_cover f0)
  irw [bigSep_fin4]
  isplitl [H0]
  · iexists f0; iapply (Entails.of_eq (w1slot0_eq c f0)); iexact H0
  isplitl [H1]
  · iexists f1; iapply (Entails.of_eq (w1slot1_eq c f1)); iexact H1
  isplitl [H2]
  · iexists f2; iapply (Entails.of_eq (w1slot2_eq c f2)); iexact H2
  · iexists f3; iapply (Entails.of_eq (w1slot3_eq c f3)); iexact H3

theorem w2off_inb (s : Fin 4) : ∀ a, (![s.val, 0, 0] : Fin 3 → Nat) a + S1x256x1024.size a ≤ S4x256x1024.size a := by
  have := s.isLt; intro a; fin_cases a
  · show s.val + 1 ≤ 4; omega
  · show 0 + 256 ≤ 256; omega
  · show 0 + 1024 ≤ 1024; omega
abbrev D2 (s : Fin 4) : Finset S4x256x1024.Idx := (Rect.unit (s := S4x256x1024) ![s.val, 0, 0] S1x256x1024.size (w2off_inb s)).set
theorem mem_D2 (s : Fin 4) (y : S4x256x1024.Idx) : y ∈ D2 s ↔ (y 0).val = s.val := by
  rw [Rect.mem_set_unit]
  have h1 : (y 1).val < 256 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 1024; omega
theorem D2_disjoint : ∀ s s' : Fin 4, s ≠ s' → Disjoint (D2 s) (D2 s') := by
  intro s s' hne; rw [Finset.disjoint_left]; intro y hy hy'; rw [mem_D2] at hy hy'; exact hne (Fin.ext (hy.symm.trans hy'))
theorem D2_cover : (Finset.univ : Finset (Fin 4)).biUnion D2 = Finset.univ := by
  ext y; simp only [Finset.mem_biUnion, Finset.mem_univ, true_and, iff_true]; exact ⟨(y 0).cast (by decide), by rw [mem_D2]; rfl⟩
theorem w2slot0_eq (f) : (w2slot0.view.loc (c : Thread nD τ) ↦[w2slot0.view.set]{fullShare} f : sProp 𝕄) = (((c : Thread nD τ).loc cc0_scratch7) ↦[D2 0]{fullShare} f : sProp 𝕄) :=
  congrArg (fun S => (_ ↦[S]{fullShare} f : sProp 𝕄)) ((View.set_reshape _ _).trans (View.set_slice_whole _ _))
theorem w2slot1_eq (f) : (w2slot1.view.loc (c : Thread nD τ) ↦[w2slot1.view.set]{fullShare} f : sProp 𝕄) = (((c : Thread nD τ).loc cc0_scratch7) ↦[D2 1]{fullShare} f : sProp 𝕄) :=
  congrArg (fun S => (_ ↦[S]{fullShare} f : sProp 𝕄)) ((View.set_reshape _ _).trans (View.set_slice_whole _ _))
theorem w2slot2_eq (f) : (w2slot2.view.loc (c : Thread nD τ) ↦[w2slot2.view.set]{fullShare} f : sProp 𝕄) = (((c : Thread nD τ).loc cc0_scratch7) ↦[D2 2]{fullShare} f : sProp 𝕄) :=
  congrArg (fun S => (_ ↦[S]{fullShare} f : sProp 𝕄)) ((View.set_reshape _ _).trans (View.set_slice_whole _ _))
theorem w2slot3_eq (f) : (w2slot3.view.loc (c : Thread nD τ) ↦[w2slot3.view.set]{fullShare} f : sProp 𝕄) = (((c : Thread nD τ).loc cc0_scratch7) ↦[D2 3]{fullShare} f : sProp 𝕄) :=
  congrArg (fun S => (_ ↦[S]{fullShare} f : sProp 𝕄)) ((View.set_reshape _ _).trans (View.set_slice_whole _ _))
theorem w2buf_split :
    iprop(∃ f : Buf (Elt F) ((c : Thread nD τ).loc cc0_scratch7), ((c : Thread nD τ).loc cc0_scratch7) ↦{fullShare} f)
      ⊢ (iprop((∃ f, w2slot0.view.loc (c : Thread nD τ) ↦[w2slot0.view.set]{fullShare} f) ∗ (∃ f, w2slot1.view.loc (c : Thread nD τ) ↦[w2slot1.view.set]{fullShare} f) ∗ (∃ f, w2slot2.view.loc (c : Thread nD τ) ↦[w2slot2.view.set]{fullShare} f) ∗ (∃ f, w2slot3.view.loc (c : Thread nD τ) ↦[w2slot3.view.set]{fullShare} f)) : sProp 𝕄) := by
  iintro ⟨%f, H⟩
  ihave H2 := (Entails.of_eq ((Ring.pointsTo_blocks (Ix := Unit) (Name := ℕ) (U := Pipeline.UC sig nD τ) (Lvl := ℕ) (q := fullShare) (ℓ := (c : Thread nD τ).loc cc0_scratch7) D2 D2_disjoint D2_cover f).trans (bigSep_fin4 _))) $$ H
  icases H2 with ⟨H0, H1, H2, H3⟩
  isplitl [H0]
  · iexists f; iapply (Entails.of_eq (w2slot0_eq c f).symm); iexact H0
  isplitl [H1]
  · iexists f; iapply (Entails.of_eq (w2slot1_eq c f).symm); iexact H1
  isplitl [H2]
  · iexists f; iapply (Entails.of_eq (w2slot2_eq c f).symm); iexact H2
  · iexists f; iapply (Entails.of_eq (w2slot3_eq c f).symm); iexact H3
theorem w2buf_join :
    iprop((∃ f, w2slot0.view.loc (c : Thread nD τ) ↦[w2slot0.view.set]{fullShare} f) ∗ (∃ f, w2slot1.view.loc (c : Thread nD τ) ↦[w2slot1.view.set]{fullShare} f) ∗ (∃ f, w2slot2.view.loc (c : Thread nD τ) ↦[w2slot2.view.set]{fullShare} f) ∗ (∃ f, w2slot3.view.loc (c : Thread nD τ) ↦[w2slot3.view.set]{fullShare} f))
      ⊢ (iprop(∃ f : Buf (Elt F) ((c : Thread nD τ).loc cc0_scratch7), ((c : Thread nD τ).loc cc0_scratch7) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch7) D2 D2_disjoint D2_cover f0)
  irw [bigSep_fin4]
  isplitl [H0]
  · iexists f0; iapply (Entails.of_eq (w2slot0_eq c f0)); iexact H0
  isplitl [H1]
  · iexists f1; iapply (Entails.of_eq (w2slot1_eq c f1)); iexact H1
  isplitl [H2]
  · iexists f2; iapply (Entails.of_eq (w2slot2_eq c f2)); iexact H2
  · iexists f3; iapply (Entails.of_eq (w2slot3_eq c f3)); iexact H3

/-! ## Whole buffers -/

theorem whole_eq (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f : sProp 𝕄) :=
  congrArg (fun S => (_ ↦[S]{fullShare} f : sProp 𝕄)) (View.set_whole b)

/-! ## The kernel's own semaphores -/

def ownSem : Fin 12 → SemLoc sig
  | 0 => .dma (xsem 0).sem | 1 => .dma (xsem 1).sem | 2 => .dma (Mlp.osem 0).sem | 3 => .dma (Mlp.osem 1).sem
  | 4 => .dma w1sem0.sem | 5 => .dma w1sem1.sem | 6 => .dma w1sem2.sem | 7 => .dma w1sem3.sem
  | 8 => .dma w2sem0.sem | 9 => .dma w2sem1.sem | 10 => .dma w2sem2.sem | 11 => .dma w2sem3.sem

theorem ownSemFacts : Pipeline.OwnSemFacts spec0 ownSem := by decide

theorem ownSems0_eq : (Pipeline.ownSems0 (Ix := Unit) (Name := ℕ) (U := Pipeline.UC sig nD τ) (Lvl := ℕ) (Val := Elt F) (τ := τ) ownSem c : sProp 𝕄)
    = iprop(xcellP c 0 ∗ xcellP c 1 ∗ ocellP c 0 ∗ ocellP c 1 ∗ scellP c w1sem0 ∗ scellP c w1sem1 ∗ scellP c w1sem2 ∗ scellP c w1sem3
      ∗ scellP c w2sem0 ∗ scellP c w2sem1 ∗ scellP c w2sem2 ∗ scellP c w2sem3) :=
  Pipeline.ownSems0_eq_of_list c ownSem [0, 1, 2, 3, 4, 5, 6, 7, 8, 9, 10, 11] (by decide) (by decide)

/-! ## The buffers routed through the body -/

abbrev RR : Finset (Ref sig .tc) := {main_arg0, main_v0, main_v1, main_v2}
theorem routed_eq (W : (b : Ref sig .tc) → Buf (Elt F) ((c : Thread nD τ).loc b)) :
    (Pipeline.routed RR c W : sProp 𝕄)
      = iprop((((c : Thread nD τ).loc main_arg0) ↦{fullShare} W main_arg0) ∗ (((c : Thread nD τ).loc main_v0) ↦{fullShare} W main_v0)
        ∗ (((c : Thread nD τ).loc main_v1) ↦{fullShare} W main_v1) ∗ (((c : Thread nD τ).loc main_v2) ↦{fullShare} W main_v2)) :=
  bigSep_eq_bigSepL_of_eq [main_arg0, main_v0, main_v1, main_v2] (by decide) (by decide) _

end Cert.Proof.Mlp

end
-- ==== Proof.MlpRun.lean ====
/- The MLP kernel's launch: the run of its program, and the frame. -/
module

public import proofs.«01_k».proof.Proof.MlpParts

@[expose] public section

set_option maxRecDepth 16384

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

open Idealize.ShloMosaic.Pipeline (Dat Cfg Window BodyObligation cellOf)

variable (m : (ℓ : Loc nD τ sig) → Buf (Elt F) ℓ) (ρ : Dev nD → PrngReg)

abbrev st0 (t : Fin cfg0.N) : Memref sig .tc .vmem S6x32x1024 .f32 := win0_0.stage (cfg0.slots t 0)
abbrev st1 (t : Fin cfg0.N) : Memref sig .tc .vmem S1x1024 .f32 := win0_1.stage (cfg0.slots t 1)
abbrev st2 (t : Fin cfg0.N) : Memref sig .tc .vmem S1x1024 .f32 := win0_2.stage (cfg0.slots t 2)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0

/-- Block `b` of the result, of the buffers the region finds. -/
def tileV (c : Dev nD) (t : Fin cfg0.N) : Fin 64 → Vec F S1x1024x1024 .f32 :=
  tileC c (V m c main_arg0) (st0 t) (st1 t) (st2 t) ((st0 t).view.rep (iblk m c 0 t)) ((st1 t).view.rep (iblk m c 1 t)) ((st2 t).view.rep (iblk m c 2 t))
    (V m c main_v0) (V m c main_v1)

/-- The buffers when the region ends: the result's is written. -/
def Yend (c : Dev nD) : (b : Ref sig .tc) → Buf (Elt F) ((c : Thread nD τ).loc b) :=
  Function.update (V m c) main_v2 (ofBlocks c (tileV m c t0_0))

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ i := Pipeline.Ends spec0 ownSem RR c (if i.val = 0 then V m c else Yend m c)
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]

theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans (by unfold Dat.fetched Dat.blockOf iblk; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans (by unfold Dat.fetched Dat.blockOf iblk; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans (by unfold Dat.fetched Dat.blockOf iblk; rfl)
theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t)) = bodyG (st0 t) (hst0 t) (st1 t) (hst1 t) (st2 t) (hst2 t) :=
  (congrFun defs_tc _).trans rfl

theorem Φ_first (c : Dev nD) (t : Fin cfg0.N) : (dats m 0 c).Φ t.castSucc = Pipeline.Ends spec0 ownSem RR c (V m c) := by
  have h : (t.castSucc).val = 0 := by rw [fin_N0 t]; rfl
  show Pipeline.Ends spec0 ownSem RR c (if (t.castSucc).val = 0 then V m c else Yend m c) = _
  rw [if_pos h]
theorem Φ_last (c : Dev nD) (t : Fin cfg0.N) : (dats m 0 c).Φ t.succ = Pipeline.Ends spec0 ownSem RR c (Yend m c) := by
  have h : ¬(t.succ).val = 0 := by rw [Fin.val_succ]; omega
  show Pipeline.Ends spec0 ownSem RR c (if (t.succ).val = 0 then V m c else Yend m c) = _
  rw [if_neg h]

theorem Yend_v2 (c : Dev nD) : Yend m c main_v2 = ofBlocks c (tileV m c t0_0) := Function.update_self ..
theorem Yend_of (c : Dev nD) (b : Ref sig .tc) (h : b ≠ main_v2) : Yend m c b = V m c b := Function.update_of_ne h ..

theorem o_landed_at_end (c : Dev nD) (t : Fin cfg0.N) :
    bigSep Finset.univ (landedP c (tileC c (V m c main_arg0) (st0 t) (st1 t) (st2 t) ((st0 t).view.rep (iblk m c 0 t)) ((st1 t).view.rep (iblk m c 1 t))
      ((st2 t).view.rep (iblk m c 2 t)) (V m c main_v0) (V m c main_v1)))
      ⊢ (((c : Thread nD τ).loc main_v2) ↦{fullShare} ofBlocks c (tileV m c t) : sProp 𝕄) := o_landed c (tileV m c t)

set_option maxHeartbeats 2000000 in
set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, before_w2, after_w0, after_w1, after_w2]
  rw [Φ_first, Φ_last]
  unfold Dat.owesAt Pipeline.owesWithin
  rw [show (dats m 0 c).owed t0_0.castSucc = 0 from rfl, show (dats m 0 c).owed t0_0.succ = 0 from rfl]
  unfold owns Pipeline.Ends
  rw [routed_eq, routed_eq, ownSems0_eq, scopedRest0_eq, Yend_v2, Yend_of m c main_arg0 (by decide), Yend_of m c main_v0 (by decide), Yend_of m c main_v1 (by decide)]
  iintro ⟨⟨⟨Hx, H4, H5, Ho⟩, ⟨Hxc0, Hxc1, Hoc0, Hoc1, Hc10, Hc11, Hc12, Hc13, Hc20, Hc21, Hc22, Hc23⟩, ⟨Hxb, Hob, ⟨%W1, HW1⟩, ⟨%W2, HW2⟩, Hs1, Hs2, ⟨%fa, HA⟩⟩, Hp⟩,
    ⟨%W, -, HW⟩, ⟨%d0, %g0, %hg0, Hg0⟩, ⟨%d1, %g1, %hg1, Hg1⟩, ⟨%d2, %g2, %hg2, Hg2⟩⟩
  ihave Hg0' := (pointsTo_rep_entails (c : Thread nD τ) (st0 t0_0) g0 fullShare) $$ Hg0
  ihave Hg1' := (pointsTo_rep_entails (c : Thread nD τ) (st1 t0_0) g1 fullShare) $$ Hg1
  ihave Hg2' := (pointsTo_rep_entails (c : Thread nD τ) (st2 t0_0) g2 fullShare) $$ Hg2
  rw [hg0, hg1, hg2]
  ihave Hx' := (Entails.of_eq (x_eq c (V m c main_arg0))) $$ Hx
  icases Hx' with ⟨Hx0, Hxs⟩
  ihave Hfr := (o_fresh c _) $$ Ho
  ihave Hxb' := (xbuf_split c) $$ Hxb
  icases Hxb' with ⟨⟨%fx0, Hxs0⟩, Hxs1⟩
  ihave Hob' := (obuf_split c) $$ Hob
  icases Hob' with ⟨Hos0, Hos1⟩
  ihave Hs1' := (w1buf_split c) $$ Hs1
  icases Hs1' with ⟨⟨%f10, Hs10⟩, ⟨%f11, Hs11⟩, ⟨%f12, Hs12⟩, ⟨%f13, Hs13⟩⟩
  ihave Hs2' := (w2buf_split c) $$ Hs2
  icases Hs2' with ⟨⟨%f20, Hs20⟩, ⟨%f21, Hs21⟩, ⟨%f22, Hs22⟩, ⟨%f23, Hs23⟩⟩
  sl_rw [prog_eq t0_0]
  iapply (wp_wand_r Idealize.ShloMosaic.frame (wpE (defs₀ (F := F)) 𝒱₀ (c : Thread nD τ) none) Set.univ)
  isplitr [Hp]
  · iapply (bodyRun c (V m c main_arg0) (st0 t0_0) (hst0 t0_0) (st1 t0_0) (hst1 t0_0) (st2 t0_0) (hst2 t0_0) ((st0 t0_0).view.rep (iblk m c 0 t0_0)) ((st1 t0_0).view.rep (iblk m c 1 t0_0)) ((st2 t0_0).view.rep (iblk m c 2 t0_0))
      (V m c main_v0) (V m c main_v1) fx0 W f10 f11 f12 f13 f20 f21 f22 f23 W1 W2)
    isplitl [Hg0']; · iexact Hg0'
    isplitl [Hg1']; · iexact Hg1'
    isplitl [Hg2']; · iexact Hg2'
    isplitl [HW1]; · iapply (Entails.of_eq (whole_eq c _ _).symm); iexact HW1
    isplitl [HW2]; · iapply (Entails.of_eq (whole_eq c _ _).symm); iexact HW2
    isplitl [HA]; · iexists fa; iapply (Entails.of_eq (whole_eq c _ _).symm); iexact HA
    isplitl [HW]; · iexact HW
    isplitl [H4]; · iapply (Entails.of_eq (whole_eq c _ _).symm); iexact H4
    isplitl [H5]; · iapply (Entails.of_eq (whole_eq c _ _).symm); iexact H5
    isplitl [Hs10]; · iexact Hs10
    isplitl [Hs11]; · iexact Hs11
    isplitl [Hs12]; · iexact Hs12
    isplitl [Hs13]; · iexact Hs13
    isplitl [Hs20]; · iexact Hs20
    isplitl [Hs21]; · iexact Hs21
    isplitl [Hs22]; · iexact Hs22
    isplitl [Hs23]; · iexact Hs23
    isplitl [Hc10]; · iexact Hc10
    isplitl [Hc11]; · iexact Hc11
    isplitl [Hc12]; · iexact Hc12
    isplitl [Hc13]; · iexact Hc13
    isplitl [Hc20]; · iexact Hc20
    isplitl [Hc21]; · iexact Hc21
    isplitl [Hc22]; · iexact Hc22
    isplitl [Hc23]; · iexact Hc23
    isplitl [Hx0]; · iexact Hx0
    isplitl [Hxs]; · iexact Hxs
    isplitl [Hxs0]; · iexact Hxs0
    isplitl [Hxc0]; · iexact Hxc0
    isplitl [Hxs1 Hxc1]
    · unfold xfreeP; isplitl [Hxs1]; · iexact Hxs1
      iexact Hxc1
    isplitl [Hos0 Hoc0]
    · unfold ofreeP; isplitl [Hos0]; · iexact Hos0
      iexact Hoc0
    isplitl [Hos1 Hoc1]
    · unfold ofreeP; isplitl [Hos1]; · iexact Hos1
      iexact Hoc1
    iexact Hfr
  · unfold POST xfreeP ofreeP
    iintro %_ ⟨Hg0, Hg1, Hg2, ⟨%W', HW⟩, ⟨%W1', HW1⟩, ⟨%W2', HW2⟩, ⟨%fa', HA⟩, H4, H5, Hs10, Hs11, Hs12, Hs13, Hs20, Hs21, Hs22, Hs23, Hc10, Hc11, Hc12, Hc13, Hc20, Hc21, Hc22, Hc23,
      ⟨Hxs0, Hxc0⟩, ⟨Hxs1, Hxc1⟩, Hxs, ⟨Hos0, Hoc0⟩, ⟨Hos1, Hoc1⟩, Ho⟩
    isplitr [HW Hg0 Hg1 Hg2]
    · isplitl [Hxs H4 H5 Ho]
      · isplitl [Hxs]; · iapply (Entails.of_eq (x_eq_all c (V m c main_arg0)).symm); iexact Hxs
        isplitl [H4]; · iapply (Entails.of_eq (whole_eq c _ _)); iexact H4
        isplitl [H5]; · iapply (Entails.of_eq (whole_eq c _ _)); iexact H5
        iapply (o_landed_at_end m c t0_0)
        iexact Ho
      isplitl [Hxc0 Hxc1 Hoc0 Hoc1 Hc10 Hc11 Hc12 Hc13 Hc20 Hc21 Hc22 Hc23]
      · isplitl [Hxc0]; · iexact Hxc0
        isplitl [Hxc1]; · iexact Hxc1
        isplitl [Hoc0]; · iexact Hoc0
        isplitl [Hoc1]; · iexact Hoc1
        isplitl [Hc10]; · iexact Hc10
        isplitl [Hc11]; · iexact Hc11
        isplitl [Hc12]; · iexact Hc12
        isplitl [Hc13]; · iexact Hc13
        isplitl [Hc20]; · iexact Hc20
        isplitl [Hc21]; · iexact Hc21
        isplitl [Hc22]; · iexact Hc22
        iexact Hc23
      isplitr [Hp]
      · isplitl [Hxs0 Hxs1]
        · iapply (xbuf_join c)
          isplitl [Hxs0]; · iexact Hxs0
          iexact Hxs1
        isplitl [Hos0 Hos1]
        · iapply (obuf_join c)
          isplitl [Hos0]; · iexact Hos0
          iexact Hos1
        isplitl [HW1]; · iexists W1'; iapply (Entails.of_eq (whole_eq c _ _)); iexact HW1
        isplitl [HW2]; · iexists W2'; iapply (Entails.of_eq (whole_eq c _ _)); iexact HW2
        isplitl [Hs10 Hs11 Hs12 Hs13]
        · iapply (w1buf_join c)
          isplitl [Hs10]; · iexact Hs10
          isplitl [Hs11]; · iexact Hs11
          isplitl [Hs12]; · iexact Hs12
          iexact Hs13
        isplitl [Hs20 Hs21 Hs22 Hs23]
        · iapply (w2buf_join c)
          isplitl [Hs20]; · iexact Hs20
          isplitl [Hs21]; · iexact Hs21
          isplitl [Hs22]; · iexact Hs22
          iexact Hs23
        iexists fa'; iapply (Entails.of_eq (whole_eq c _ _)); iexact HA
      iexact Hp
    isplitl [HW]
    · iexists W'; isplitr; · ipureintro; exact fun _ _ => Or.inl trivial
      iexact HW
    isplitl [Hg0]
    · iexists ((st0 t0_0).view.rep (iblk m c 0 t0_0)); isplitr; · ipureintro; exact View.read_rep _ _
      iexact Hg0
    isplitl [Hg1]
    · iexists ((st1 t0_0).view.rep (iblk m c 1 t0_0)); isplitr; · ipureintro; exact View.read_rep _ _
      iexact Hg1
    iexists ((st2 t0_0).view.rep (iblk m c 2 t0_0)); isplitr; · ipureintro; exact View.read_rep _ _
    iexact Hg2

/-! ## The run -/

/-- What the run leaves: the arguments as they were, the result's 64 blocks each at its tile, every semaphore at zero. -/
def QQ (r : PUnit × MemSt nD τ sig (Elt F)) : Prop :=
  (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v2) = ofBlocks c (tileV m c t0_0)) ∧ r.2.sem = fun _ => 0

set_option backward.isDefEq.respectTransparency.types false in
theorem run_main : θ_run defs (onTc (τ := τ) (main (F := F))) ⟨m, fun _ => 0, ρ⟩ (QQ m) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (R := RR) (hR := by decide) (Y := Yend m)
    (hin := fun c => Entails.of_eq (Φ_first m c t0_0).symm)
    (hout := fun c => Entails.of_eq (Φ_last m c t0_0))
    (Q' := QQ m)
    (hQ' := fun r h => ⟨fun c => ⟨⟨
      ((h.1 c).2.1 main_arg0 (by decide)).trans ((Yend_of m c main_arg0 (by decide)).trans (V_main_arg0 m c)),
      ((h.1 c).1 0).trans (((dats m 0 c).arrAt_in 0 rfl _).trans (V_main_arg1 m c)),
      ((h.1 c).1 1).trans (((dats m 0 c).arrAt_in 1 rfl _).trans (V_main_arg2 m c)),
      ((h.1 c).1 2).trans (((dats m 0 c).arrAt_in 2 rfl _).trans (V_main_arg3 m c)),
      ((h.1 c).2.2 main_arg4 (by decide)).trans (V_main_arg4 m c),
      ((h.1 c).2.2 main_arg5 (by decide)).trans (V_main_arg5 m c)⟩,
      ((h.1 c).2.1 main_v2 (by decide)).trans (Yend_v2 m c)⟩, h.2⟩)

end Cert.Proof.Mlp

end
-- ==== Proof.MlpFrame.lean ====
/- The frames of the MLP kernel, of its idealization and of the reference. -/
module

public import proofs.«01_k».proof.Defs
public import proofs.«01_k».proof.Proof.Gen.Mlp
public import proofs.«01_k».proof.Proof.Gen.MlpRefIdeal.Run
public import proofs.«01_k».proof.Proof.MlpRun

@[expose] public section

noncomputable section

namespace Cert.Proof.Mlp

open Idealize.ShloMosaic Idealize.ShloMosaic.TcCoe Idealize.SL.Sem

/-- The two programs have the same table of bodies: the one body is the same text twice. -/
theorem defs₀_eq : Cert.Mlp.defs₀ (F := Bits) = Cert.MlpIdeal.defs₀ (F := Bits) := by
  refine congrArg Defs.onTc ?_
  funext l x
  match l, x with
  | 0, (t, s) => rfl

/-- …and so the same definitions. -/
theorem defs_eq : Cert.Mlp.defs (F := Bits) = Cert.MlpIdeal.defs (F := Bits) :=
  congrArg (Pipeline.defs (Cert.MlpIdeal.pcfgs (F := Bits))) defs₀_eq

/-- The kernel as printed: the run at the machine's floats. -/
theorem frame_kernel : Cert.quiescent_Mlp := by
  intro m ρ _
  have h := (θ_run (Cert.MlpIdeal.defs (F := Bits)) (onTc (τ := Cert.MlpIdeal.τ) (Cert.MlpIdeal.main (F := Bits)))
    ⟨m, fun _ => 0, ρ⟩).mono (fun r (h : QQ (F := Bits) m r) => And.intro (fun c => (h.1 c).1) h.2) (run_main (F := Bits) m ρ)
  rw [← defs_eq] at h
  exact h

/-- Its idealization: the run at the extended reals. -/
theorem frame_ideal : Cert.quiescent_MlpIdeal := fun m ρ _ =>
  (θ_run Cert.MlpIdeal.defs _ _).mono (fun _ h => ⟨fun c => (h.1 c).1, h.2⟩) (run_main (F := Ideal) m ρ)

/-- The reference. -/
theorem frame_reference : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

end Cert.Proof.Mlp

end
-- ==== Proof.MlpTileValue.lean ====
/- The tile of the result one trip computes, over the extended reals, element by element. -/
module

public import proofs.«01_k».proof.Proof.MlpLoop
public import Idealize.ShloMosaic.Lib.Pipeline.ReadBack
public import Idealize.ShloMosaic.Lib.Pipeline.Value
public import Idealize.ShloMosaic.Lib.Pipeline.ValueKit.Tiles
public import Idealize.ShloMosaic.Lib.Pointwise

@[expose] public section

set_option maxRecDepth 16384

noncomputable section

namespace Cert.Proof.Mlp

open Cert.MlpIdeal Cert.MlpIdeal.Gen
open Idealize.ShloMosaic

/-- One over the root of a row's mean square plus a small number: what the root-mean-square norm multiplies a row with. -/
def rs (X : Fin 1024 → EReal) : EReal :=
  Ideal.rsqrt (Ideal.div (∑ k, X k * X k) (Ideal.ofBits .f32 0x44800000#32) + Ideal.ofBits .f32 0x358637BD#32)

/-- The sub-layer's hidden row: the normalised row, scaled and shifted. -/
def hid (X gp sc sh : Fin 1024 → EReal) (k : Fin 1024) : EReal := X k * rs X * (gp k * (1 + sc k)) + sh k

/-- The activations of a hidden row: its product with the first matrix, the positive part, squared. -/
def act (H : Fin 1024 → EReal) (w1 : Fin 1024 → Fin 4096 → EReal) (h : Fin 4096) : EReal :=
  max (∑ k, H k * w1 k h) 0 * max (∑ k, H k * w1 k h) 0

/-- The activations' product with the second matrix. -/
def outp (A : Fin 4096 → EReal) (w2 : Fin 4096 → Fin 1024 → EReal) (j : Fin 1024) : EReal := ∑ h, A h * w2 h j

/-- The row the sub-layer gives. -/
def rowOut (X gp sc sh gt gq : Fin 1024 → EReal) (w1 : Fin 1024 → Fin 4096 → EReal) (w2 : Fin 4096 → Fin 1024 → EReal) (j : Fin 1024) : EReal :=
  X j + outp (act (hid X gp sc sh) w1) w2 j * rs (outp (act (hid X gp sc sh) w1) w2) * (gt j * gq j)

theorem off10_eq : ∀ k : Fin k0_t1_loop.trips, k0_off10 k = ![3, k.val / 2, 0] := by decide +kernel
theorem off11_eq : ∀ k : Fin k0_t1_loop.trips, k0_off11 k = ![4, k.val / 2, 0] := by decide +kernel
theorem off12_eq : ∀ k : Fin k0_t1_loop.trips, k0_off12 k = ![5, k.val / 2, 0] := by decide +kernel

theorem half_lt (k : Fin k0_t1_loop.trips) : k.val / 2 < 32 := by have := trip_lt k; omega

/-- A row of the modulation array loaded at an offset known to be `p`, `b`, `0`. -/
theorem ld_row (M : Vec Ideal S6x32x1024 .f32) {off : Fin 3 → ℕ} (p : Fin 6) (b : Fin 32) (e : off = ![p.val, b.val, 0])
    (inb : ∀ a, off a + S1x1x1024.size a ≤ S6x32x1024.size a) (l : Fin 1024) :
    View.ld M (Rect.unit off S1x1x1024.size inb) (ix3 0 0 l) = M (ix3 p b l) := by
  subst e
  refine congrArg M (funext fun a => ?_)
  fin_cases a <;> refine Fin.ext ?_
  · show p.val + 1 * 0 = p.val; omega
  · show b.val + 1 * 0 = b.val; omega
  · show 0 + 1 * l.val = l.val; omega

theorem row_cast (v : Vec Ideal S1x1x1024 .f32) (l : Fin 1024) :
    shapeCast S1x1024 v shapeCasts_S1x1x1024_S1x1024 (ix2 0 l) = v (ix3 0 0 l) := by pointwise

theorem shiftRow_apply (M : Vec Ideal S6x32x1024 .f32) (k : Fin k0_t1_loop.trips) (l : Fin 1024) :
    shiftRow M k (ix2 0 l) = M (ix3 3 ⟨k.val / 2, half_lt k⟩ l) := by
  unfold shiftRow k0_pay1
  exact (row_cast _ l).trans (ld_row M 3 ⟨k.val / 2, half_lt k⟩ (off10_eq k) (k0_off10_inb k) l)

theorem scaleRow_apply (M : Vec Ideal S6x32x1024 .f32) (k : Fin k0_t1_loop.trips) (l : Fin 1024) :
    scaleRow M k (ix2 0 l) = M (ix3 4 ⟨k.val / 2, half_lt k⟩ l) := by
  unfold scaleRow k0_pay2
  exact (row_cast _ l).trans (ld_row M 4 ⟨k.val / 2, half_lt k⟩ (off11_eq k) (k0_off11_inb k) l)

theorem gateRow_apply (M : Vec Ideal S6x32x1024 .f32) (k : Fin k0_t1_loop.trips) (l : Fin 1024) :
    gateRow M k (ix2 0 l) = M (ix3 5 ⟨k.val / 2, half_lt k⟩ l) := by
  unfold gateRow k0_pay3
  exact (row_cast _ l).trans (ld_row M 5 ⟨k.val / 2, half_lt k⟩ (off12_eq k) (k0_off12_inb k) l)

/-- The hidden tile. -/
theorem pay4_apply (s1 s2 : FVec Ideal S1x1024 .f32) (xb : Vec Ideal S1x1024x1024 .f32) (gp : Vec Ideal S1x1024 .f32) (r k : Fin 1024) :
    k0_pay4 s1 s2 xb gp (ix2 r k)
      = hid (fun l => xb (ix3 0 r l)) (fun l => gp (ix2 0 l)) (fun l => s2 (ix2 0 l)) (fun l => s1 (ix2 0 l)) k := by
  unfold k0_pay4 hid rs
  pointwise

/-- One block of columns of the activations. -/
theorem pay8_apply (h : FVec Ideal S1024x1024 .bf16) (w : Vec Ideal S1024x512 .bf16) (r : Fin 1024) (j : Fin 512) :
    k0_pay8 h w (ix2 r j)
      = max (∑ k : Fin 1024, h (ix2 r k) * w (ix2 k j)) 0 * max (∑ k : Fin 1024, h (ix2 r k) * w (ix2 k j)) 0 := by
  unfold k0_pay8
  pointwise

theorem pay16_apply (a : Vec Ideal S1024x4096 .bf16) (w : Vec Ideal S4096x1024 .bf16) (r j : Fin 1024) :
    k0_pay16 a w (ix2 r j) = ∑ k : Fin 4096, a (ix2 r k) * w (ix2 k j) := by
  unfold k0_pay16
  pointwise

theorem pay19_apply (s3 : FVec Ideal S1x1024 .f32) (a : Vec Ideal S1024x4096 .bf16) (w : Vec Ideal S4096x1024 .bf16) (xb : Vec Ideal S1x1024x1024 .f32)
    (gq : Vec Ideal S1x1024 .f32) (r j : Fin 1024) :
    k0_pay19 s3 (k0_pay16 a w) (k0_pay17 xb) (k0_pay18 a w) gq (ix3 0 r j)
      = xb (ix3 0 r j) + k0_pay16 a w (ix2 r j) * rs (fun l => k0_pay16 a w (ix2 r l)) * (s3 (ix2 0 j) * gq (ix2 0 j)) := by
  unfold k0_pay19 k0_pay17 k0_pay18
  generalize k0_pay16 a w = f
  unfold rs
  pointwise

/-- The activations, read at a row and a column. -/
theorem actL_apply (h : FVec Ideal S1024x1024 .bf16) (w1 : Vec Ideal S1024x4096 .bf16) (r : Fin 1024) (j : Fin 4096) :
    View.canon (actL h w1) (ix2 r j) = act (fun k => h (ix2 r k)) (fun k j => w1 (ix2 k j)) j := by
  have hcol : ∀ (o : ℕ) (inb) (x : S1024x512.Idx), (actCol h w1 o inb).2 x
      = act (fun k => h (ix2 (((Rect.unit (s := S1024x4096) ![0, o] S1024x512.size inb).emb x) 0) k)) (fun k j => w1 (ix2 k j))
        (((Rect.unit (s := S1024x4096) ![0, o] S1024x512.size inb).emb x) 1) := by
    intro o inb x
    obtain ⟨x0, x1, rfl⟩ : ∃ (x0 : Fin 1024) (x1 : Fin 512), x = ix2 x0 x1 := ⟨x 0, x 1, by funext a; fin_cases a <;> rfl⟩
    refine (pay8_apply h (View.ld w1 (Rect.unit (s := S1024x4096) ![0, o] S1024x512.size inb)) x0 x1).trans ?_
    have e0 : ((Rect.unit (s := S1024x4096) ![0, o] S1024x512.size inb).emb (ix2 x0 x1)) 0 = x0 := by
      refine Fin.ext ?_; show 0 + 1 * x0.val = _; omega
    have ew : ∀ k : Fin 1024, View.ld w1 (Rect.unit (s := S1024x4096) ![0, o] S1024x512.size inb) (ix2 k x1)
        = w1 (ix2 k (((Rect.unit (s := S1024x4096) ![0, o] S1024x512.size inb).emb (ix2 x0 x1)) 1)) := by
      intro k
      refine congrArg w1 (funext fun a => ?_)
      fin_cases a <;> refine Fin.ext ?_
      · show 0 + 1 * k.val = k.val; omega
      · rfl
    unfold act
    rw [e0]
    simp only [ew]
  let G : S1024x4096.Idx → Elt Ideal .bf16 := fun y => act (fun k => h (ix2 (y 0) k)) (fun k j => w1 (ix2 k j)) (y 1)
  have hP : View.PiecesOf (Val := Elt Ideal) G (actL h w1) :=
    ⟨hcol _ _, hcol _ _, hcol _ _, hcol _ _, hcol _ _, hcol _ _, hcol _ _, hcol _ _, trivial⟩
  exact View.canon_apply_of_pieces G (actL h w1) (View.PiecesOf.mem hP) (ix2 r j) (View.cover_of_tiled_head _ _ _ rfl _)

/-- The tile, element by element. -/
theorem tileOf_apply (M : Vec Ideal S6x32x1024 .f32) (gp gq : Vec Ideal S1x1024 .f32) (w1 : Vec Ideal S1024x4096 .bf16) (w2 : Vec Ideal S4096x1024 .bf16)
    (k : Fin k0_t1_loop.trips) (xb : Vec Ideal S1x1024x1024 .f32) (r j : Fin 1024) :
    tileOf M gp gq w1 w2 k xb (ix3 0 r j)
      = rowOut (fun l => xb (ix3 0 r l)) (fun l => gp (ix2 0 l)) (fun l => M (ix3 4 ⟨k.val / 2, half_lt k⟩ l)) (fun l => M (ix3 3 ⟨k.val / 2, half_lt k⟩ l))
        (fun l => M (ix3 5 ⟨k.val / 2, half_lt k⟩ l)) (fun l => gq (ix2 0 l)) (fun a b => w1 (ix2 a b)) (fun a b => w2 (ix2 a b)) j := by
  unfold tileOf
  rw [pay19_apply]
  simp only [pay16_apply, actL_apply, pay4_apply, shiftRow_apply, scaleRow_apply, gateRow_apply]
  rfl

end Cert.Proof.Mlp

end
-- ==== Proof.MlpRefValue.lean ====
/- What the reference of the channel-mixing sub-layer computes, over the extended reals, element by element. -/
module

public import proofs.«01_k».proof.Proof.Gen.MlpRefIdeal.Run
public import Idealize.ShloMosaic.Lib.Pointwise

@[expose] public section

set_option maxRecDepth 16384

noncomputable section

namespace Cert.Proof.MlpRef

open Cert.MlpRefIdeal Cert.MlpRefIdeal.Gen
open Idealize.ShloMosaic Idealize.ShloMosaic.TcCoe

/-- A row's norm factor. -/
def rs (X : Fin 1024 → EReal) : EReal :=
  Ideal.rsqrt (Ideal.div (∑ k, X k * X k) (Ideal.ofBits .f32 0x44800000#32) + Ideal.ofBits .f32 0x358637BD#32)

/-- The whole array's rows, each with its norm factor. -/
def normed (x : FVec Ideal S32x2048x1024 .f32) : FVec Ideal S32x2048x1024 .f32 :=
  mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))

theorem normed_apply (x : FVec Ideal S32x2048x1024 .f32) (b : Fin 32) (s : Fin 2048) (j : Fin 1024) :
    normed x (ix3 b s j) = x (ix3 b s j) * rs (fun l => x (ix3 b s l)) := by
  unfold normed rs
  pointwise

def gain (g : FVec Ideal S1x1024 .f32) : FVec Ideal S32x2048x1024 .f32 :=
  broadcastInDim S32x2048x1024 ![0, 1, 2] bcast_S1x1x1024_S32x2048x1024_0_1_2 (broadcastInDim S1x1x1024 ![2] bcast_S1024_S1x1x1024_2 (shapeCast _ g shapeCasts_S1x1024_S1024))

theorem gain_apply (g : FVec Ideal S1x1024 .f32) (b : Fin 32) (s : Fin 2048) (j : Fin 1024) : gain g (ix3 b s j) = g (ix2 0 j) := by
  unfold gain
  pointwise

def hidden (x : FVec Ideal S32x2048x1024 .f32) (M : FVec Ideal S6x32x1024 .f32) (gp : FVec Ideal S1x1024 .f32) : FVec Ideal S32x2048x1024 .f32 :=
  addf (mulf (mulf (normed x) (gain gp)) (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 (shapeCast _ (extractStridedSlice S1x32x1024 ![4, 0, 0] M slices_S6x32x1024_S1x32x1024_4_0_0) shapeCasts_S1x32x1024_S32x1024))))) (broadcastInDim S32x2048x1024 ![0, 1, 2] bcast_S32x1x1024_S32x2048x1024_0_1_2 (broadcastInDim S32x1x1024 ![0, 2] bcast_S32x1024_S32x1x1024_0_2 (shapeCast _ (extractStridedSlice S1x32x1024 ![3, 0, 0] M slices_S6x32x1024_S1x32x1024_3_0_0) shapeCasts_S1x32x1024_S32x1024)))

theorem hidden_apply (x : FVec Ideal S32x2048x1024 .f32) (M : FVec Ideal S6x32x1024 .f32) (gp : FVec Ideal S1x1024 .f32) (b : Fin 32) (s : Fin 2048) (j : Fin 1024) :
    hidden x M gp (ix3 b s j)
      = x (ix3 b s j) * rs (fun l => x (ix3 b s l)) * gp (ix2 0 j) * (1 + M (ix3 4 b j)) + M (ix3 3 b j) := by
  rw [← normed_apply, ← gain_apply gp b s j]
  unfold hidden
  generalize normed x = n
  generalize gain gp = g
  pointwise

def acts (h : FVec Ideal S32x2048x1024 .f32) (w1 : FVec Ideal S1x1024x4096 .f32) : FVec Ideal S32x2048x4096 .f32 :=
  mulf (maximumf (Host.dotGeneral dot_S32x2048x1024_S1024x4096_S32x2048x4096_2_0_01_1_n_n none h (shapeCast _ w1 shapeCasts_S1x1024x4096_S1024x4096)) (broadcastInDim S32x2048x4096 ![] bcast_S_S32x2048x4096 (constant S_ .f32 0x00000000#32)))
    (maximumf (Host.dotGeneral dot_S32x2048x1024_S1024x4096_S32x2048x4096_2_0_01_1_n_n none h (shapeCast _ w1 shapeCasts_S1x1024x4096_S1024x4096)) (broadcastInDim S32x2048x4096 ![] bcast_S_S32x2048x4096 (constant S_ .f32 0x00000000#32)))

theorem acts_apply (h : FVec Ideal S32x2048x1024 .f32) (w1 : FVec Ideal S1x1024x4096 .f32) (b : Fin 32) (s : Fin 2048) (j : Fin 4096) :
    acts h w1 (ix3 b s j)
      = max (∑ k : Fin 1024, h (ix3 b s k) * w1 (ix3 0 k j)) 0 * max (∑ k : Fin 1024, h (ix3 b s k) * w1 (ix3 0 k j)) 0 := by
  unfold acts
  pointwise

def second (a : FVec Ideal S32x2048x4096 .f32) (w2 : FVec Ideal S1x4096x1024 .f32) : FVec Ideal S32x2048x1024 .f32 :=
  Host.dotGeneral dot_S32x2048x4096_S4096x1024_S32x2048x1024_2_0_01_1_n_n none a (shapeCast _ w2 shapeCasts_S1x4096x1024_S4096x1024)

theorem second_apply (a : FVec Ideal S32x2048x4096 .f32) (w2 : FVec Ideal S1x4096x1024 .f32) (b : Fin 32) (s : Fin 2048) (j : Fin 1024) :
    second a w2 (ix3 b s j) = ∑ k : Fin 4096, a (ix3 b s k) * w2 (ix3 0 k j) := by
  unfold second
  pointwise

def closing (x f : FVec Ideal S32x2048x1024 .f32) (M : FVec Ideal S6x32x1024 .f32) (gq : FVec Ideal S1x1024 .f32) : FVec Ideal S32x2048x1024 .f32 :=
  addf x (mulf (broadcastInDim S32x2048x1024 ![0, 1, 2] bcast_S32x1x1024_S32x2048x1024_0_1_2 (broadcastInDim S32x1x1024 ![0, 2] bcast_S32x1024_S32x1x1024_0_2 (shapeCast _ (extractStridedSlice S1x32x1024 ![5, 0, 0] M slices_S6x32x1024_S1x32x1024_5_0_0) shapeCasts_S1x32x1024_S32x1024))) (mulf (normed f) (gain gq)))

theorem closing_apply (x f : FVec Ideal S32x2048x1024 .f32) (M : FVec Ideal S6x32x1024 .f32) (gq : FVec Ideal S1x1024 .f32) (b : Fin 32) (s : Fin 2048) (j : Fin 1024) :
    closing x f M gq (ix3 b s j)
      = x (ix3 b s j) + M (ix3 5 b j) * (f (ix3 b s j) * rs (fun l => f (ix3 b s l)) * gq (ix2 0 j)) := by
  rw [← normed_apply, ← gain_apply gq b s j]
  unfold closing
  generalize normed f = n
  generalize gain gq = g
  pointwise

/-- The reference's result in these parts. -/
theorem res_eq (m : (ℓ : Loc nD τ sig) → Buf (Elt Ideal) ℓ) (c : Dev nD) :
    Value.res_main_v51 m c = closing (m ((c.tc : Thread nD τ).loc main_arg0))
      (second (acts (hidden (m ((c.tc : Thread nD τ).loc main_arg0)) (m ((c.tc : Thread nD τ).loc main_arg1)) (m ((c.tc : Thread nD τ).loc main_arg2)))
        (m ((c.tc : Thread nD τ).loc main_arg4))) (m ((c.tc : Thread nD τ).loc main_arg5)))
      (m ((c.tc : Thread nD τ).loc main_arg1)) (m ((c.tc : Thread nD τ).loc main_arg3)) := rfl

end Cert.Proof.MlpRef

end
-- ==== Proof.MlpValue.lean ====
/- The channel-mixing kernel against its reference, over the extended reals. -/
module

public import proofs.«01_k».proof.Defs
public import proofs.«01_k».proof.Proof.MlpRun
public import proofs.«01_k».proof.Proof.MlpTileValue
public import proofs.«01_k».proof.Proof.MlpRefValue

@[expose] public section

set_option maxRecDepth 16384

noncomputable section

namespace Cert.Proof.Mlp

open Cert.MlpIdeal Cert.MlpIdeal.Gen
open Idealize.ShloMosaic Idealize.ShloMosaic.TcCoe Idealize.SL.Sem

variable (m : (ℓ : Loc nD τ sig) → Buf (Elt Ideal) ℓ) (c : Dev nD)

/-! ## What the region finds: the arguments, the weights without their leading axis -/

/-- The stacked weights with their leading unit axis dropped, element by element. -/
theorem cast1 (w : FVec Ideal S1x1024x4096 .f32) (k : Fin 1024) (j : Fin 4096) :
    shapeCast S1024x4096 w shapeCasts_S1x1024x4096_S1024x4096 (ix2 k j) = w (ix3 0 k j) := by pointwise
theorem cast2 (w : FVec Ideal S1x4096x1024 .f32) (k : Fin 4096) (j : Fin 1024) :
    shapeCast S4096x1024 w shapeCasts_S1x4096x1024_S4096x1024 (ix2 k j) = w (ix3 0 k j) := by pointwise

theorem V_v0 (k : Fin 1024) (j : Fin 4096) : V m c main_v0 (ix2 k j) = m ((c : Thread nD τ).loc main_arg4) (ix3 0 k j) := by
  have h : V m c main_v0 = shapeCast S1024x4096 (m ((c : Thread nD τ).loc main_arg4)) shapeCasts_S1x1024x4096_S1024x4096 := by
    unfold V hostOps0
    after_results_simp
    rfl
  exact (congrFun h _).trans (cast1 _ k j)

theorem V_v1 (k : Fin 4096) (j : Fin 1024) : V m c main_v1 (ix2 k j) = m ((c : Thread nD τ).loc main_arg5) (ix3 0 k j) := by
  have h : V m c main_v1 = shapeCast S4096x1024 (m ((c : Thread nD τ).loc main_arg5)) shapeCasts_S1x4096x1024_S4096x1024 := by
    unfold V hostOps0
    after_results_simp
    rfl
  exact (congrFun h _).trans (cast2 _ k j)

theorem iblk0 (t : Fin cfg0.N) (y : S6x32x1024.Idx) : iblk m c 0 t y = m ((c : Thread nD τ).loc main_arg1) y := by
  refine (congrFun (V_main_arg1 m c) _).trans (congrArg (m ((c : Thread nD τ).loc main_arg1)) (funext fun a => Fin.ext ?_))
  fin_cases a
  · show 0 * 6 + 1 * (y 0).val = (y 0).val; omega
  · show 0 * 32 + 1 * (y 1).val = (y 1).val; omega
  · show 0 * 1024 + 1 * (y 2).val = (y 2).val; omega

theorem iblk1 (t : Fin cfg0.N) (y : S1x1024.Idx) : iblk m c 1 t y = m ((c : Thread nD τ).loc main_arg2) y := by
  refine (congrFun (V_main_arg2 m c) _).trans (congrArg (m ((c : Thread nD τ).loc main_arg2)) (funext fun a => Fin.ext ?_))
  fin_cases a
  · show 0 * 1 + 1 * (y 0).val = (y 0).val; omega
  · show 0 * 1024 + 1 * (y 1).val = (y 1).val; omega

theorem iblk2 (t : Fin cfg0.N) (y : S1x1024.Idx) : iblk m c 2 t y = m ((c : Thread nD τ).loc main_arg3) y := by
  refine (congrFun (V_main_arg3 m c) _).trans (congrArg (m ((c : Thread nD τ).loc main_arg3)) (funext fun a => Fin.ext ?_))
  fin_cases a
  · show 0 * 1 + 1 * (y 0).val = (y 0).val; omega
  · show 0 * 1024 + 1 * (y 1).val = (y 1).val; omega

/-- Block `b` of the argument, read at a row and a column. -/
theorem read_xblk (XA : Buf (Elt Ideal) (xM.view.loc (c : Thread nD τ))) (b : Fin 32) (s : Fin 2048) (l : Fin 1024) :
    (xblk (blkOfIdx (ix3 b s l))).view.read (Elt Ideal) XA (ix3 0 ⟨s.val % 1024, Nat.mod_lt _ (by decide)⟩ l) = XA (ix3 b s l) := by
  refine congrArg XA ((congrArg _ ?_).trans (emb_inBlk (blkOfIdx (ix3 b s l)) (ix3 b s l) ?_))
  · funext a; fin_cases a <;> rfl
  · rw [mem_X64]
    have hb := b.isLt
    have hs := s.isLt
    show b.val = (2 * b.val + s.val / 1024) / 2 ∧ s.val / 1024 = (2 * b.val + s.val / 1024) % 2
    omega

/-- One row of the kernel's result and one of the reference's: the kernel multiplies the gain into the scale before it
    multiplies the row, and the gate into the second gain. -/
theorem rowOut_eq (X gp sc sh gt gq : Fin 1024 → EReal) (w1 : Fin 1024 → Fin 4096 → EReal) (w2 : Fin 4096 → Fin 1024 → EReal) (j : Fin 1024) :
    rowOut X gp sc sh gt gq w1 w2 j
      = X j + gt j * (outp (act (fun k => X k * rs X * gp k * (1 + sc k) + sh k) w1) w2 j
          * rs (outp (act (fun k => X k * rs X * gp k * (1 + sc k) + sh k) w1) w2) * gq j) := by
  have hh : hid X gp sc sh = fun k => X k * rs X * gp k * (1 + sc k) + sh k := by
    funext k
    unfold hid
    rw [mul_assoc (X k * rs X) (gp k)]
  unfold rowOut
  rw [hh]
  congr 1
  rw [mul_left_comm, mul_assoc]

/-- The kernel's result array, element by element. -/
theorem kernel_apply (b : Fin 32) (s : Fin 2048) (j : Fin 1024) :
    ofBlocks c (tileV m c t0_0) (ix3 b s j)
      = rowOut (fun l => m ((c : Thread nD τ).loc main_arg0) (ix3 b s l)) (fun l => m ((c : Thread nD τ).loc main_arg2) (ix2 0 l))
          (fun l => m ((c : Thread nD τ).loc main_arg1) (ix3 4 b l)) (fun l => m ((c : Thread nD τ).loc main_arg1) (ix3 3 b l))
          (fun l => m ((c : Thread nD τ).loc main_arg1) (ix3 5 b l)) (fun l => m ((c : Thread nD τ).loc main_arg3) (ix2 0 l))
          (fun k h => m ((c : Thread nD τ).loc main_arg4) (ix3 0 k h)) (fun h l => m ((c : Thread nD τ).loc main_arg5) (ix3 0 h l)) j := by
  have hin : inBlk (ix3 b s j) = ix3 0 ⟨s.val % 1024, Nat.mod_lt _ (by decide)⟩ j := by funext a; fin_cases a <;> rfl
  have hb : (⟨(tripOf (blkOfIdx (ix3 b s j))).val / 2, half_lt _⟩ : Fin 32) = b := by
    refine Fin.ext ?_
    have hs := s.isLt
    show (2 * b.val + s.val / 1024) / 2 = b.val
    omega
  have hx : ∀ l, (xblk (blkOfIdx (ix3 b s j))).view.read (Elt Ideal) (V m c main_arg0) (ix3 0 ⟨s.val % 1024, Nat.mod_lt _ (by decide)⟩ l)
      = m ((c : Thread nD τ).loc main_arg0) (ix3 b s l) := fun l =>
    (read_xblk c (V m c main_arg0) b s l).trans (congrFun (V_main_arg0 m c) _)
  have hw1 : ∀ k h, low (a4M.view.read (Elt Ideal) (V m c main_v0)) (ix2 k h) = m ((c : Thread nD τ).loc main_arg4) (ix3 0 k h) := fun k h => V_v0 m c k h
  have hw2 : ∀ k h, low (a5M.view.read (Elt Ideal) (V m c main_v1)) (ix2 k h) = m ((c : Thread nD τ).loc main_arg5) (ix3 0 k h) := fun k h => V_v1 m c k h
  show tileV m c t0_0 (blkOfIdx (ix3 b s j)) (inBlk (ix3 b s j)) = _
  unfold tileV tileC
  rw [hin, tileOf_apply, View.read_rep, View.read_rep, View.read_rep]
  simp only [hb, hx, hw1, hw2, iblk0, iblk1, iblk2]

/-- The reference's result array, element by element. -/
theorem reference_apply (m' : (ℓ : Loc Cert.MlpRefIdeal.nD Cert.MlpRefIdeal.τ Cert.MlpRefIdeal.sig) → Buf (Elt Ideal) ℓ) (c : Dev Cert.MlpRefIdeal.nD)
    (x : FVec Ideal S32x2048x1024 .f32) (M : FVec Ideal S6x32x1024 .f32) (gp gq : FVec Ideal S1x1024 .f32) (w1 : FVec Ideal S1x1024x4096 .f32)
    (w2 : FVec Ideal S1x4096x1024 .f32) (b : Fin 32) (s : Fin 2048) (j : Fin 1024) :
    Cert.Proof.MlpRef.closing x (Cert.Proof.MlpRef.second (Cert.Proof.MlpRef.acts (Cert.Proof.MlpRef.hidden x M gp) w1) w2) M gq (ix3 b s j)
      = rowOut (fun l => x (ix3 b s l)) (fun l => gp (ix2 0 l)) (fun l => M (ix3 4 b l)) (fun l => M (ix3 3 b l))
          (fun l => M (ix3 5 b l)) (fun l => gq (ix2 0 l)) (fun k h => w1 (ix3 0 k h)) (fun h l => w2 (ix3 0 h l)) j := by
  rw [rowOut_eq, Cert.Proof.MlpRef.closing_apply]
  simp only [Cert.Proof.MlpRef.second_apply, Cert.Proof.MlpRef.acts_apply, Cert.Proof.MlpRef.hidden_apply]
  rfl

/-- From the same arguments the two programs leave the same result. -/
theorem algebraic : Cert.algebraic_MlpIdeal_MlpRefIdeal := by
  intro m ρ m' ρ' _ hagree
  refine ⟨fun c => ofBlocks c (tileV m c t0_0),
    (θ_run Cert.MlpIdeal.defs _ _).mono (fun r (h : QQ m r) c => ⟨(h.1 c).2, (h.1 c).1⟩) (run_main (F := Ideal) m ρ),
    (θ_run Cert.MlpRefIdeal.defs _ _).mono (fun r h c => ⟨(h c).1.trans ?_, (h c).2⟩) (Cert.MlpRefIdeal.Value.run (F := Ideal) m' ρ')⟩
  obtain ⟨e0, e1, e2, e3, e4, e5⟩ := hagree c
  rw [Cert.Proof.MlpRef.res_eq]
  funext y
  obtain ⟨b, s, j, rfl⟩ : ∃ (b : Fin 32) (s : Fin 2048) (j : Fin 1024), y = ix3 b s j := ⟨y 0, y 1, y 2, by funext a; fin_cases a <;> rfl⟩
  refine (reference_apply m' c _ _ _ _ _ _ b s j).trans ?_
  refine Eq.trans ?_ (kernel_apply m c b s j).symm
  rw [e0, e1, e2, e3, e4, e5]

end Cert.Proof.Mlp

end
-- ==== Proof.AdaValue.lean ====
/- The modulation call: what the kernel computes, what the reference computes, over the extended reals, and their frames. -/
module

public import proofs.«01_k».proof.Defs
public import proofs.«01_k».proof.Proof.Gen.Ada.Frame
public import proofs.«01_k».proof.Proof.Gen.AdaIdeal.Value
public import proofs.«01_k».proof.Proof.Gen.AdaRefIdeal.Run
public import Idealize.ShloMosaic.Lib.Pointwise

@[expose] public section

set_option maxRecDepth 16384

noncomputable section

namespace Cert.Proof.Ada

open Cert.AdaIdeal Cert.AdaIdeal.Gen
open Idealize.ShloMosaic Idealize.ShloMosaic.TcCoe Idealize.SL.Sem

/-- One element of the result: the conditioning row's SiLU against one column of the weights, and the bias. -/
def el (C W : Fin 1024 → EReal) (β : EReal) : EReal :=
  (∑ k, C k * Ideal.div (Ideal.ofBits .f32 0x3F800000#32) (Ideal.ofBits .f32 0x3F800000#32 + Ideal.exp (-(C k))) * W k) + β

/-- One grid point's product, element by element. -/
theorem pay1_apply (x : Vec Ideal S32x1024 .f32) (w : Vec Ideal S1024x2048 .f32) (β : Vec Ideal S1x2048 .f32) (b : Fin 32) (l : Fin 2048) :
    k0_pay1 x w β (ix2 b l) = el (fun k => x (ix2 b k)) (fun k => w (ix2 k l)) (β (ix2 0 l)) := by
  unfold k0_pay1 el
  pointwise
  rfl

end Cert.Proof.Ada
namespace Cert.Proof.AdaRef
open Cert.AdaRefIdeal Cert.AdaRefIdeal.Gen
open Idealize.ShloMosaic Idealize.ShloMosaic.TcCoe Idealize.SL.Sem

/-- The reference's product and bias. -/
def flat (x : FVec Ideal S32x1024 .f32) (w : FVec Ideal S1x1024x6144 .f32) (β : FVec Ideal S1x6144 .f32) : FVec Ideal S32x6144 .f32 :=
  addf (Host.dotGeneral dot_S32x1024_S1024x6144_S32x6144_1_0_0_1_n_n none (mulf x (Host.divf (broadcastInDim S32x1024 ![] bcast_S_S32x1024 (constant S_ .f32 0x3F800000#32)) (addf (broadcastInDim S32x1024 ![] bcast_S_S32x1024 (constant S_ .f32 0x3F800000#32)) (Host.exp (Host.negf x))))) (shapeCast _ w shapeCasts_S1x1024x6144_S1024x6144)) (broadcastInDim S32x6144 ![0, 1] bcast_S1x6144_S32x6144_0_1 (broadcastInDim S1x6144 ![1] bcast_S6144_S1x6144_1 (shapeCast _ β shapeCasts_S1x6144_S6144)))

theorem flat_apply (x : FVec Ideal S32x1024 .f32) (w : FVec Ideal S1x1024x6144 .f32) (β : FVec Ideal S1x6144 .f32) (b : Fin 32) (l : Fin 6144) :
    flat x w β (ix2 b l) = Ada.el (fun k => x (ix2 b k)) (fun k => w (ix3 0 k l)) (β (ix2 0 l)) := by
  unfold flat Ada.el
  pointwise

/-- The six slices of 1024 columns, one above the other. -/
def six (f : FVec Ideal S32x6144 .f32) : FVec Ideal S6x32x1024 .f32 :=
  concatenate S6x32x1024 0 [⟨S1x32x1024, broadcastInDim S1x32x1024 ![1, 2] bcast_S32x1024_S1x32x1024_1_2 (extractStridedSlice S32x1024 ![0, 0] f slices_S32x6144_S32x1024_0_0)⟩,
    ⟨S1x32x1024, broadcastInDim S1x32x1024 ![1, 2] bcast_S32x1024_S1x32x1024_1_2 (extractStridedSlice S32x1024 ![0, 1024] f slices_S32x6144_S32x1024_0_1024)⟩,
    ⟨S1x32x1024, broadcastInDim S1x32x1024 ![1, 2] bcast_S32x1024_S1x32x1024_1_2 (extractStridedSlice S32x1024 ![0, 2048] f slices_S32x6144_S32x1024_0_2048)⟩,
    ⟨S1x32x1024, broadcastInDim S1x32x1024 ![1, 2] bcast_S32x1024_S1x32x1024_1_2 (extractStridedSlice S32x1024 ![0, 3072] f slices_S32x6144_S32x1024_0_3072)⟩,
    ⟨S1x32x1024, broadcastInDim S1x32x1024 ![1, 2] bcast_S32x1024_S1x32x1024_1_2 (extractStridedSlice S32x1024 ![0, 4096] f slices_S32x6144_S32x1024_0_4096)⟩,
    ⟨S1x32x1024, broadcastInDim S1x32x1024 ![1, 2] bcast_S32x1024_S1x32x1024_1_2 (extractStridedSlice S32x1024 ![0, 5120] f slices_S32x6144_S32x1024_0_5120)⟩]
    concatenates_S1x32x1024_S1x32x1024_S1x32x1024_S1x32x1024_S1x32x1024_S1x32x1024_S6x32x1024_d0

theorem six_apply (f : FVec Ideal S32x6144 .f32) (p : Fin 6) (b : Fin 32) (j : Fin 1024) :
    six f (ix3 p b j) = f (ix2 b ⟨p.val * 1024 + j.val, by omega⟩) := by
  unfold six
  fin_cases p <;> pointwise

variable (m : (ℓ : Loc nD τ sig) → Buf (Elt Ideal) ℓ) (c : Dev nD)

theorem res_eq : Value.res_main_v19 m c = six (flat (m ((c.tc : Thread nD τ).loc main_arg0)) (m ((c.tc : Thread nD τ).loc main_arg1)) (m ((c.tc : Thread nD τ).loc main_arg2))) := rfl

end Cert.Proof.AdaRef
namespace Cert.Proof.Ada
open Cert.AdaIdeal Cert.AdaIdeal.Gen
open Idealize.ShloMosaic Idealize.ShloMosaic.TcCoe Idealize.SL.Sem
variable (m : (ℓ : Loc nD τ sig) → Buf (Elt Ideal) ℓ) (c : Dev nD)

theorem castw (w : FVec Ideal S1x1024x6144 .f32) (k : Fin 1024) (j : Fin 6144) :
    shapeCast S1024x6144 w shapeCasts_S1x1024x6144_S1024x6144 (ix2 k j) = w (ix3 0 k j) := by pointwise

theorem V_v0 (k : Fin 1024) (j : Fin 6144) : V m c main_v0 (ix2 k j) = m ((c : Thread nD τ).loc main_arg1) (ix3 0 k j) := by
  have h : V m c main_v0 = shapeCast S1024x6144 (m ((c : Thread nD τ).loc main_arg1)) shapeCasts_S1x1024x6144_S1024x6144 := by
    unfold V hostOps0
    after_results_simp
    rfl
  exact (congrFun h _).trans (castw _ k j)

/-- The grid's points run over pairs of rows. -/
theorem idx_three : ∀ t : Fin cfg0.N, win0_3.index t 0 = t.val ∧ win0_3.index t 1 = 0 ∧ win0_3.index t 2 = 0 := by decide +kernel
theorem idx_one : ∀ t : Fin cfg0.N, win0_1.index t 0 = 0 ∧ win0_1.index t 1 = t.val := by decide +kernel
theorem idx_two : ∀ t : Fin cfg0.N, win0_2.index t 0 = 0 ∧ win0_2.index t 1 = t.val := by decide +kernel

theorem iblk0 (t : Fin cfg0.N) (b : Fin 32) (k : Fin 1024) : View.ld (iblk m c 0 t) r0_0 (ix2 b k) = m ((c : Thread nD τ).loc main_arg0) (ix2 b k) := by
  refine (congrFun (V_main_arg0 m c) _).trans (congrArg (m ((c : Thread nD τ).loc main_arg0)) (funext fun a => Fin.ext ?_))
  fin_cases a
  · show 0 * 32 + 1 * (0 + 1 * b.val) = b.val; omega
  · show 0 * 1024 + 1 * (0 + 1 * k.val) = k.val; omega

theorem iblk1 (t : Fin cfg0.N) (k : Fin 1024) (l : Fin 2048) (L : Fin 6144) (hL : L.val = t.val * 2048 + l.val) :
    View.ld (iblk m c 1 t) r0_1 (ix2 k l) = m ((c : Thread nD τ).loc main_arg1) (ix3 0 k L) := by
  refine Eq.trans (congrArg (V m c main_v0) (funext fun a => Fin.ext ?_)) (V_v0 m c k L)
  have h := idx_one t
  fin_cases a
  · show win0_1.index t 0 * 1024 + 1 * (0 + 1 * k.val) = k.val; rw [h.1]; omega
  · show win0_1.index t 1 * 2048 + 1 * (0 + 1 * l.val) = L.val; rw [h.2]; omega

theorem iblk2 (t : Fin cfg0.N) (l : Fin 2048) (L : Fin 6144) (hL : L.val = t.val * 2048 + l.val) :
    View.ld (iblk m c 2 t) r0_2 (ix2 0 l) = m ((c : Thread nD τ).loc main_arg2) (ix2 0 L) := by
  refine (congrFun (V_main_arg2 m c) _).trans (congrArg (m ((c : Thread nD τ).loc main_arg2)) (funext fun a => Fin.ext ?_))
  have h := idx_two t
  fin_cases a
  · show win0_2.index t 0 * 1 + 1 * (0 + 1 * 0) = 0; rw [h.1]
  · show win0_2.index t 1 * 2048 + 1 * (0 + 1 * l.val) = L.val; rw [h.2]; omega

/-- The whole result, from the three arguments. -/
def G : Buf (Elt Ideal) ((c : Thread nD τ).loc main_v1) := fun (y : S6x32x1024.Idx) =>
  el (fun k => m ((c : Thread nD τ).loc main_arg0) (ix2 (y 1) k))
    (fun k => m ((c : Thread nD τ).loc main_arg1) (ix3 0 k ⟨(y 0).val * 1024 + (y 2).val, by have h0 : (y 0).val < 6 := (y 0).isLt; have h2 : (y 2).val < 1024 := (y 2).isLt; omega⟩))
    (m ((c : Thread nD τ).loc main_arg2) (ix2 0 ⟨(y 0).val * 1024 + (y 2).val, by have h0 : (y 0).val < 6 := (y 0).isLt; have h2 : (y 2).val < 1024 := (y 2).isLt; omega⟩))

/-- Where a grid point's block lies in the array. -/
theorem emb3 (t : Fin cfg0.N) (q : Fin 2) (b : Fin 32) (j : Fin 1024) (P : Fin 6) (hP : P.val = t.val * 2 + q.val) :
    ((cfg0.win 3).blk t).view.emb (ix3 q b j) = ix3 P b j := by
  have h := idx_three t
  refine funext fun a => Fin.ext ?_
  fin_cases a
  · show win0_3.index t 0 * 2 + 1 * q.val = P.val; rw [h.1]; omega
  · show win0_3.index t 1 * 32 + 1 * b.val = b.val; rw [h.2.1]; omega
  · show win0_3.index t 2 * 1024 + 1 * j.val = j.val; rw [h.2.2]; omega

theorem hG (t : Fin cfg0.N) (hf : (cfg0.win 3).flush t = true) :
    (dats m 0 c).flushed 3 t = ((cfg0.win 3).blk t).view.read (Elt Ideal) (G m c) := by
  rw [Value.flushed3]
  funext x
  obtain ⟨q, b, j, rfl⟩ : ∃ (q : Fin 2) (b : Fin 32) (j : Fin 1024), x = ix3 q b j := ⟨x 0, x 1, x 2, by funext a; fin_cases a <;> rfl⟩
  have ht : t.val < 3 := t.isLt
  have hq := q.isLt
  have hj := j.isLt
  refine (show _ = out0_3 (iblk m c 0 t) (iblk m c 1 t) (iblk m c 2 t) (ix3 q b j) from rfl).trans ?_
  unfold out0_3
  refine (Value.canon3_eq _ _ _ (ix3 q b j)).trans ?_
  have e : Value.ix3_0 (ix3 q b j) = ix2 b ⟨q.val * 1024 + j.val, by omega⟩ := by funext a; fin_cases a <;> rfl
  show k0_pay1 (View.ld (iblk m c 0 t) r0_0) (View.ld (iblk m c 1 t) r0_1) (View.ld (iblk m c 2 t) r0_2) (Value.ix3_0 (ix3 q b j)) = G m c (((cfg0.win 3).blk t).view.emb (ix3 q b j))
  rw [e, pay1_apply, emb3 t q b j ⟨t.val * 2 + q.val, by omega⟩ rfl]
  simp only [iblk0]
  simp only [fun k => iblk1 m c t k ⟨q.val * 1024 + j.val, by omega⟩ ⟨(t.val * 2 + q.val) * 1024 + j.val, by omega⟩ (by show (t.val * 2 + q.val) * 1024 + j.val = t.val * 2048 + (q.val * 1024 + j.val); omega),
    iblk2 m c t ⟨q.val * 1024 + j.val, by omega⟩ ⟨(t.val * 2 + q.val) * 1024 + j.val, by omega⟩ (by show (t.val * 2 + q.val) * 1024 + j.val = t.val * 2048 + (q.val * 1024 + j.val); omega)]
  rfl

theorem final : (dats m 0 c).arrAt 3 cfg0.N = G m c := by
  refine (dats m 0 c).arrAt_eq_of_cover 3 (G m c) (hG m c) fun i => ?_
  obtain ⟨p, b, j, rfl⟩ : ∃ (p : Fin 6) (b : Fin 32) (j : Fin 1024), i = ix3 p b j := ⟨i 0, i 1, i 2, by funext a; fin_cases a <;> rfl⟩
  have hp := p.isLt
  let t : Fin cfg0.N := ⟨p.val / 2, by show p.val / 2 < 3; omega⟩
  refine ⟨t, flush0_3 t, ?_⟩
  rw [← emb3 t ⟨p.val % 2, by omega⟩ b j p (by show p.val = p.val / 2 * 2 + p.val % 2; omega)]
  exact View.emb_mem_set _ _

/-- The two frames of the kernel, and the reference's. -/
theorem frame_kernel : Cert.quiescent_Ada := fun m ρ _ => Cert.Ada.Gen.frame m ρ
theorem frame_ideal : Cert.quiescent_AdaIdeal := fun m ρ _ => Cert.AdaIdeal.Gen.frame m ρ
theorem frame_reference : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- From the same arguments the two programs leave the same result. -/
theorem algebraic : Cert.algebraic_AdaIdeal_AdaRefIdeal := by
  intro m ρ m' ρ' _ hagree
  refine ⟨fun c => G m c,
    (θ_run Cert.AdaIdeal.defs _ _).mono (fun r h c => ⟨(h c).1.trans (final m c), (h c).2⟩) (Cert.AdaIdeal.Value.run_blocks (F := Ideal) m ρ),
    (θ_run Cert.AdaRefIdeal.defs _ _).mono (fun r h c => ⟨(h c).1.trans ?_, (h c).2⟩) (Cert.AdaRefIdeal.Value.run (F := Ideal) m' ρ')⟩
  obtain ⟨e0, e1, e2⟩ := hagree c
  rw [Cert.Proof.AdaRef.res_eq]
  funext y
  obtain ⟨p, b, j, rfl⟩ : ∃ (p : Fin 6) (b : Fin 32) (j : Fin 1024), y = ix3 p b j := ⟨y 0, y 1, y 2, by funext a; fin_cases a <;> rfl⟩
  refine ((Cert.Proof.AdaRef.six_apply _ p b j).trans (Cert.Proof.AdaRef.flat_apply _ _ _ b _)).trans ?_
  rw [e0, e1, e2]
  rfl

end Cert.Proof.Ada

end
-- ==== Proof.lean ====
module

public import proofs.«01_k».proof.Proof.Gen.Mixer
public import proofs.«01_k».proof.Proof.Gen.MixerIdeal
public import proofs.«01_k».proof.Proof.Gen.MixerIdeal.Frame
public import proofs.«01_k».proof.Proof.Gen.MixerIdeal.Skeleton
public import proofs.«01_k».proof.Proof.Gen.MixerIdeal.Loops
public import proofs.«01_k».proof.Proof.Gen.MixerRefIdeal
public import proofs.«01_k».proof.Proof.Gen.MixerRefIdeal.Run
public import proofs.«01_k».proof.Proof.MixerFrame
public import proofs.«01_k».proof.Defs
public import proofs.«01_k».proof.Proof.Gen.Mlp
public import proofs.«01_k».proof.Proof.Gen.MlpIdeal
public import proofs.«01_k».proof.Proof.Gen.MlpRefIdeal
public import proofs.«01_k».proof.Proof.Gen.MlpRefIdeal.Run
public import proofs.«01_k».proof.Proof.MlpFrame
public import proofs.«01_k».proof.Proof.MlpValue
public import proofs.«01_k».proof.Proof.AdaValue
public import proofs.«01_k».proof.Proof.Gen.Ada.Frame
public import proofs.«01_k».proof.Proof.Gen.AdaIdeal.Value
public import proofs.«01_k».proof.Proof.Gen.AdaRefIdeal.Run
public import Idealize.ShloMosaic.Adequacy
public import Idealize.ShloMosaic.Init

@[expose] public section

noncomputable section

namespace Cert.Proof

open Idealize.ShloMosaic Idealize.SL.Sem Cert.Mlp

/-- Everything that is claimed of the three calls. -/
theorem claim : Cert.Claim := ⟨Cert.Mixer.Gen.facts, Cert.MixerIdeal.Gen.facts, Cert.MixerRefIdeal.Gen.facts,
  Cert.Mlp.Gen.facts, Cert.MlpIdeal.Gen.facts, Cert.MlpRefIdeal.Gen.facts,
  Cert.Ada.Gen.facts, Cert.AdaIdeal.Gen.facts, Cert.AdaRefIdeal.Gen.facts,
  Mixer.frame_kernel, Mixer.frame_ideal, Mixer.frame_reference,
  Mlp.frame_kernel, Mlp.frame_ideal, Mlp.frame_reference, Ada.frame_kernel, Ada.frame_ideal, Ada.frame_reference,
  Mixer.preserves, trivial, Mlp.algebraic, trivial, Ada.algebraic⟩

end Cert.Proof

end
